-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2048x512 : Shape := ⟨2, ![2048, 512]⟩
abbrev S512x64 : Shape := ⟨2, ![512, 64]⟩
abbrev S2048x1 : Shape := ⟨2, ![2048, 1]⟩
abbrev S4x512x1024 : Shape := ⟨3, ![4, 512, 1024]⟩
abbrev S512x1024 : Shape := ⟨2, ![512, 1024]⟩
abbrev S_ : Shape := ⟨0, ![]⟩

class Facts : Prop where
  bcast_S_S2048x512 : S_.BroadcastsInDim S2048x512 (![] : Fin 0 → Fin S2048x512.rank)
  bcast_S_S512x64 : S_.BroadcastsInDim S512x64 (![] : Fin 0 → Fin S512x64.rank)

variable [Facts]

def fn {F : FTy → Type} [FloatOps F] (main_arg0 : FVec F S2048x512 .f32) (main_arg1 : FVec F S512x64 .f32) (main_arg2 : IVec S2048x1 32) (main_arg3 : FVec F S4x512x1024 .f32) (main_arg4 : FVec F S512x1024 .f32) : IVec S2048x512 1 × IVec S512x64 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : FVec F S512x64 .f32 := Host.absf main_arg1
  let main_cst_0 : FVec F S_ .f32 := constant S_ .f32 0x7F800000#32
  let main_v4 : FVec F S512x64 .f32 := broadcastInDim S512x64 ![] bcast_S_S512x64 main_cst_0
  let main_v5 : IVec S512x64 1 := cmpf .olt main_v3 main_v4
  (main_v2, main_v5)
-- ==== Pre_finite_ReferenceIdeal.lean ====
abbrev S2048x512 : Shape := ⟨2, ![2048, 512]⟩
abbrev S512x64 : Shape := ⟨2, ![512, 64]⟩
abbrev S2048x1 : Shape := ⟨2, ![2048, 1]⟩
abbrev S64x512x1024 : Shape := ⟨3, ![64, 512, 1024]⟩
abbrev S512x1024 : Shape := ⟨2, ![512, 1024]⟩
abbrev S_ : Shape := ⟨0, ![]⟩

class Facts : Prop where
  bcast_S_S2048x512 : S_.BroadcastsInDim S2048x512 (![] : Fin 0 → Fin S2048x512.rank)
  bcast_S_S512x64 : S_.BroadcastsInDim S512x64 (![] : Fin 0 → Fin S512x64.rank)

variable [Facts]

def fn {F : FTy → Type} [FloatOps F] (main_arg0 : FVec F S2048x512 .f32) (main_arg1 : FVec F S512x64 .f32) (main_arg2 : IVec S2048x1 32) (main_arg3 : FVec F S64x512x1024 .f32) (main_arg4 : FVec F S512x1024 .f32) : IVec S2048x512 1 × IVec S512x64 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : FVec F S512x64 .f32 := Host.absf main_arg1
  let main_cst_0 : FVec F S_ .f32 := constant S_ .f32 0x7F800000#32
  let main_v4 : FVec F S512x64 .f32 := broadcastInDim S512x64 ![] bcast_S_S512x64 main_cst_0
  let main_v5 : IVec S512x64 1 := cmpf .olt main_v3 main_v4
  (main_v2, main_v5)
-- ==== Kernel.lean ====
abbrev S2048x512 : Shape := ⟨2, ![2048, 512]⟩
abbrev S512x64 : Shape := ⟨2, ![512, 64]⟩
abbrev S2048x1 : Shape := ⟨2, ![2048, 1]⟩
abbrev S4x512x1024 : Shape := ⟨3, ![4, 512, 1024]⟩
abbrev S512x1024 : Shape := ⟨2, ![512, 1024]⟩
abbrev S2048x1024 : Shape := ⟨2, ![2048, 1024]⟩
abbrev S2048x64 : Shape := ⟨2, ![2048, 64]⟩
abbrev S8x128x512 : Shape := ⟨3, ![8, 128, 512]⟩
abbrev S7x128x512 : Shape := ⟨3, ![7, 128, 512]⟩
abbrev S8 : Shape := ⟨1, ![8]⟩
abbrev S7 : Shape := ⟨1, ![7]⟩
abbrev S_ : Shape := ⟨0, ![]⟩
abbrev S2048 : Shape := ⟨1, ![2048]⟩
abbrev S128x64 : Shape := ⟨2, ![128, 64]⟩
abbrev S128x512 : Shape := ⟨2, ![128, 512]⟩
abbrev S128x1 : Shape := ⟨2, ![128, 1]⟩
abbrev S128 : Shape := ⟨1, ![128]⟩
abbrev S128x2048 : Shape := ⟨2, ![128, 2048]⟩
abbrev S4x512x512 : Shape := ⟨3, ![4, 512, 512]⟩
abbrev S512x512 : Shape := ⟨2, ![512, 512]⟩
abbrev S1 : Shape := ⟨1, ![1]⟩
abbrev S1x128x512 : Shape := ⟨3, ![1, 128, 512]⟩

abbrev nBuf : Space → Nat
  | .hbm => 6
  | .vmem => 13
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x1, .i32⟩
  | .hbm, ⟨3, _⟩ => ⟨S4x512x1024, .f32⟩
  | .hbm, ⟨4, _⟩ => ⟨S512x1024, .f32⟩
  | .hbm, ⟨5, _⟩ => ⟨S2048x1024, .f32⟩
  | .local _ .vmem, ⟨0, _⟩ => ⟨S2048x512, .f32⟩
  | .local _ .vmem, ⟨1, _⟩ => ⟨S512x64, .f32⟩
  | .local _ .vmem, ⟨2, _⟩ => ⟨S2048x1, .i32⟩
  | .local _ .vmem, ⟨3, _⟩ => ⟨S4x512x1024, .f32⟩
  | .local _ .vmem, ⟨4, _⟩ => ⟨S512x1024, .f32⟩
  | .local _ .vmem, ⟨5, _⟩ => ⟨S2048x1024, .f32⟩
  | .local _ .vmem, ⟨6, _⟩ => ⟨S2048x1024, .bf16⟩
  | .local _ .vmem, ⟨7, _⟩ => ⟨S2048x64, .f32⟩
  | .local _ .vmem, ⟨8, _⟩ => ⟨S2048x1024, .bf16⟩
  | .local _ .vmem, ⟨9, _⟩ => ⟨S8x128x512, .bf16⟩
  | .local _ .vmem, ⟨10, _⟩ => ⟨S7x128x512, .bf16⟩
  | .local _ .vmem, ⟨11, _⟩ => ⟨S8x128x512, .bf16⟩
  | .local _ .vmem, ⟨12, _⟩ => ⟨S7x128x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 126 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | _ => false

abbrev sig : RefSig :=
  (ofTc nBuf bufTy 1 126 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) (c9_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v31 : BitVec 32 := Scalar.addi v2 c9_i32
  let c16_i32_17 : BitVec 32 := 16#32
  let v32 : BitVec 32 := Scalar.remsi v31 c16_i32_17
  let c128_i32 : BitVec 32 := 128#32
  let v33 : BitVec 32 := Scalar.muli v32 c128_i32
  let v34 : Index := Scalar.indexCast v33
  let c0_18 : Index := 0#32
  ![v34.toNat, 0]
def k0_off1_at (r : Fin 3) : BitVec 32 :=
  if r.val < 1 then
    9#32
  else
    if r.val < 2 then
      6#32
    else
      1#32
def k0_off2 (d0 : Dev nD) (c9_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v31 : BitVec 32 := Scalar.addi v2 c9_i32
  let c16_i32_17 : BitVec 32 := 16#32
  let v32 : BitVec 32 := Scalar.remsi v31 c16_i32_17
  let c128_i32 : BitVec 32 := 128#32
  let v33 : BitVec 32 := Scalar.muli v32 c128_i32
  let v37 : Index := Scalar.indexCast v33
  let c0_19 : Index := 0#32
  ![v37.toNat, 0]
def k0_off2_at (r : Fin 3) : BitVec 32 :=
  if r.val < 1 then
    9#32
  else
    if r.val < 2 then
      6#32
    else
      1#32
def k0_off3 (d0 : Dev nD) (c9_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v31 : BitVec 32 := Scalar.addi v2 c9_i32
  let c16_i32_17 : BitVec 32 := 16#32
  let v32 : BitVec 32 := Scalar.remsi v31 c16_i32_17
  let c128_i32 : BitVec 32 := 128#32
  let v33 : BitVec 32 := Scalar.muli v32 c128_i32
  let v40 : Index := Scalar.indexCast v33
  let c0_20 : Index := 0#32
  ![v40.toNat, 0]
def k0_off3_at (r : Fin 3) : BitVec 32 :=
  if r.val < 1 then
    9#32
  else
    if r.val < 2 then
      6#32
    else
      1#32
def k0_off4 (d0 : Dev nD) (c9_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v31 : BitVec 32 := Scalar.addi v2 c9_i32
  let c16_i32_17 : BitVec 32 := 16#32
  let v32 : BitVec 32 := Scalar.remsi v31 c16_i32_17
  let c128_i32 : BitVec 32 := 128#32
  let v33 : BitVec 32 := Scalar.muli v32 c128_i32
  let v104 : Index := Scalar.indexCast v33
  let c0_43 : Index := 0#32
  ![v104.toNat, 0]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_44 : BitVec 32 := 0#32
  let v108 : BitVec 1 := Scalar.cmpi .eq v2 c0_i32_44
  let v109 : BitVec 32 := Scalar.extui v108
  let c0_i32_45 : BitVec 32 := 0#32
  let v110 : BitVec 1 := Scalar.cmpi .ne v109 c0_i32_45
  v110

def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v31 : BitVec 32 := Scalar.addi v2 c9_i32
  let c16_i32_17 : BitVec 32 := 16#32
  let v32 : BitVec 32 := Scalar.remsi v31 c16_i32_17
  let c128_i32 : BitVec 32 := 128#32
  let v33 : BitVec 32 := Scalar.muli v32 c128_i32
  let v4740 : Index := Scalar.indexCast v33
  let c0_3183 : Index := 0#32
  ![v4740.toNat, 0]
def k0_off6 (d0 : Dev nD) (c6_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v111 : BitVec 32 := Scalar.subi v2 c6_i32
  let c16_i32_46 : BitVec 32 := 16#32
  let v112 : BitVec 32 := Scalar.addi v111 c16_i32_46
  let c16_i32_47 : BitVec 32 := 16#32
  let v113 : BitVec 32 := Scalar.remsi v112 c16_i32_47
  let c128_i32_48 : BitVec 32 := 128#32
  let v114 : BitVec 32 := Scalar.muli v113 c128_i32_48
  let v115 : Index := Scalar.indexCast v114
  let c0_49 : Index := 0#32
  ![v115.toNat, 0]
def k0_off7 (d0 : Dev nD) (c6_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v111 : BitVec 32 := Scalar.subi v2 c6_i32
  let c16_i32_46 : BitVec 32 := 16#32
  let v112 : BitVec 32 := Scalar.addi v111 c16_i32_46
  let c16_i32_47 : BitVec 32 := 16#32
  let v113 : BitVec 32 := Scalar.remsi v112 c16_i32_47
  let c128_i32_48 : BitVec 32 := 128#32
  let v114 : BitVec 32 := Scalar.muli v113 c128_i32_48
  let v118 : Index := Scalar.indexCast v114
  let c0_50 : Index := 0#32
  ![v118.toNat, 0]
def k0_off8 (d0 : Dev nD) (c6_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v111 : BitVec 32 := Scalar.subi v2 c6_i32
  let c16_i32_46 : BitVec 32 := 16#32
  let v112 : BitVec 32 := Scalar.addi v111 c16_i32_46
  let c16_i32_47 : BitVec 32 := 16#32
  let v113 : BitVec 32 := Scalar.remsi v112 c16_i32_47
  let c128_i32_48 : BitVec 32 := 128#32
  let v114 : BitVec 32 := Scalar.muli v113 c128_i32_48
  let v121 : Index := Scalar.indexCast v114
  let c0_51 : Index := 0#32
  ![v121.toNat, 0]
def k0_off9 (d0 : Dev nD) (c6_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v111 : BitVec 32 := Scalar.subi v2 c6_i32
  let c16_i32_46 : BitVec 32 := 16#32
  let v112 : BitVec 32 := Scalar.addi v111 c16_i32_46
  let c16_i32_47 : BitVec 32 := 16#32
  let v113 : BitVec 32 := Scalar.remsi v112 c16_i32_47
  let c128_i32_48 : BitVec 32 := 128#32
  let v114 : BitVec 32 := Scalar.muli v113 c128_i32_48
  let v185 : Index := Scalar.indexCast v114
  let c0_76 : Index := 0#32
  ![v185.toNat, 0]
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_77 : BitVec 32 := 0#32
  let v189 : BitVec 1 := Scalar.cmpi .eq v2 c0_i32_77
  let v190 : BitVec 32 := Scalar.extui v189
  let c0_i32_78 : BitVec 32 := 0#32
  let v191 : BitVec 1 := Scalar.cmpi .ne v190 c0_i32_78
  v191

def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v111 : BitVec 32 := Scalar.subi v2 c6_i32
  let c16_i32_46 : BitVec 32 := 16#32
  let v112 : BitVec 32 := Scalar.addi v111 c16_i32_46
  let c16_i32_47 : BitVec 32 := 16#32
  let v113 : BitVec 32 := Scalar.remsi v112 c16_i32_47
  let c128_i32_48 : BitVec 32 := 128#32
  let v114 : BitVec 32 := Scalar.muli v113 c128_i32_48
  let v4740 : Index := Scalar.indexCast v114
  let c0_3183 : Index := 0#32
  ![v4740.toNat, 0]
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_79 : BitVec 32 := 9#32
  let v192 : BitVec 32 := Scalar.subi v2 c9_i32_79
  let c16_i32_80 : BitVec 32 := 16#32
  let v193 : BitVec 32 := Scalar.addi v192 c16_i32_80
  let c16_i32_81 : BitVec 32 := 16#32
  let v194 : BitVec 32 := Scalar.remsi v193 c16_i32_81
  let c128_i32_82 : BitVec 32 := 128#32
  let v195 : BitVec 32 := Scalar.muli v194 c128_i32_82
  let v266 : Index := Scalar.indexCast v195
  let c512_109 : Index := 512#32
  ![v266.toNat, 512]
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_110 : BitVec 32 := 0#32
  let v270 : BitVec 1 := Scalar.cmpi .eq v2 c0_i32_110
  let v271 : BitVec 32 := Scalar.extui v270
  let c0_i32_111 : BitVec 32 := 0#32
  let v272 : BitVec 1 := Scalar.cmpi .ne v271 c0_i32_111
  v272

def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_79 : BitVec 32 := 9#32
  let v192 : BitVec 32 := Scalar.subi v2 c9_i32_79
  let c16_i32_80 : BitVec 32 := 16#32
  let v193 : BitVec 32 := Scalar.addi v192 c16_i32_80
  let c16_i32_81 : BitVec 32 := 16#32
  let v194 : BitVec 32 := Scalar.remsi v193 c16_i32_81
  let c128_i32_82 : BitVec 32 := 128#32
  let v195 : BitVec 32 := Scalar.muli v194 c128_i32_82
  let v4740 : Index := Scalar.indexCast v195
  let c512_3183 : Index := 512#32
  ![v4740.toNat, 512]
def k0_off13 (d0 : Dev nD) (c6_i32_112 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v273 : BitVec 32 := Scalar.addi v2 c6_i32_112
  let c16_i32_113 : BitVec 32 := 16#32
  let v274 : BitVec 32 := Scalar.remsi v273 c16_i32_113
  let c128_i32_114 : BitVec 32 := 128#32
  let v275 : BitVec 32 := Scalar.muli v274 c128_i32_114
  let v346 : Index := Scalar.indexCast v275
  let c512_142 : Index := 512#32
  ![v346.toNat, 512]
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_143 : BitVec 32 := 0#32
  let v350 : BitVec 1 := Scalar.cmpi .eq v2 c0_i32_143
  let v351 : BitVec 32 := Scalar.extui v350
  let c0_i32_144 : BitVec 32 := 0#32
  let v352 : BitVec 1 := Scalar.cmpi .ne v351 c0_i32_144
  v352

def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_112 : BitVec 32 := 6#32
  let v273 : BitVec 32 := Scalar.addi v2 c6_i32_112
  let c16_i32_113 : BitVec 32 := 16#32
  let v274 : BitVec 32 := Scalar.remsi v273 c16_i32_113
  let c128_i32_114 : BitVec 32 := 128#32
  let v275 : BitVec 32 := Scalar.muli v274 c128_i32_114
  let v4740 : Index := Scalar.indexCast v275
  let c512_3183 : Index := 512#32
  ![v4740.toNat, 512]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_145 : BitVec 32 := 9#32
  let v353 : BitVec 32 := Scalar.addi v2 c9_i32_145
  let c0_i32_146 : BitVec 32 := 0#32
  let v354 : BitVec 32 := Scalar.subi v353 c0_i32_146
  let c16_i32_147 : BitVec 32 := 16#32
  let v355 : BitVec 32 := Scalar.addi v354 c16_i32_147
  let c16_i32_148 : BitVec 32 := 16#32
  let v356 : BitVec 32 := Scalar.remsi v355 c16_i32_148
  let c128_i32_153 : BitVec 32 := 128#32
  let v361 : BitVec 32 := Scalar.muli v356 c128_i32_153
  let c0_i32_172 : BitVec 32 := 0#32
  ![v361.toNat, 0]
def k0_dev3 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_168 : BitVec 32 := 1#32
  let v373 : BitVec 32 := Scalar.muli v7 c1_i32_168
  let v374 : BitVec 32 := Scalar.addi c0_i32_169 v373
  v374.toNat
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_149 : BitVec 32 := 9#32
  let v357 : BitVec 32 := Scalar.subi v2 c9_i32_149
  let c0_i32_150 : BitVec 32 := 0#32
  let v358 : BitVec 32 := Scalar.addi v357 c0_i32_150
  let c16_i32_151 : BitVec 32 := 16#32
  let v359 : BitVec 32 := Scalar.addi v358 c16_i32_151
  let c16_i32_152 : BitVec 32 := 16#32
  let v360 : BitVec 32 := Scalar.remsi v359 c16_i32_152
  let c128_i32_154 : BitVec 32 := 128#32
  let v362 : BitVec 32 := Scalar.muli v360 c128_i32_154
  let c512_i32 : BitVec 32 := 512#32
  ![v362.toNat, 512]
def k0_dev4 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_176 : BitVec 32 := 1#32
  let v382 : BitVec 32 := Scalar.muli v5 c1_i32_176
  let v383 : BitVec 32 := Scalar.addi c0_i32_177 v382
  v383.toNat
def k0_off17 (d0 : Dev nD) (c6_i32_155 : BitVec 32) (c0_i32_156 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v363 : BitVec 32 := Scalar.subi v2 c6_i32_155
  let v364 : BitVec 32 := Scalar.addi v363 c0_i32_156
  let c16_i32_157 : BitVec 32 := 16#32
  let v365 : BitVec 32 := Scalar.addi v364 c16_i32_157
  let c16_i32_158 : BitVec 32 := 16#32
  let v366 : BitVec 32 := Scalar.remsi v365 c16_i32_158
  let c128_i32_163 : BitVec 32 := 128#32
  let v371 : BitVec 32 := Scalar.muli v366 c128_i32_163
  let c0_i32_187 : BitVec 32 := 0#32
  ![v371.toNat, 0]
def k0_off17_at (r : Fin 9) : BitVec 32 × BitVec 32 :=
  if r.val < 4 then
    if r.val < 2 then
      if r.val < 1 then
        (6#32, 0#32)
      else
        (0#32, 1#32)
    else
      if r.val < 3 then
        (1#32, 1#32)
      else
        (2#32, 1#32)
  else
    if r.val < 6 then
      if r.val < 5 then
        (3#32, 1#32)
      else
        (4#32, 1#32)
    else
      if r.val < 7 then
        (5#32, 1#32)
      else
        if r.val < 8 then
          (6#32, 1#32)
        else
          (7#32, 1#32)
def k0_dev5 (d0 : Dev nD) : Nat :=
  let c0_i32_184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_183 : BitVec 32 := 1#32
  let v391 : BitVec 32 := Scalar.muli v5 c1_i32_183
  let v392 : BitVec 32 := Scalar.addi c0_i32_184 v391
  v392.toNat
def k0_off18 (d0 : Dev nD) (c6_i32_159 : BitVec 32) (c0_i32_160 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v367 : BitVec 32 := Scalar.addi v2 c6_i32_159
  let v368 : BitVec 32 := Scalar.subi v367 c0_i32_160
  let c16_i32_161 : BitVec 32 := 16#32
  let v369 : BitVec 32 := Scalar.addi v368 c16_i32_161
  let c16_i32_162 : BitVec 32 := 16#32
  let v370 : BitVec 32 := Scalar.remsi v369 c16_i32_162
  let c128_i32_164 : BitVec 32 := 128#32
  let v372 : BitVec 32 := Scalar.muli v370 c128_i32_164
  let c512_i32_195 : BitVec 32 := 512#32
  ![v372.toNat, 512]
def k0_off18_at (r : Fin 9) : BitVec 32 × BitVec 32 :=
  if r.val < 4 then
    if r.val < 2 then
      if r.val < 1 then
        (6#32, 0#32)
      else
        (0#32, 1#32)
    else
      if r.val < 3 then
        (1#32, 1#32)
      else
        (2#32, 1#32)
  else
    if r.val < 6 then
      if r.val < 5 then
        (3#32, 1#32)
      else
        (4#32, 1#32)
    else
      if r.val < 7 then
        (5#32, 1#32)
      else
        if r.val < 8 then
          (6#32, 1#32)
        else
          (7#32, 1#32)
def k0_dev6 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_191 : BitVec 32 := 1#32
  let v400 : BitVec 32 := Scalar.muli v7 c1_i32_191
  let v401 : BitVec 32 := Scalar.addi c0_i32_192 v400
  v401.toNat
def k0_off19 (d0 : Dev nD) (c9_i32_196 : BitVec 32) (c1_i32_197 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v409 : BitVec 32 := Scalar.addi v2 c9_i32_196
  let v410 : BitVec 32 := Scalar.subi v409 c1_i32_197
  let c16_i32_198 : BitVec 32 := 16#32
  let v411 : BitVec 32 := Scalar.addi v410 c16_i32_198
  let c16_i32_199 : BitVec 32 := 16#32
  let v412 : BitVec 32 := Scalar.remsi v411 c16_i32_199
  let c128_i32_200 : BitVec 32 := 128#32
  let v413 : BitVec 32 := Scalar.muli v412 c128_i32_200
  let v414 : Index := Scalar.indexCast v413
  let c0_201 : Index := 0#32
  ![v414.toNat, 0]
def k0_off19_at (r : Fin 13) : BitVec 32 × BitVec 32 :=
  if r.val < 6 then
    if r.val < 3 then
      if r.val < 1 then
        (9#32, 1#32)
      else
        if r.val < 2 then
          (6#32, 1#32)
        else
          (9#32, 2#32)
    else
      if r.val < 4 then
        (6#32, 2#32)
      else
        if r.val < 5 then
          (9#32, 3#32)
        else
          (6#32, 3#32)
  else
    if r.val < 9 then
      if r.val < 7 then
        (9#32, 4#32)
      else
        if r.val < 8 then
          (6#32, 4#32)
        else
          (9#32, 5#32)
    else
      if r.val < 11 then
        if r.val < 10 then
          (6#32, 5#32)
        else
          (9#32, 6#32)
      else
        if r.val < 12 then
          (6#32, 6#32)
        else
          (9#32, 7#32)
def k0_off20 (d0 : Dev nD) (c9_i32_196 : BitVec 32) (c1_i32_197 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v409 : BitVec 32 := Scalar.addi v2 c9_i32_196
  let v410 : BitVec 32 := Scalar.subi v409 c1_i32_197
  let c16_i32_198 : BitVec 32 := 16#32
  let v411 : BitVec 32 := Scalar.addi v410 c16_i32_198
  let c16_i32_199 : BitVec 32 := 16#32
  let v412 : BitVec 32 := Scalar.remsi v411 c16_i32_199
  let c128_i32_200 : BitVec 32 := 128#32
  let v413 : BitVec 32 := Scalar.muli v412 c128_i32_200
  let v417 : Index := Scalar.indexCast v413
  let c0_202 : Index := 0#32
  ![v417.toNat, 0]
def k0_off20_at (r : Fin 13) : BitVec 32 × BitVec 32 :=
  if r.val < 6 then
    if r.val < 3 then
      if r.val < 1 then
        (9#32, 1#32)
      else
        if r.val < 2 then
          (6#32, 1#32)
        else
          (9#32, 2#32)
    else
      if r.val < 4 then
        (6#32, 2#32)
      else
        if r.val < 5 then
          (9#32, 3#32)
        else
          (6#32, 3#32)
  else
    if r.val < 9 then
      if r.val < 7 then
        (9#32, 4#32)
      else
        if r.val < 8 then
          (6#32, 4#32)
        else
          (9#32, 5#32)
    else
      if r.val < 11 then
        if r.val < 10 then
          (6#32, 5#32)
        else
          (9#32, 6#32)
      else
        if r.val < 12 then
          (6#32, 6#32)
        else
          (9#32, 7#32)
def k0_off21 (d0 : Dev nD) (c9_i32_196 : BitVec 32) (c1_i32_197 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v409 : BitVec 32 := Scalar.addi v2 c9_i32_196
  let v410 : BitVec 32 := Scalar.subi v409 c1_i32_197
  let c16_i32_198 : BitVec 32 := 16#32
  let v411 : BitVec 32 := Scalar.addi v410 c16_i32_198
  let c16_i32_199 : BitVec 32 := 16#32
  let v412 : BitVec 32 := Scalar.remsi v411 c16_i32_199
  let c128_i32_200 : BitVec 32 := 128#32
  let v413 : BitVec 32 := Scalar.muli v412 c128_i32_200
  let v420 : Index := Scalar.indexCast v413
  let c0_203 : Index := 0#32
  ![v420.toNat, 0]
def k0_off21_at (r : Fin 13) : BitVec 32 × BitVec 32 :=
  if r.val < 6 then
    if r.val < 3 then
      if r.val < 1 then
        (9#32, 1#32)
      else
        if r.val < 2 then
          (6#32, 1#32)
        else
          (9#32, 2#32)
    else
      if r.val < 4 then
        (6#32, 2#32)
      else
        if r.val < 5 then
          (9#32, 3#32)
        else
          (6#32, 3#32)
  else
    if r.val < 9 then
      if r.val < 7 then
        (9#32, 4#32)
      else
        if r.val < 8 then
          (6#32, 4#32)
        else
          (9#32, 5#32)
    else
      if r.val < 11 then
        if r.val < 10 then
          (6#32, 5#32)
        else
          (9#32, 6#32)
      else
        if r.val < 12 then
          (6#32, 6#32)
        else
          (9#32, 7#32)
def k0_off22 (d0 : Dev nD) (c1_i32_197 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_196 : BitVec 32 := 9#32
  let v409 : BitVec 32 := Scalar.addi v2 c9_i32_196
  let v410 : BitVec 32 := Scalar.subi v409 c1_i32_197
  let c16_i32_198 : BitVec 32 := 16#32
  let v411 : BitVec 32 := Scalar.addi v410 c16_i32_198
  let c16_i32_199 : BitVec 32 := 16#32
  let v412 : BitVec 32 := Scalar.remsi v411 c16_i32_199
  let c128_i32_200 : BitVec 32 := 128#32
  let v413 : BitVec 32 := Scalar.muli v412 c128_i32_200
  let v484 : Index := Scalar.indexCast v413
  let c0_228 : Index := 0#32
  ![v484.toNat, 0]
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_229 : BitVec 32 := 0#32
  let v488 : BitVec 1 := Scalar.cmpi .eq v2 c0_i32_229
  let v489 : BitVec 32 := Scalar.extui v488
  let c0_i32_230 : BitVec 32 := 0#32
  let v490 : BitVec 1 := Scalar.cmpi .ne v489 c0_i32_230
  v490

def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_196 : BitVec 32 := 9#32
  let v409 : BitVec 32 := Scalar.addi v2 c9_i32_196
  let c1_i32_197 : BitVec 32 := 1#32
  let v410 : BitVec 32 := Scalar.subi v409 c1_i32_197
  let c16_i32_198 : BitVec 32 := 16#32
  let v411 : BitVec 32 := Scalar.addi v410 c16_i32_198
  let c16_i32_199 : BitVec 32 := 16#32
  let v412 : BitVec 32 := Scalar.remsi v411 c16_i32_199
  let c128_i32_200 : BitVec 32 := 128#32
  let v413 : BitVec 32 := Scalar.muli v412 c128_i32_200
  let v4740 : Index := Scalar.indexCast v413
  let c0_3183 : Index := 0#32
  ![v4740.toNat, 0]
def k0_off24 (d0 : Dev nD) (c9_i32_231 : BitVec 32) (c1_i32_232 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v491 : BitVec 32 := Scalar.subi v2 c9_i32_231
  let v492 : BitVec 32 := Scalar.addi v491 c1_i32_232
  let c16_i32_233 : BitVec 32 := 16#32
  let v493 : BitVec 32 := Scalar.addi v492 c16_i32_233
  let c16_i32_234 : BitVec 32 := 16#32
  let v494 : BitVec 32 := Scalar.remsi v493 c16_i32_234
  let c128_i32_235 : BitVec 32 := 128#32
  let v495 : BitVec 32 := Scalar.muli v494 c128_i32_235
  let v496 : Index := Scalar.indexCast v495
  let c0_236 : Index := 0#32
  ![v496.toNat, 0]
def k0_off24_at (r : Fin 13) : BitVec 32 × BitVec 32 :=
  if r.val < 6 then
    if r.val < 3 then
      if r.val < 1 then
        (9#32, 1#32)
      else
        if r.val < 2 then
          (6#32, 1#32)
        else
          (9#32, 2#32)
    else
      if r.val < 4 then
        (6#32, 2#32)
      else
        if r.val < 5 then
          (9#32, 3#32)
        else
          (6#32, 3#32)
  else
    if r.val < 9 then
      if r.val < 7 then
        (9#32, 4#32)
      else
        if r.val < 8 then
          (6#32, 4#32)
        else
          (9#32, 5#32)
    else
      if r.val < 11 then
        if r.val < 10 then
          (6#32, 5#32)
        else
          (9#32, 6#32)
      else
        if r.val < 12 then
          (6#32, 6#32)
        else
          (9#32, 7#32)
def k0_off25 (d0 : Dev nD) (c9_i32_231 : BitVec 32) (c1_i32_232 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v491 : BitVec 32 := Scalar.subi v2 c9_i32_231
  let v492 : BitVec 32 := Scalar.addi v491 c1_i32_232
  let c16_i32_233 : BitVec 32 := 16#32
  let v493 : BitVec 32 := Scalar.addi v492 c16_i32_233
  let c16_i32_234 : BitVec 32 := 16#32
  let v494 : BitVec 32 := Scalar.remsi v493 c16_i32_234
  let c128_i32_235 : BitVec 32 := 128#32
  let v495 : BitVec 32 := Scalar.muli v494 c128_i32_235
  let v499 : Index := Scalar.indexCast v495
  let c0_237 : Index := 0#32
  ![v499.toNat, 0]
def k0_off25_at (r : Fin 13) : BitVec 32 × BitVec 32 :=
  if r.val < 6 then
    if r.val < 3 then
      if r.val < 1 then
        (9#32, 1#32)
      else
        if r.val < 2 then
          (6#32, 1#32)
        else
          (9#32, 2#32)
    else
      if r.val < 4 then
        (6#32, 2#32)
      else
        if r.val < 5 then
          (9#32, 3#32)
        else
          (6#32, 3#32)
  else
    if r.val < 9 then
      if r.val < 7 then
        (9#32, 4#32)
      else
        if r.val < 8 then
          (6#32, 4#32)
        else
          (9#32, 5#32)
    else
      if r.val < 11 then
        if r.val < 10 then
          (6#32, 5#32)
        else
          (9#32, 6#32)
      else
        if r.val < 12 then
          (6#32, 6#32)
        else
          (9#32, 7#32)
def k0_off26 (d0 : Dev nD) (c9_i32_231 : BitVec 32) (c1_i32_232 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v491 : BitVec 32 := Scalar.subi v2 c9_i32_231
  let v492 : BitVec 32 := Scalar.addi v491 c1_i32_232
  let c16_i32_233 : BitVec 32 := 16#32
  let v493 : BitVec 32 := Scalar.addi v492 c16_i32_233
  let c16_i32_234 : BitVec 32 := 16#32
  let v494 : BitVec 32 := Scalar.remsi v493 c16_i32_234
  let c128_i32_235 : BitVec 32 := 128#32
  let v495 : BitVec 32 := Scalar.muli v494 c128_i32_235
  let v502 : Index := Scalar.indexCast v495
  let c0_238 : Index := 0#32
  ![v502.toNat, 0]
def k0_off26_at (r : Fin 13) : BitVec 32 × BitVec 32 :=
  if r.val < 6 then
    if r.val < 3 then
      if r.val < 1 then
        (9#32, 1#32)
      else
        if r.val < 2 then
          (6#32, 1#32)
        else
          (9#32, 2#32)
    else
      if r.val < 4 then
        (6#32, 2#32)
      else
        if r.val < 5 then
          (9#32, 3#32)
        else
          (6#32, 3#32)
  else
    if r.val < 9 then
      if r.val < 7 then
        (9#32, 4#32)
      else
        if r.val < 8 then
          (6#32, 4#32)
        else
          (9#32, 5#32)
    else
      if r.val < 11 then
        if r.val < 10 then
          (6#32, 5#32)
        else
          (9#32, 6#32)
      else
        if r.val < 12 then
          (6#32, 6#32)
        else
          (9#32, 7#32)
def k0_off27 (d0 : Dev nD) (c1_i32_232 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_231 : BitVec 32 := 9#32
  let v491 : BitVec 32 := Scalar.subi v2 c9_i32_231
  let v492 : BitVec 32 := Scalar.addi v491 c1_i32_232
  let c16_i32_233 : BitVec 32 := 16#32
  let v493 : BitVec 32 := Scalar.addi v492 c16_i32_233
  let c16_i32_234 : BitVec 32 := 16#32
  let v494 : BitVec 32 := Scalar.remsi v493 c16_i32_234
  let c128_i32_235 : BitVec 32 := 128#32
  let v495 : BitVec 32 := Scalar.muli v494 c128_i32_235
  let v566 : Index := Scalar.indexCast v495
  let c512_263 : Index := 512#32
  ![v566.toNat, 512]
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_264 : BitVec 32 := 0#32
  let v570 : BitVec 1 := Scalar.cmpi .eq v2 c0_i32_264
  let v571 : BitVec 32 := Scalar.extui v570
  let c0_i32_265 : BitVec 32 := 0#32
  let v572 : BitVec 1 := Scalar.cmpi .ne v571 c0_i32_265
  v572

def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_231 : BitVec 32 := 9#32
  let v491 : BitVec 32 := Scalar.subi v2 c9_i32_231
  let c1_i32_232 : BitVec 32 := 1#32
  let v492 : BitVec 32 := Scalar.addi v491 c1_i32_232
  let c16_i32_233 : BitVec 32 := 16#32
  let v493 : BitVec 32 := Scalar.addi v492 c16_i32_233
  let c16_i32_234 : BitVec 32 := 16#32
  let v494 : BitVec 32 := Scalar.remsi v493 c16_i32_234
  let c128_i32_235 : BitVec 32 := 128#32
  let v495 : BitVec 32 := Scalar.muli v494 c128_i32_235
  let v4740 : Index := Scalar.indexCast v495
  let c512_3183 : Index := 512#32
  ![v4740.toNat, 512]
def k0_off29 (d0 : Dev nD) (c1_i32_267 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_266 : BitVec 32 := 6#32
  let v573 : BitVec 32 := Scalar.subi v2 c6_i32_266
  let v574 : BitVec 32 := Scalar.addi v573 c1_i32_267
  let c16_i32_268 : BitVec 32 := 16#32
  let v575 : BitVec 32 := Scalar.addi v574 c16_i32_268
  let c16_i32_269 : BitVec 32 := 16#32
  let v576 : BitVec 32 := Scalar.remsi v575 c16_i32_269
  let c128_i32_270 : BitVec 32 := 128#32
  let v577 : BitVec 32 := Scalar.muli v576 c128_i32_270
  let v648 : Index := Scalar.indexCast v577
  let c0_298 : Index := 0#32
  ![v648.toNat, 0]
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_299 : BitVec 32 := 0#32
  let v652 : BitVec 1 := Scalar.cmpi .eq v2 c0_i32_299
  let v653 : BitVec 32 := Scalar.extui v652
  let c0_i32_300 : BitVec 32 := 0#32
  let v654 : BitVec 1 := Scalar.cmpi .ne v653 c0_i32_300
  v654

def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_266 : BitVec 32 := 6#32
  let v573 : BitVec 32 := Scalar.subi v2 c6_i32_266
  let c1_i32_267 : BitVec 32 := 1#32
  let v574 : BitVec 32 := Scalar.addi v573 c1_i32_267
  let c16_i32_268 : BitVec 32 := 16#32
  let v575 : BitVec 32 := Scalar.addi v574 c16_i32_268
  let c16_i32_269 : BitVec 32 := 16#32
  let v576 : BitVec 32 := Scalar.remsi v575 c16_i32_269
  let c128_i32_270 : BitVec 32 := 128#32
  let v577 : BitVec 32 := Scalar.muli v576 c128_i32_270
  let v4740 : Index := Scalar.indexCast v577
  let c0_3183 : Index := 0#32
  ![v4740.toNat, 0]
def k0_off31 (d0 : Dev nD) (c1_i32_302 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_301 : BitVec 32 := 6#32
  let v655 : BitVec 32 := Scalar.addi v2 c6_i32_301
  let v656 : BitVec 32 := Scalar.subi v655 c1_i32_302
  let c16_i32_303 : BitVec 32 := 16#32
  let v657 : BitVec 32 := Scalar.addi v656 c16_i32_303
  let c16_i32_304 : BitVec 32 := 16#32
  let v658 : BitVec 32 := Scalar.remsi v657 c16_i32_304
  let c128_i32_305 : BitVec 32 := 128#32
  let v659 : BitVec 32 := Scalar.muli v658 c128_i32_305
  let v730 : Index := Scalar.indexCast v659
  let c512_333 : Index := 512#32
  ![v730.toNat, 512]
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_334 : BitVec 32 := 0#32
  let v734 : BitVec 1 := Scalar.cmpi .eq v2 c0_i32_334
  let v735 : BitVec 32 := Scalar.extui v734
  let c0_i32_335 : BitVec 32 := 0#32
  let v736 : BitVec 1 := Scalar.cmpi .ne v735 c0_i32_335
  v736

def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_301 : BitVec 32 := 6#32
  let v655 : BitVec 32 := Scalar.addi v2 c6_i32_301
  let c1_i32_302 : BitVec 32 := 1#32
  let v656 : BitVec 32 := Scalar.subi v655 c1_i32_302
  let c16_i32_303 : BitVec 32 := 16#32
  let v657 : BitVec 32 := Scalar.addi v656 c16_i32_303
  let c16_i32_304 : BitVec 32 := 16#32
  let v658 : BitVec 32 := Scalar.remsi v657 c16_i32_304
  let c128_i32_305 : BitVec 32 := 128#32
  let v659 : BitVec 32 := Scalar.muli v658 c128_i32_305
  let v4740 : Index := Scalar.indexCast v659
  let c512_3183 : Index := 512#32
  ![v4740.toNat, 512]
def k0_dev7 (d0 : Dev nD) : Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_448 : BitVec 32 := 1#32
  let v837 : BitVec 32 := Scalar.muli v7 c1_i32_448
  let v838 : BitVec 32 := Scalar.addi c0_i32_449 v837
  v838.toNat
def k0_dev8 (d0 : Dev nD) : Nat :=
  let c0_i32_459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_458 : BitVec 32 := 1#32
  let v847 : BitVec 32 := Scalar.muli v5 c1_i32_458
  let v848 : BitVec 32 := Scalar.addi c0_i32_459 v847
  v848.toNat
def k0_dev9 (d0 : Dev nD) : Nat :=
  let c0_i32_469 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_468 : BitVec 32 := 1#32
  let v857 : BitVec 32 := Scalar.muli v5 c1_i32_468
  let v858 : BitVec 32 := Scalar.addi c0_i32_469 v857
  v858.toNat
def k0_dev10 (d0 : Dev nD) : Nat :=
  let c0_i32_479 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_478 : BitVec 32 := 1#32
  let v867 : BitVec 32 := Scalar.muli v7 c1_i32_478
  let v868 : BitVec 32 := Scalar.addi c0_i32_479 v867
  v868.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_517 : BitVec 32 := 0#32
  let v956 : BitVec 1 := Scalar.cmpi .eq v2 c0_i32_517
  let v957 : BitVec 32 := Scalar.extui v956
  let c0_i32_518 : BitVec 32 := 0#32
  let v958 : BitVec 1 := Scalar.cmpi .ne v957 c0_i32_518
  v958

def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_484 : BitVec 32 := 9#32
  let v877 : BitVec 32 := Scalar.addi v2 c9_i32_484
  let c2_i32_485 : BitVec 32 := 2#32
  let v878 : BitVec 32 := Scalar.subi v877 c2_i32_485
  let c16_i32_486 : BitVec 32 := 16#32
  let v879 : BitVec 32 := Scalar.addi v878 c16_i32_486
  let c16_i32_487 : BitVec 32 := 16#32
  let v880 : BitVec 32 := Scalar.remsi v879 c16_i32_487
  let c128_i32_488 : BitVec 32 := 128#32
  let v881 : BitVec 32 := Scalar.muli v880 c128_i32_488
  let v4740 : Index := Scalar.indexCast v881
  let c0_3183 : Index := 0#32
  ![v4740.toNat, 0]
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_552 : BitVec 32 := 0#32
  let v1038 : BitVec 1 := Scalar.cmpi .eq v2 c0_i32_552
  let v1039 : BitVec 32 := Scalar.extui v1038
  let c0_i32_553 : BitVec 32 := 0#32
  let v1040 : BitVec 1 := Scalar.cmpi .ne v1039 c0_i32_553
  v1040

def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_519 : BitVec 32 := 9#32
  let v959 : BitVec 32 := Scalar.subi v2 c9_i32_519
  let c2_i32_520 : BitVec 32 := 2#32
  let v960 : BitVec 32 := Scalar.addi v959 c2_i32_520
  let c16_i32_521 : BitVec 32 := 16#32
  let v961 : BitVec 32 := Scalar.addi v960 c16_i32_521
  let c16_i32_522 : BitVec 32 := 16#32
  let v962 : BitVec 32 := Scalar.remsi v961 c16_i32_522
  let c128_i32_523 : BitVec 32 := 128#32
  let v963 : BitVec 32 := Scalar.muli v962 c128_i32_523
  let v4740 : Index := Scalar.indexCast v963
  let c512_3183 : Index := 512#32
  ![v4740.toNat, 512]
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_587 : BitVec 32 := 0#32
  let v1120 : BitVec 1 := Scalar.cmpi .eq v2 c0_i32_587
  let v1121 : BitVec 32 := Scalar.extui v1120
  let c0_i32_588 : BitVec 32 := 0#32
  let v1122 : BitVec 1 := Scalar.cmpi .ne v1121 c0_i32_588
  v1122

def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_554 : BitVec 32 := 6#32
  let v1041 : BitVec 32 := Scalar.subi v2 c6_i32_554
  let c2_i32_555 : BitVec 32 := 2#32
  let v1042 : BitVec 32 := Scalar.addi v1041 c2_i32_555
  let c16_i32_556 : BitVec 32 := 16#32
  let v1043 : BitVec 32 := Scalar.addi v1042 c16_i32_556
  let c16_i32_557 : BitVec 32 := 16#32
  let v1044 : BitVec 32 := Scalar.remsi v1043 c16_i32_557
  let c128_i32_558 : BitVec 32 := 128#32
  let v1045 : BitVec 32 := Scalar.muli v1044 c128_i32_558
  let v4740 : Index := Scalar.indexCast v1045
  let c0_3183 : Index := 0#32
  ![v4740.toNat, 0]
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_622 : BitVec 32 := 0#32
  let v1202 : BitVec 1 := Scalar.cmpi .eq v2 c0_i32_622
  let v1203 : BitVec 32 := Scalar.extui v1202
  let c0_i32_623 : BitVec 32 := 0#32
  let v1204 : BitVec 1 := Scalar.cmpi .ne v1203 c0_i32_623
  v1204

def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_589 : BitVec 32 := 6#32
  let v1123 : BitVec 32 := Scalar.addi v2 c6_i32_589
  let c2_i32_590 : BitVec 32 := 2#32
  let v1124 : BitVec 32 := Scalar.subi v1123 c2_i32_590
  let c16_i32_591 : BitVec 32 := 16#32
  let v1125 : BitVec 32 := Scalar.addi v1124 c16_i32_591
  let c16_i32_592 : BitVec 32 := 16#32
  let v1126 : BitVec 32 := Scalar.remsi v1125 c16_i32_592
  let c128_i32_593 : BitVec 32 := 128#32
  let v1127 : BitVec 32 := Scalar.muli v1126 c128_i32_593
  let v4740 : Index := Scalar.indexCast v1127
  let c512_3183 : Index := 512#32
  ![v4740.toNat, 512]
def k0_dev11 (d0 : Dev nD) : Nat :=
  let c0_i32_752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_751 : BitVec 32 := 1#32
  let v1313 : BitVec 32 := Scalar.muli v7 c1_i32_751
  let v1314 : BitVec 32 := Scalar.addi c0_i32_752 v1313
  v1314.toNat
def k0_dev12 (d0 : Dev nD) : Nat :=
  let c0_i32_762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_761 : BitVec 32 := 1#32
  let v1323 : BitVec 32 := Scalar.muli v5 c1_i32_761
  let v1324 : BitVec 32 := Scalar.addi c0_i32_762 v1323
  v1324.toNat
def k0_dev13 (d0 : Dev nD) : Nat :=
  let c0_i32_772 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_771 : BitVec 32 := 1#32
  let v1333 : BitVec 32 := Scalar.muli v5 c1_i32_771
  let v1334 : BitVec 32 := Scalar.addi c0_i32_772 v1333
  v1334.toNat
def k0_dev14 (d0 : Dev nD) : Nat :=
  let c0_i32_782 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_781 : BitVec 32 := 1#32
  let v1343 : BitVec 32 := Scalar.muli v7 c1_i32_781
  let v1344 : BitVec 32 := Scalar.addi c0_i32_782 v1343
  v1344.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_820 : BitVec 32 := 0#32
  let v1432 : BitVec 1 := Scalar.cmpi .eq v2 c0_i32_820
  let v1433 : BitVec 32 := Scalar.extui v1432
  let c0_i32_821 : BitVec 32 := 0#32
  let v1434 : BitVec 1 := Scalar.cmpi .ne v1433 c0_i32_821
  v1434

def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_787 : BitVec 32 := 9#32
  let v1353 : BitVec 32 := Scalar.addi v2 c9_i32_787
  let c3_i32_788 : BitVec 32 := 3#32
  let v1354 : BitVec 32 := Scalar.subi v1353 c3_i32_788
  let c16_i32_789 : BitVec 32 := 16#32
  let v1355 : BitVec 32 := Scalar.addi v1354 c16_i32_789
  let c16_i32_790 : BitVec 32 := 16#32
  let v1356 : BitVec 32 := Scalar.remsi v1355 c16_i32_790
  let c128_i32_791 : BitVec 32 := 128#32
  let v1357 : BitVec 32 := Scalar.muli v1356 c128_i32_791
  let v4740 : Index := Scalar.indexCast v1357
  let c0_3183 : Index := 0#32
  ![v4740.toNat, 0]
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_855 : BitVec 32 := 0#32
  let v1514 : BitVec 1 := Scalar.cmpi .eq v2 c0_i32_855
  let v1515 : BitVec 32 := Scalar.extui v1514
  let c0_i32_856 : BitVec 32 := 0#32
  let v1516 : BitVec 1 := Scalar.cmpi .ne v1515 c0_i32_856
  v1516

def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_822 : BitVec 32 := 9#32
  let v1435 : BitVec 32 := Scalar.subi v2 c9_i32_822
  let c3_i32_823 : BitVec 32 := 3#32
  let v1436 : BitVec 32 := Scalar.addi v1435 c3_i32_823
  let c16_i32_824 : BitVec 32 := 16#32
  let v1437 : BitVec 32 := Scalar.addi v1436 c16_i32_824
  let c16_i32_825 : BitVec 32 := 16#32
  let v1438 : BitVec 32 := Scalar.remsi v1437 c16_i32_825
  let c128_i32_826 : BitVec 32 := 128#32
  let v1439 : BitVec 32 := Scalar.muli v1438 c128_i32_826
  let v4740 : Index := Scalar.indexCast v1439
  let c512_3183 : Index := 512#32
  ![v4740.toNat, 512]
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_890 : BitVec 32 := 0#32
  let v1596 : BitVec 1 := Scalar.cmpi .eq v2 c0_i32_890
  let v1597 : BitVec 32 := Scalar.extui v1596
  let c0_i32_891 : BitVec 32 := 0#32
  let v1598 : BitVec 1 := Scalar.cmpi .ne v1597 c0_i32_891
  v1598

def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_857 : BitVec 32 := 6#32
  let v1517 : BitVec 32 := Scalar.subi v2 c6_i32_857
  let c3_i32_858 : BitVec 32 := 3#32
  let v1518 : BitVec 32 := Scalar.addi v1517 c3_i32_858
  let c16_i32_859 : BitVec 32 := 16#32
  let v1519 : BitVec 32 := Scalar.addi v1518 c16_i32_859
  let c16_i32_860 : BitVec 32 := 16#32
  let v1520 : BitVec 32 := Scalar.remsi v1519 c16_i32_860
  let c128_i32_861 : BitVec 32 := 128#32
  let v1521 : BitVec 32 := Scalar.muli v1520 c128_i32_861
  let v4740 : Index := Scalar.indexCast v1521
  let c0_3183 : Index := 0#32
  ![v4740.toNat, 0]
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_925 : BitVec 32 := 0#32
  let v1678 : BitVec 1 := Scalar.cmpi .eq v2 c0_i32_925
  let v1679 : BitVec 32 := Scalar.extui v1678
  let c0_i32_926 : BitVec 32 := 0#32
  let v1680 : BitVec 1 := Scalar.cmpi .ne v1679 c0_i32_926
  v1680

def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_892 : BitVec 32 := 6#32
  let v1599 : BitVec 32 := Scalar.addi v2 c6_i32_892
  let c3_i32_893 : BitVec 32 := 3#32
  let v1600 : BitVec 32 := Scalar.subi v1599 c3_i32_893
  let c16_i32_894 : BitVec 32 := 16#32
  let v1601 : BitVec 32 := Scalar.addi v1600 c16_i32_894
  let c16_i32_895 : BitVec 32 := 16#32
  let v1602 : BitVec 32 := Scalar.remsi v1601 c16_i32_895
  let c128_i32_896 : BitVec 32 := 128#32
  let v1603 : BitVec 32 := Scalar.muli v1602 c128_i32_896
  let v4740 : Index := Scalar.indexCast v1603
  let c512_3183 : Index := 512#32
  ![v4740.toNat, 512]
def k0_dev15 (d0 : Dev nD) : Nat :=
  let c0_i32_1055 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1054 : BitVec 32 := 1#32
  let v1789 : BitVec 32 := Scalar.muli v7 c1_i32_1054
  let v1790 : BitVec 32 := Scalar.addi c0_i32_1055 v1789
  v1790.toNat
def k0_dev16 (d0 : Dev nD) : Nat :=
  let c0_i32_1065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1064 : BitVec 32 := 1#32
  let v1799 : BitVec 32 := Scalar.muli v5 c1_i32_1064
  let v1800 : BitVec 32 := Scalar.addi c0_i32_1065 v1799
  v1800.toNat
def k0_dev17 (d0 : Dev nD) : Nat :=
  let c0_i32_1075 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1074 : BitVec 32 := 1#32
  let v1809 : BitVec 32 := Scalar.muli v5 c1_i32_1074
  let v1810 : BitVec 32 := Scalar.addi c0_i32_1075 v1809
  v1810.toNat
def k0_dev18 (d0 : Dev nD) : Nat :=
  let c0_i32_1085 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1084 : BitVec 32 := 1#32
  let v1819 : BitVec 32 := Scalar.muli v7 c1_i32_1084
  let v1820 : BitVec 32 := Scalar.addi c0_i32_1085 v1819
  v1820.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1123 : BitVec 32 := 0#32
  let v1908 : BitVec 1 := Scalar.cmpi .eq v2 c0_i32_1123
  let v1909 : BitVec 32 := Scalar.extui v1908
  let c0_i32_1124 : BitVec 32 := 0#32
  let v1910 : BitVec 1 := Scalar.cmpi .ne v1909 c0_i32_1124
  v1910

def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1090 : BitVec 32 := 9#32
  let v1829 : BitVec 32 := Scalar.addi v2 c9_i32_1090
  let c4_i32_1091 : BitVec 32 := 4#32
  let v1830 : BitVec 32 := Scalar.subi v1829 c4_i32_1091
  let c16_i32_1092 : BitVec 32 := 16#32
  let v1831 : BitVec 32 := Scalar.addi v1830 c16_i32_1092
  let c16_i32_1093 : BitVec 32 := 16#32
  let v1832 : BitVec 32 := Scalar.remsi v1831 c16_i32_1093
  let c128_i32_1094 : BitVec 32 := 128#32
  let v1833 : BitVec 32 := Scalar.muli v1832 c128_i32_1094
  let v4740 : Index := Scalar.indexCast v1833
  let c0_3183 : Index := 0#32
  ![v4740.toNat, 0]
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1158 : BitVec 32 := 0#32
  let v1990 : BitVec 1 := Scalar.cmpi .eq v2 c0_i32_1158
  let v1991 : BitVec 32 := Scalar.extui v1990
  let c0_i32_1159 : BitVec 32 := 0#32
  let v1992 : BitVec 1 := Scalar.cmpi .ne v1991 c0_i32_1159
  v1992

def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1125 : BitVec 32 := 9#32
  let v1911 : BitVec 32 := Scalar.subi v2 c9_i32_1125
  let c4_i32_1126 : BitVec 32 := 4#32
  let v1912 : BitVec 32 := Scalar.addi v1911 c4_i32_1126
  let c16_i32_1127 : BitVec 32 := 16#32
  let v1913 : BitVec 32 := Scalar.addi v1912 c16_i32_1127
  let c16_i32_1128 : BitVec 32 := 16#32
  let v1914 : BitVec 32 := Scalar.remsi v1913 c16_i32_1128
  let c128_i32_1129 : BitVec 32 := 128#32
  let v1915 : BitVec 32 := Scalar.muli v1914 c128_i32_1129
  let v4740 : Index := Scalar.indexCast v1915
  let c512_3183 : Index := 512#32
  ![v4740.toNat, 512]
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1193 : BitVec 32 := 0#32
  let v2072 : BitVec 1 := Scalar.cmpi .eq v2 c0_i32_1193
  let v2073 : BitVec 32 := Scalar.extui v2072
  let c0_i32_1194 : BitVec 32 := 0#32
  let v2074 : BitVec 1 := Scalar.cmpi .ne v2073 c0_i32_1194
  v2074

def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1160 : BitVec 32 := 6#32
  let v1993 : BitVec 32 := Scalar.subi v2 c6_i32_1160
  let c4_i32_1161 : BitVec 32 := 4#32
  let v1994 : BitVec 32 := Scalar.addi v1993 c4_i32_1161
  let c16_i32_1162 : BitVec 32 := 16#32
  let v1995 : BitVec 32 := Scalar.addi v1994 c16_i32_1162
  let c16_i32_1163 : BitVec 32 := 16#32
  let v1996 : BitVec 32 := Scalar.remsi v1995 c16_i32_1163
  let c128_i32_1164 : BitVec 32 := 128#32
  let v1997 : BitVec 32 := Scalar.muli v1996 c128_i32_1164
  let v4740 : Index := Scalar.indexCast v1997
  let c0_3183 : Index := 0#32
  ![v4740.toNat, 0]
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1228 : BitVec 32 := 0#32
  let v2154 : BitVec 1 := Scalar.cmpi .eq v2 c0_i32_1228
  let v2155 : BitVec 32 := Scalar.extui v2154
  let c0_i32_1229 : BitVec 32 := 0#32
  let v2156 : BitVec 1 := Scalar.cmpi .ne v2155 c0_i32_1229
  v2156

def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1195 : BitVec 32 := 6#32
  let v2075 : BitVec 32 := Scalar.addi v2 c6_i32_1195
  let c4_i32_1196 : BitVec 32 := 4#32
  let v2076 : BitVec 32 := Scalar.subi v2075 c4_i32_1196
  let c16_i32_1197 : BitVec 32 := 16#32
  let v2077 : BitVec 32 := Scalar.addi v2076 c16_i32_1197
  let c16_i32_1198 : BitVec 32 := 16#32
  let v2078 : BitVec 32 := Scalar.remsi v2077 c16_i32_1198
  let c128_i32_1199 : BitVec 32 := 128#32
  let v2079 : BitVec 32 := Scalar.muli v2078 c128_i32_1199
  let v4740 : Index := Scalar.indexCast v2079
  let c512_3183 : Index := 512#32
  ![v4740.toNat, 512]
def k0_dev19 (d0 : Dev nD) : Nat :=
  let c0_i32_1358 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1357 : BitVec 32 := 1#32
  let v2265 : BitVec 32 := Scalar.muli v7 c1_i32_1357
  let v2266 : BitVec 32 := Scalar.addi c0_i32_1358 v2265
  v2266.toNat
def k0_dev20 (d0 : Dev nD) : Nat :=
  let c0_i32_1368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1367 : BitVec 32 := 1#32
  let v2275 : BitVec 32 := Scalar.muli v5 c1_i32_1367
  let v2276 : BitVec 32 := Scalar.addi c0_i32_1368 v2275
  v2276.toNat
def k0_dev21 (d0 : Dev nD) : Nat :=
  let c0_i32_1378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1377 : BitVec 32 := 1#32
  let v2285 : BitVec 32 := Scalar.muli v5 c1_i32_1377
  let v2286 : BitVec 32 := Scalar.addi c0_i32_1378 v2285
  v2286.toNat
def k0_dev22 (d0 : Dev nD) : Nat :=
  let c0_i32_1388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1387 : BitVec 32 := 1#32
  let v2295 : BitVec 32 := Scalar.muli v7 c1_i32_1387
  let v2296 : BitVec 32 := Scalar.addi c0_i32_1388 v2295
  v2296.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1425 : BitVec 32 := 0#32
  let v2384 : BitVec 1 := Scalar.cmpi .eq v2 c0_i32_1425
  let v2385 : BitVec 32 := Scalar.extui v2384
  let c0_i32_1426 : BitVec 32 := 0#32
  let v2386 : BitVec 1 := Scalar.cmpi .ne v2385 c0_i32_1426
  v2386

def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1393 : BitVec 32 := 9#32
  let v2305 : BitVec 32 := Scalar.addi v2 c9_i32_1393
  let c5_i32 : BitVec 32 := 5#32
  let v2306 : BitVec 32 := Scalar.subi v2305 c5_i32
  let c16_i32_1394 : BitVec 32 := 16#32
  let v2307 : BitVec 32 := Scalar.addi v2306 c16_i32_1394
  let c16_i32_1395 : BitVec 32 := 16#32
  let v2308 : BitVec 32 := Scalar.remsi v2307 c16_i32_1395
  let c128_i32_1396 : BitVec 32 := 128#32
  let v2309 : BitVec 32 := Scalar.muli v2308 c128_i32_1396
  let v4740 : Index := Scalar.indexCast v2309
  let c0_3183 : Index := 0#32
  ![v4740.toNat, 0]
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1460 : BitVec 32 := 0#32
  let v2466 : BitVec 1 := Scalar.cmpi .eq v2 c0_i32_1460
  let v2467 : BitVec 32 := Scalar.extui v2466
  let c0_i32_1461 : BitVec 32 := 0#32
  let v2468 : BitVec 1 := Scalar.cmpi .ne v2467 c0_i32_1461
  v2468

def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1427 : BitVec 32 := 9#32
  let v2387 : BitVec 32 := Scalar.subi v2 c9_i32_1427
  let c5_i32_1428 : BitVec 32 := 5#32
  let v2388 : BitVec 32 := Scalar.addi v2387 c5_i32_1428
  let c16_i32_1429 : BitVec 32 := 16#32
  let v2389 : BitVec 32 := Scalar.addi v2388 c16_i32_1429
  let c16_i32_1430 : BitVec 32 := 16#32
  let v2390 : BitVec 32 := Scalar.remsi v2389 c16_i32_1430
  let c128_i32_1431 : BitVec 32 := 128#32
  let v2391 : BitVec 32 := Scalar.muli v2390 c128_i32_1431
  let v4740 : Index := Scalar.indexCast v2391
  let c512_3183 : Index := 512#32
  ![v4740.toNat, 512]
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1495 : BitVec 32 := 0#32
  let v2548 : BitVec 1 := Scalar.cmpi .eq v2 c0_i32_1495
  let v2549 : BitVec 32 := Scalar.extui v2548
  let c0_i32_1496 : BitVec 32 := 0#32
  let v2550 : BitVec 1 := Scalar.cmpi .ne v2549 c0_i32_1496
  v2550

def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1462 : BitVec 32 := 6#32
  let v2469 : BitVec 32 := Scalar.subi v2 c6_i32_1462
  let c5_i32_1463 : BitVec 32 := 5#32
  let v2470 : BitVec 32 := Scalar.addi v2469 c5_i32_1463
  let c16_i32_1464 : BitVec 32 := 16#32
  let v2471 : BitVec 32 := Scalar.addi v2470 c16_i32_1464
  let c16_i32_1465 : BitVec 32 := 16#32
  let v2472 : BitVec 32 := Scalar.remsi v2471 c16_i32_1465
  let c128_i32_1466 : BitVec 32 := 128#32
  let v2473 : BitVec 32 := Scalar.muli v2472 c128_i32_1466
  let v4740 : Index := Scalar.indexCast v2473
  let c0_3183 : Index := 0#32
  ![v4740.toNat, 0]
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1530 : BitVec 32 := 0#32
  let v2630 : BitVec 1 := Scalar.cmpi .eq v2 c0_i32_1530
  let v2631 : BitVec 32 := Scalar.extui v2630
  let c0_i32_1531 : BitVec 32 := 0#32
  let v2632 : BitVec 1 := Scalar.cmpi .ne v2631 c0_i32_1531
  v2632

def k0_off48 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1497 : BitVec 32 := 6#32
  let v2551 : BitVec 32 := Scalar.addi v2 c6_i32_1497
  let c5_i32_1498 : BitVec 32 := 5#32
  let v2552 : BitVec 32 := Scalar.subi v2551 c5_i32_1498
  let c16_i32_1499 : BitVec 32 := 16#32
  let v2553 : BitVec 32 := Scalar.addi v2552 c16_i32_1499
  let c16_i32_1500 : BitVec 32 := 16#32
  let v2554 : BitVec 32 := Scalar.remsi v2553 c16_i32_1500
  let c128_i32_1501 : BitVec 32 := 128#32
  let v2555 : BitVec 32 := Scalar.muli v2554 c128_i32_1501
  let v4740 : Index := Scalar.indexCast v2555
  let c512_3183 : Index := 512#32
  ![v4740.toNat, 512]
def k0_dev23 (d0 : Dev nD) : Nat :=
  let c0_i32_1660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1659 : BitVec 32 := 1#32
  let v2741 : BitVec 32 := Scalar.muli v7 c1_i32_1659
  let v2742 : BitVec 32 := Scalar.addi c0_i32_1660 v2741
  v2742.toNat
def k0_dev24 (d0 : Dev nD) : Nat :=
  let c0_i32_1670 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1669 : BitVec 32 := 1#32
  let v2751 : BitVec 32 := Scalar.muli v5 c1_i32_1669
  let v2752 : BitVec 32 := Scalar.addi c0_i32_1670 v2751
  v2752.toNat
def k0_dev25 (d0 : Dev nD) : Nat :=
  let c0_i32_1680 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1679 : BitVec 32 := 1#32
  let v2761 : BitVec 32 := Scalar.muli v5 c1_i32_1679
  let v2762 : BitVec 32 := Scalar.addi c0_i32_1680 v2761
  v2762.toNat
def k0_dev26 (d0 : Dev nD) : Nat :=
  let c0_i32_1690 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1689 : BitVec 32 := 1#32
  let v2771 : BitVec 32 := Scalar.muli v7 c1_i32_1689
  let v2772 : BitVec 32 := Scalar.addi c0_i32_1690 v2771
  v2772.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1728 : BitVec 32 := 0#32
  let v2860 : BitVec 1 := Scalar.cmpi .eq v2 c0_i32_1728
  let v2861 : BitVec 32 := Scalar.extui v2860
  let c0_i32_1729 : BitVec 32 := 0#32
  let v2862 : BitVec 1 := Scalar.cmpi .ne v2861 c0_i32_1729
  v2862

def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1695 : BitVec 32 := 9#32
  let v2781 : BitVec 32 := Scalar.addi v2 c9_i32_1695
  let c6_i32_1696 : BitVec 32 := 6#32
  let v2782 : BitVec 32 := Scalar.subi v2781 c6_i32_1696
  let c16_i32_1697 : BitVec 32 := 16#32
  let v2783 : BitVec 32 := Scalar.addi v2782 c16_i32_1697
  let c16_i32_1698 : BitVec 32 := 16#32
  let v2784 : BitVec 32 := Scalar.remsi v2783 c16_i32_1698
  let c128_i32_1699 : BitVec 32 := 128#32
  let v2785 : BitVec 32 := Scalar.muli v2784 c128_i32_1699
  let v4740 : Index := Scalar.indexCast v2785
  let c0_3183 : Index := 0#32
  ![v4740.toNat, 0]
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1763 : BitVec 32 := 0#32
  let v2942 : BitVec 1 := Scalar.cmpi .eq v2 c0_i32_1763
  let v2943 : BitVec 32 := Scalar.extui v2942
  let c0_i32_1764 : BitVec 32 := 0#32
  let v2944 : BitVec 1 := Scalar.cmpi .ne v2943 c0_i32_1764
  v2944

def k0_off50 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1730 : BitVec 32 := 9#32
  let v2863 : BitVec 32 := Scalar.subi v2 c9_i32_1730
  let c6_i32_1731 : BitVec 32 := 6#32
  let v2864 : BitVec 32 := Scalar.addi v2863 c6_i32_1731
  let c16_i32_1732 : BitVec 32 := 16#32
  let v2865 : BitVec 32 := Scalar.addi v2864 c16_i32_1732
  let c16_i32_1733 : BitVec 32 := 16#32
  let v2866 : BitVec 32 := Scalar.remsi v2865 c16_i32_1733
  let c128_i32_1734 : BitVec 32 := 128#32
  let v2867 : BitVec 32 := Scalar.muli v2866 c128_i32_1734
  let v4740 : Index := Scalar.indexCast v2867
  let c512_3183 : Index := 512#32
  ![v4740.toNat, 512]
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1798 : BitVec 32 := 0#32
  let v3024 : BitVec 1 := Scalar.cmpi .eq v2 c0_i32_1798
  let v3025 : BitVec 32 := Scalar.extui v3024
  let c0_i32_1799 : BitVec 32 := 0#32
  let v3026 : BitVec 1 := Scalar.cmpi .ne v3025 c0_i32_1799
  v3026

def k0_off51 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1765 : BitVec 32 := 6#32
  let v2945 : BitVec 32 := Scalar.subi v2 c6_i32_1765
  let c6_i32_1766 : BitVec 32 := 6#32
  let v2946 : BitVec 32 := Scalar.addi v2945 c6_i32_1766
  let c16_i32_1767 : BitVec 32 := 16#32
  let v2947 : BitVec 32 := Scalar.addi v2946 c16_i32_1767
  let c16_i32_1768 : BitVec 32 := 16#32
  let v2948 : BitVec 32 := Scalar.remsi v2947 c16_i32_1768
  let c128_i32_1769 : BitVec 32 := 128#32
  let v2949 : BitVec 32 := Scalar.muli v2948 c128_i32_1769
  let v4740 : Index := Scalar.indexCast v2949
  let c0_3183 : Index := 0#32
  ![v4740.toNat, 0]
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1833 : BitVec 32 := 0#32
  let v3106 : BitVec 1 := Scalar.cmpi .eq v2 c0_i32_1833
  let v3107 : BitVec 32 := Scalar.extui v3106
  let c0_i32_1834 : BitVec 32 := 0#32
  let v3108 : BitVec 1 := Scalar.cmpi .ne v3107 c0_i32_1834
  v3108

def k0_off52 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1800 : BitVec 32 := 6#32
  let v3027 : BitVec 32 := Scalar.addi v2 c6_i32_1800
  let c6_i32_1801 : BitVec 32 := 6#32
  let v3028 : BitVec 32 := Scalar.subi v3027 c6_i32_1801
  let c16_i32_1802 : BitVec 32 := 16#32
  let v3029 : BitVec 32 := Scalar.addi v3028 c16_i32_1802
  let c16_i32_1803 : BitVec 32 := 16#32
  let v3030 : BitVec 32 := Scalar.remsi v3029 c16_i32_1803
  let c128_i32_1804 : BitVec 32 := 128#32
  let v3031 : BitVec 32 := Scalar.muli v3030 c128_i32_1804
  let v4740 : Index := Scalar.indexCast v3031
  let c512_3183 : Index := 512#32
  ![v4740.toNat, 512]
def k0_dev27 (d0 : Dev nD) : Nat :=
  let c0_i32_1963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1962 : BitVec 32 := 1#32
  let v3217 : BitVec 32 := Scalar.muli v7 c1_i32_1962
  let v3218 : BitVec 32 := Scalar.addi c0_i32_1963 v3217
  v3218.toNat
def k0_dev28 (d0 : Dev nD) : Nat :=
  let c0_i32_1973 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1972 : BitVec 32 := 1#32
  let v3227 : BitVec 32 := Scalar.muli v5 c1_i32_1972
  let v3228 : BitVec 32 := Scalar.addi c0_i32_1973 v3227
  v3228.toNat
def k0_dev29 (d0 : Dev nD) : Nat :=
  let c0_i32_1983 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1982 : BitVec 32 := 1#32
  let v3237 : BitVec 32 := Scalar.muli v5 c1_i32_1982
  let v3238 : BitVec 32 := Scalar.addi c0_i32_1983 v3237
  v3238.toNat
def k0_dev30 (d0 : Dev nD) : Nat :=
  let c0_i32_1993 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1992 : BitVec 32 := 1#32
  let v3247 : BitVec 32 := Scalar.muli v7 c1_i32_1992
  let v3248 : BitVec 32 := Scalar.addi c0_i32_1993 v3247
  v3248.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2030 : BitVec 32 := 0#32
  let v3336 : BitVec 1 := Scalar.cmpi .eq v2 c0_i32_2030
  let v3337 : BitVec 32 := Scalar.extui v3336
  let c0_i32_2031 : BitVec 32 := 0#32
  let v3338 : BitVec 1 := Scalar.cmpi .ne v3337 c0_i32_2031
  v3338

def k0_off53 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1998 : BitVec 32 := 9#32
  let v3257 : BitVec 32 := Scalar.addi v2 c9_i32_1998
  let c7_i32 : BitVec 32 := 7#32
  let v3258 : BitVec 32 := Scalar.subi v3257 c7_i32
  let c16_i32_1999 : BitVec 32 := 16#32
  let v3259 : BitVec 32 := Scalar.addi v3258 c16_i32_1999
  let c16_i32_2000 : BitVec 32 := 16#32
  let v3260 : BitVec 32 := Scalar.remsi v3259 c16_i32_2000
  let c128_i32_2001 : BitVec 32 := 128#32
  let v3261 : BitVec 32 := Scalar.muli v3260 c128_i32_2001
  let v4740 : Index := Scalar.indexCast v3261
  let c0_3183 : Index := 0#32
  ![v4740.toNat, 0]
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2065 : BitVec 32 := 0#32
  let v3418 : BitVec 1 := Scalar.cmpi .eq v2 c0_i32_2065
  let v3419 : BitVec 32 := Scalar.extui v3418
  let c0_i32_2066 : BitVec 32 := 0#32
  let v3420 : BitVec 1 := Scalar.cmpi .ne v3419 c0_i32_2066
  v3420

def k0_off54 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2032 : BitVec 32 := 9#32
  let v3339 : BitVec 32 := Scalar.subi v2 c9_i32_2032
  let c7_i32_2033 : BitVec 32 := 7#32
  let v3340 : BitVec 32 := Scalar.addi v3339 c7_i32_2033
  let c16_i32_2034 : BitVec 32 := 16#32
  let v3341 : BitVec 32 := Scalar.addi v3340 c16_i32_2034
  let c16_i32_2035 : BitVec 32 := 16#32
  let v3342 : BitVec 32 := Scalar.remsi v3341 c16_i32_2035
  let c128_i32_2036 : BitVec 32 := 128#32
  let v3343 : BitVec 32 := Scalar.muli v3342 c128_i32_2036
  let v4740 : Index := Scalar.indexCast v3343
  let c512_3183 : Index := 512#32
  ![v4740.toNat, 512]
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2098 : BitVec 32 := 0#32
  let v3498 : BitVec 1 := Scalar.cmpi .eq v2 c0_i32_2098
  let v3499 : BitVec 32 := Scalar.extui v3498
  let c0_i32_2099 : BitVec 32 := 0#32
  let v3500 : BitVec 1 := Scalar.cmpi .ne v3499 c0_i32_2099
  v3500

def k0_off55 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2067 : BitVec 32 := 1#32
  let v3421 : BitVec 32 := Scalar.addi v2 c1_i32_2067
  let c16_i32_2068 : BitVec 32 := 16#32
  let v3422 : BitVec 32 := Scalar.remsi v3421 c16_i32_2068
  let c128_i32_2069 : BitVec 32 := 128#32
  let v3423 : BitVec 32 := Scalar.muli v3422 c128_i32_2069
  let v4740 : Index := Scalar.indexCast v3423
  let c0_3183 : Index := 0#32
  ![v4740.toNat, 0]
def k0_off56 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2100 : BitVec 32 := 16#32
  let v3501 : BitVec 32 := Scalar.addi v2 c16_i32_2100
  let c1_i32_2101 : BitVec 32 := 1#32
  let v3502 : BitVec 32 := Scalar.subi v3501 c1_i32_2101
  let c16_i32_2102 : BitVec 32 := 16#32
  let v3503 : BitVec 32 := Scalar.remsi v3502 c16_i32_2102
  let c128_i32_2103 : BitVec 32 := 128#32
  let v3504 : BitVec 32 := Scalar.muli v3503 c128_i32_2103
  let v3505 : Index := Scalar.indexCast v3504
  let c0_2104 : Index := 0#32
  ![v3505.toNat, 0]
def k0_off57 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2100 : BitVec 32 := 16#32
  let v3501 : BitVec 32 := Scalar.addi v2 c16_i32_2100
  let c1_i32_2101 : BitVec 32 := 1#32
  let v3502 : BitVec 32 := Scalar.subi v3501 c1_i32_2101
  let c16_i32_2102 : BitVec 32 := 16#32
  let v3503 : BitVec 32 := Scalar.remsi v3502 c16_i32_2102
  let c128_i32_2103 : BitVec 32 := 128#32
  let v3504 : BitVec 32 := Scalar.muli v3503 c128_i32_2103
  let v3508 : Index := Scalar.indexCast v3504
  let c0_2105 : Index := 0#32
  ![v3508.toNat, 0]
def k0_off58 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2100 : BitVec 32 := 16#32
  let v3501 : BitVec 32 := Scalar.addi v2 c16_i32_2100
  let c1_i32_2101 : BitVec 32 := 1#32
  let v3502 : BitVec 32 := Scalar.subi v3501 c1_i32_2101
  let c16_i32_2102 : BitVec 32 := 16#32
  let v3503 : BitVec 32 := Scalar.remsi v3502 c16_i32_2102
  let c128_i32_2103 : BitVec 32 := 128#32
  let v3504 : BitVec 32 := Scalar.muli v3503 c128_i32_2103
  let v3511 : Index := Scalar.indexCast v3504
  let c0_2106 : Index := 0#32
  ![v3511.toNat, 0]
def k0_off59 (d0 : Dev nD) (c16_i32_2100 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3501 : BitVec 32 := Scalar.addi v2 c16_i32_2100
  let c1_i32_2101 : BitVec 32 := 1#32
  let v3502 : BitVec 32 := Scalar.subi v3501 c1_i32_2101
  let c16_i32_2102 : BitVec 32 := 16#32
  let v3503 : BitVec 32 := Scalar.remsi v3502 c16_i32_2102
  let c128_i32_2103 : BitVec 32 := 128#32
  let v3504 : BitVec 32 := Scalar.muli v3503 c128_i32_2103
  let v3575 : Index := Scalar.indexCast v3504
  let c512_2131 : Index := 512#32
  ![v3575.toNat, 512]
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2132 : BitVec 32 := 0#32
  let v3579 : BitVec 1 := Scalar.cmpi .eq v2 c0_i32_2132
  let v3580 : BitVec 32 := Scalar.extui v3579
  let c0_i32_2133 : BitVec 32 := 0#32
  let v3581 : BitVec 1 := Scalar.cmpi .ne v3580 c0_i32_2133
  v3581

def k0_off60 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2100 : BitVec 32 := 16#32
  let v3501 : BitVec 32 := Scalar.addi v2 c16_i32_2100
  let c1_i32_2101 : BitVec 32 := 1#32
  let v3502 : BitVec 32 := Scalar.subi v3501 c1_i32_2101
  let c16_i32_2102 : BitVec 32 := 16#32
  let v3503 : BitVec 32 := Scalar.remsi v3502 c16_i32_2102
  let c128_i32_2103 : BitVec 32 := 128#32
  let v3504 : BitVec 32 := Scalar.muli v3503 c128_i32_2103
  let v4740 : Index := Scalar.indexCast v3504
  let c512_3183 : Index := 512#32
  ![v4740.toNat, 512]
def k0_dev31 (d0 : Dev nD) : Nat :=
  let c0_i32_2238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2237 : BitVec 32 := 1#32
  let v3664 : BitVec 32 := Scalar.muli v7 c1_i32_2237
  let v3665 : BitVec 32 := Scalar.addi c0_i32_2238 v3664
  v3665.toNat
def k0_dev32 (d0 : Dev nD) : Nat :=
  let c0_i32_2248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2247 : BitVec 32 := 1#32
  let v3674 : BitVec 32 := Scalar.muli v5 c1_i32_2247
  let v3675 : BitVec 32 := Scalar.addi c0_i32_2248 v3674
  v3675.toNat
def k0_dev33 (d0 : Dev nD) : Nat :=
  let c0_i32_2347 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2346 : BitVec 32 := 1#32
  let v3780 : BitVec 32 := Scalar.muli v7 c1_i32_2346
  let v3781 : BitVec 32 := Scalar.addi c0_i32_2347 v3780
  v3781.toNat
def k0_dev34 (d0 : Dev nD) : Nat :=
  let c0_i32_2353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2352 : BitVec 32 := 1#32
  let v3788 : BitVec 32 := Scalar.muli v5 c1_i32_2352
  let v3789 : BitVec 32 := Scalar.addi c0_i32_2353 v3788
  v3789.toNat
def k0_off61 (d0 : Dev nD) (c0_i32_2333 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3769 : BitVec 32 := Scalar.addi v2 c0_i32_2333
  let c1_i32_2334 : BitVec 32 := 1#32
  let v3770 : BitVec 32 := Scalar.addi v3769 c1_i32_2334
  let c16_i32_2335 : BitVec 32 := 16#32
  let v3771 : BitVec 32 := Scalar.remsi v3770 c16_i32_2335
  let c128_i32_2337 : BitVec 32 := 128#32
  let v3773 : BitVec 32 := Scalar.muli v3771 c128_i32_2337
  let c0_i32_2360 : BitVec 32 := 0#32
  ![v3773.toNat, 0]
def k0_dev35 (d0 : Dev nD) : Nat :=
  let c0_i32_2359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2358 : BitVec 32 := 1#32
  let v3796 : BitVec 32 := Scalar.muli v5 c1_i32_2358
  let v3797 : BitVec 32 := Scalar.addi c0_i32_2359 v3796
  v3797.toNat
def k0_off62 (d0 : Dev nD) (c0_i32_2338 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3774 : BitVec 32 := Scalar.subi v2 c0_i32_2338
  let c1_i32_2339 : BitVec 32 := 1#32
  let v3775 : BitVec 32 := Scalar.subi v3774 c1_i32_2339
  let c16_i32_2340 : BitVec 32 := 16#32
  let v3776 : BitVec 32 := Scalar.addi v3775 c16_i32_2340
  let c16_i32_2341 : BitVec 32 := 16#32
  let v3777 : BitVec 32 := Scalar.remsi v3776 c16_i32_2341
  let c128_i32_2343 : BitVec 32 := 128#32
  let v3779 : BitVec 32 := Scalar.muli v3777 c128_i32_2343
  let c512_i32_2366 : BitVec 32 := 512#32
  ![v3779.toNat, 512]
def k0_dev36 (d0 : Dev nD) : Nat :=
  let c0_i32_2365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2364 : BitVec 32 := 1#32
  let v3804 : BitVec 32 := Scalar.muli v7 c1_i32_2364
  let v3805 : BitVec 32 := Scalar.addi c0_i32_2365 v3804
  v3805.toNat
def k0_dev37 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2437 : BitVec 32 := 1#32
  let v3875 : BitVec 32 := Scalar.muli v7 c1_i32_2437
  let v3876 : BitVec 32 := Scalar.addi c0_i32_2438 v3875
  v3876.toNat
def k0_dev38 (d0 : Dev nD) : Nat :=
  let c0_i32_2444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2443 : BitVec 32 := 1#32
  let v3883 : BitVec 32 := Scalar.muli v5 c1_i32_2443
  let v3884 : BitVec 32 := Scalar.addi c0_i32_2444 v3883
  v3884.toNat
def k0_dev39 (d0 : Dev nD) : Nat :=
  let c0_i32_2450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2449 : BitVec 32 := 1#32
  let v3891 : BitVec 32 := Scalar.muli v5 c1_i32_2449
  let v3892 : BitVec 32 := Scalar.addi c0_i32_2450 v3891
  v3892.toNat
def k0_dev40 (d0 : Dev nD) : Nat :=
  let c0_i32_2456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2455 : BitVec 32 := 1#32
  let v3899 : BitVec 32 := Scalar.muli v7 c1_i32_2455
  let v3900 : BitVec 32 := Scalar.addi c0_i32_2456 v3899
  v3900.toNat
def k0_off63 (d0 : Dev nD) (c1_i32_2470 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3924 : BitVec 32 := Scalar.addi v2 c1_i32_2470
  let c1_i32_2471 : BitVec 32 := 1#32
  let v3925 : BitVec 32 := Scalar.addi v3924 c1_i32_2471
  let c16_i32_2472 : BitVec 32 := 16#32
  let v3926 : BitVec 32 := Scalar.remsi v3925 c16_i32_2472
  let c128_i32_2473 : BitVec 32 := 128#32
  let v3927 : BitVec 32 := Scalar.muli v3926 c128_i32_2473
  let v3928 : Index := Scalar.indexCast v3927
  let c0_2474 : Index := 0#32
  ![v3928.toNat, 0]
def k0_off64 (d0 : Dev nD) (c1_i32_2476 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3933 : BitVec 32 := Scalar.subi v2 c1_i32_2476
  let c1_i32_2477 : BitVec 32 := 1#32
  let v3934 : BitVec 32 := Scalar.subi v3933 c1_i32_2477
  let c16_i32_2478 : BitVec 32 := 16#32
  let v3935 : BitVec 32 := Scalar.addi v3934 c16_i32_2478
  let c16_i32_2479 : BitVec 32 := 16#32
  let v3936 : BitVec 32 := Scalar.remsi v3935 c16_i32_2479
  let c128_i32_2480 : BitVec 32 := 128#32
  let v3937 : BitVec 32 := Scalar.muli v3936 c128_i32_2480
  let v3938 : Index := Scalar.indexCast v3937
  let c512_2481 : Index := 512#32
  ![v3938.toNat, 512]
def k0_dev41 (d0 : Dev nD) : Nat :=
  let c0_i32_2553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2552 : BitVec 32 := 1#32
  let v4006 : BitVec 32 := Scalar.muli v7 c1_i32_2552
  let v4007 : BitVec 32 := Scalar.addi c0_i32_2553 v4006
  v4007.toNat
def k0_dev42 (d0 : Dev nD) : Nat :=
  let c0_i32_2559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2558 : BitVec 32 := 1#32
  let v4014 : BitVec 32 := Scalar.muli v5 c1_i32_2558
  let v4015 : BitVec 32 := Scalar.addi c0_i32_2559 v4014
  v4015.toNat
def k0_dev43 (d0 : Dev nD) : Nat :=
  let c0_i32_2565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2564 : BitVec 32 := 1#32
  let v4022 : BitVec 32 := Scalar.muli v5 c1_i32_2564
  let v4023 : BitVec 32 := Scalar.addi c0_i32_2565 v4022
  v4023.toNat
def k0_dev44 (d0 : Dev nD) : Nat :=
  let c0_i32_2571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2570 : BitVec 32 := 1#32
  let v4030 : BitVec 32 := Scalar.muli v7 c1_i32_2570
  let v4031 : BitVec 32 := Scalar.addi c0_i32_2571 v4030
  v4031.toNat
def k0_dev45 (d0 : Dev nD) : Nat :=
  let c0_i32_2668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2667 : BitVec 32 := 1#32
  let v4137 : BitVec 32 := Scalar.muli v7 c1_i32_2667
  let v4138 : BitVec 32 := Scalar.addi c0_i32_2668 v4137
  v4138.toNat
def k0_dev46 (d0 : Dev nD) : Nat :=
  let c0_i32_2674 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2673 : BitVec 32 := 1#32
  let v4145 : BitVec 32 := Scalar.muli v5 c1_i32_2673
  let v4146 : BitVec 32 := Scalar.addi c0_i32_2674 v4145
  v4146.toNat
def k0_dev47 (d0 : Dev nD) : Nat :=
  let c0_i32_2680 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2679 : BitVec 32 := 1#32
  let v4153 : BitVec 32 := Scalar.muli v5 c1_i32_2679
  let v4154 : BitVec 32 := Scalar.addi c0_i32_2680 v4153
  v4154.toNat
def k0_dev48 (d0 : Dev nD) : Nat :=
  let c0_i32_2686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2685 : BitVec 32 := 1#32
  let v4161 : BitVec 32 := Scalar.muli v7 c1_i32_2685
  let v4162 : BitVec 32 := Scalar.addi c0_i32_2686 v4161
  v4162.toNat
def k0_dev49 (d0 : Dev nD) : Nat :=
  let c0_i32_2783 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2782 : BitVec 32 := 1#32
  let v4268 : BitVec 32 := Scalar.muli v7 c1_i32_2782
  let v4269 : BitVec 32 := Scalar.addi c0_i32_2783 v4268
  v4269.toNat
def k0_dev50 (d0 : Dev nD) : Nat :=
  let c0_i32_2789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2788 : BitVec 32 := 1#32
  let v4276 : BitVec 32 := Scalar.muli v5 c1_i32_2788
  let v4277 : BitVec 32 := Scalar.addi c0_i32_2789 v4276
  v4277.toNat
def k0_dev51 (d0 : Dev nD) : Nat :=
  let c0_i32_2795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2794 : BitVec 32 := 1#32
  let v4284 : BitVec 32 := Scalar.muli v5 c1_i32_2794
  let v4285 : BitVec 32 := Scalar.addi c0_i32_2795 v4284
  v4285.toNat
def k0_dev52 (d0 : Dev nD) : Nat :=
  let c0_i32_2801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2800 : BitVec 32 := 1#32
  let v4292 : BitVec 32 := Scalar.muli v7 c1_i32_2800
  let v4293 : BitVec 32 := Scalar.addi c0_i32_2801 v4292
  v4293.toNat
def k0_dev53 (d0 : Dev nD) : Nat :=
  let c0_i32_2898 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2897 : BitVec 32 := 1#32
  let v4399 : BitVec 32 := Scalar.muli v7 c1_i32_2897
  let v4400 : BitVec 32 := Scalar.addi c0_i32_2898 v4399
  v4400.toNat
def k0_dev54 (d0 : Dev nD) : Nat :=
  let c0_i32_2904 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2903 : BitVec 32 := 1#32
  let v4407 : BitVec 32 := Scalar.muli v5 c1_i32_2903
  let v4408 : BitVec 32 := Scalar.addi c0_i32_2904 v4407
  v4408.toNat
def k0_dev55 (d0 : Dev nD) : Nat :=
  let c0_i32_2910 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2909 : BitVec 32 := 1#32
  let v4415 : BitVec 32 := Scalar.muli v5 c1_i32_2909
  let v4416 : BitVec 32 := Scalar.addi c0_i32_2910 v4415
  v4416.toNat
def k0_dev56 (d0 : Dev nD) : Nat :=
  let c0_i32_2916 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2915 : BitVec 32 := 1#32
  let v4423 : BitVec 32 := Scalar.muli v7 c1_i32_2915
  let v4424 : BitVec 32 := Scalar.addi c0_i32_2916 v4423
  v4424.toNat
def k0_dev57 (d0 : Dev nD) : Nat :=
  let c0_i32_3013 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3012 : BitVec 32 := 1#32
  let v4530 : BitVec 32 := Scalar.muli v7 c1_i32_3012
  let v4531 : BitVec 32 := Scalar.addi c0_i32_3013 v4530
  v4531.toNat
def k0_dev58 (d0 : Dev nD) : Nat :=
  let c0_i32_3019 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3018 : BitVec 32 := 1#32
  let v4538 : BitVec 32 := Scalar.muli v5 c1_i32_3018
  let v4539 : BitVec 32 := Scalar.addi c0_i32_3019 v4538
  v4539.toNat
def k0_dev59 (d0 : Dev nD) : Nat :=
  let c0_i32_3025 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3024 : BitVec 32 := 1#32
  let v4546 : BitVec 32 := Scalar.muli v5 c1_i32_3024
  let v4547 : BitVec 32 := Scalar.addi c0_i32_3025 v4546
  v4547.toNat
def k0_dev60 (d0 : Dev nD) : Nat :=
  let c0_i32_3031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3030 : BitVec 32 := 1#32
  let v4554 : BitVec 32 := Scalar.muli v7 c1_i32_3030
  let v4555 : BitVec 32 := Scalar.addi c0_i32_3031 v4554
  v4555.toNat
def k0_dev61 (d0 : Dev nD) : Nat :=
  let c0_i32_3117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3116 : BitVec 32 := 1#32
  let v4650 : BitVec 32 := Scalar.muli v7 c1_i32_3116
  let v4651 : BitVec 32 := Scalar.addi c0_i32_3117 v4650
  v4651.toNat
def k0_dev62 (d0 : Dev nD) : Nat :=
  let c0_i32_3123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3122 : BitVec 32 := 1#32
  let v4658 : BitVec 32 := Scalar.muli v5 c1_i32_3122
  let v4659 : BitVec 32 := Scalar.addi c0_i32_3123 v4658
  v4659.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x512 : Shape := ⟨2, ![2048, 512]⟩
abbrev S512x64 : Shape := ⟨2, ![512, 64]⟩
abbrev S2048x1 : Shape := ⟨2, ![2048, 1]⟩
abbrev S64x512x1024 : Shape := ⟨3, ![64, 512, 1024]⟩
abbrev S512x1024 : Shape := ⟨2, ![512, 1024]⟩
abbrev S2048x64 : Shape := ⟨2, ![2048, 64]⟩
abbrev S_ : Shape := ⟨0, ![]⟩
abbrev S2048 : Shape := ⟨1, ![2048]⟩
abbrev S2048x1024 : Shape := ⟨2, ![2048, 1024]⟩
abbrev S2048x64x1024 : Shape := ⟨3, ![2048, 64, 1024]⟩
abbrev S64 : Shape := ⟨1, ![64]⟩
abbrev S1x64 : Shape := ⟨2, ![1, 64]⟩
abbrev S2048x64x1 : Shape := ⟨3, ![2048, 64, 1]⟩

abbrev nBuf : Space → Nat
  | .hbm => 36
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x1, .i32⟩
  | .hbm, ⟨3, _⟩ => ⟨S64x512x1024, .f32⟩
  | .hbm, ⟨4, _⟩ => ⟨S512x1024, .f32⟩
  | .hbm, ⟨5, _⟩ => ⟨S2048x64, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S2048x64, .f32⟩
  | .hbm, ⟨10, _⟩ => ⟨S2048x64, .f32⟩
  | .hbm, ⟨11, _⟩ => ⟨S2048x64, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S2048x64, .f32⟩
  | .hbm, ⟨16, _⟩ => ⟨S2048x64, .f32⟩
  | .hbm, ⟨17, _⟩ => ⟨S2048x1024, .f32⟩
  | .hbm, ⟨18, _⟩ => ⟨S2048x64x1024, .f32⟩
  | .hbm, ⟨19, _⟩ => ⟨S64, .i32⟩
  | .hbm, ⟨20, _⟩ => ⟨S1x64, .i32⟩
  | .hbm, ⟨21, _⟩ => ⟨S2048x64, .i32⟩
  | .hbm, ⟨22, _⟩ => ⟨S2048x64, .i32⟩
  | .hbm, ⟨23, _⟩ => ⟨S2048x64, .i1⟩
  | .hbm, ⟨24, _⟩ => ⟨S2048x64x1, .i1⟩
  | .hbm, ⟨25, _⟩ => ⟨S2048x64x1, .f32⟩
  | .hbm, ⟨26, _⟩ => ⟨S2048x64x1024, .f32⟩
  | .hbm, ⟨27, _⟩ => ⟨S2048x64x1024, .f32⟩
  | .hbm, ⟨28, _⟩ => ⟨S_, .f32⟩
  | .hbm, ⟨29, _⟩ => ⟨S_, .f32⟩
  | .hbm, ⟨30, _⟩ => ⟨S2048x64x1024, .i1⟩
  | .hbm, ⟨31, _⟩ => ⟨S2048x64x1024, .f32⟩
  | .hbm, ⟨32, _⟩ => ⟨S2048x64x1024, .f32⟩
  | .hbm, ⟨33, _⟩ => ⟨S_, .f32⟩
  | .hbm, ⟨34, _⟩ => ⟨S2048x1024, .f32⟩
  | .hbm, ⟨35, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Proof.Machine.lean ====
/-
  The kernel's run on one device as a list of EVENTS over a list of ATOMS, both plain data over natural numbers. An atom names
  one thing the device holds (a 128 × 512 piece of a buffer and what is in it, what it takes to issue one transfer, a wait not
  yet made, …); an event takes some atoms away and leaves others. Chunk numbers `r` count from the device's own number, so
  the data is the same on every device. That every event finds what it takes is one finite computation (`valid`).

  The sixty transfers are numbered `8 g + t`, `g` the stream and `t` the step. Streams 0..3 are the reduce-scatter's
  (0: left half of the columns, to the right; 1: left half, to the left; 2: right half, to the left; 3: right half, to the right),
  4..7 the all-gather's (4: left half, to the right; 5: right half, to the left; 6: left half, to the left; 7: right half,
  to the right). Streams 0, 2, 4, 5 have eight steps, the others seven.
-/
module

public import Mathlib.Data.Fintype.Basic
public import Mathlib.Data.List.Basic

@[expose] public section

namespace Cert.KProof

/-! ## The transfers -/

/-- The stream of a transfer, and its step. -/
def grp (j : ℕ) : ℕ := j / 8
def stp (j : ℕ) : ℕ := j % 8

/-- The streams that go to the right neighbour. -/
def toRight (j : ℕ) : Bool := grp j == 0 || grp j == 3 || grp j == 4 || grp j == 7
/-- Which half of the columns a stream carries: 0 the left, 1 the right. -/
def half (j : ℕ) : ℕ := if grp j == 2 || grp j == 3 || grp j == 5 || grp j == 7 then 1 else 0
/-- The streams of eight steps. -/
def long (g : ℕ) : Bool := g == 0 || g == 2 || g == 4 || g == 5

/-- The chunk a transfer carries, counted from the sender. -/
def srcRel (j : ℕ) : ℕ :=
  match grp j with
  | 0 => (25 - stp j) % 16
  | 1 => (10 + stp j) % 16
  | 2 => (7 + stp j) % 16
  | 3 => (22 - stp j) % 16
  | 4 => (17 - stp j) % 16
  | 5 => (15 + stp j) % 16
  | 6 => (1 + stp j) % 16
  | _ => (15 - stp j) % 16

/-- The same chunk, counted from the receiver. -/
def dstRel (j : ℕ) : ℕ := if toRight j then (srcRel j + 15) % 16 else (srcRel j + 1) % 16

/-- All sixty, in no particular order. -/
def allJ : List ℕ := (List.range 64).filter fun j => long (grp j) || stp j != 7

/-! ## Atoms -/

inductive Atom where
  /-- a piece of the partial sums: anything; the product alone; the partial sum -/
  | accJ (r h : ℕ) | accB (r h : ℕ) | acc (r h : ℕ)
  /-- the landing slot of a transfer: anything; what landed; that plus the device's own partial sum -/
  | slotJ (j : ℕ) | slotI (j : ℕ) | slotS (j : ℕ)
  /-- a piece of the gathered sums: anything; one half share of it, and the other -/
  | agJ (r h : ℕ) | agL (r h : ℕ) | agR (r h : ℕ)
  /-- a piece of the result: anything; the total -/
  | outJ (r h : ℕ) | out (r h : ℕ)
  /-- the probabilities' buffer: anything; the probabilities -/
  | prJ | pr
  /-- the signals to the two neighbours not yet made; the entry wait not yet made, and made -/
  | tokL | tokR | barW | barD
  /-- a transfer not issued, in flight, seen complete; its landing here not awaited, and awaited -/
  | snd (j : ℕ) | sndF (j : ℕ) | sndD (j : ℕ) | rcvW (j : ℕ) | rcvD (j : ℕ)
  /-- the elements of the neighbour's buffer that a transfer will write -/
  | dst (j : ℕ)

namespace Atom

/-- A number of its own for each atom. -/
def code : Atom → ℕ × ℕ × ℕ
  | accJ r h => (0, r, h) | accB r h => (1, r, h) | acc r h => (2, r, h)
  | slotJ j => (3, j, 0) | slotI j => (4, j, 0) | slotS j => (5, j, 0)
  | agJ r h => (6, r, h) | agL r h => (7, r, h) | agR r h => (8, r, h)
  | outJ r h => (9, r, h) | out r h => (10, r, h)
  | prJ => (11, 0, 0) | pr => (12, 0, 0)
  | tokL => (13, 0, 0) | tokR => (14, 0, 0) | barW => (15, 0, 0) | barD => (16, 0, 0)
  | snd j => (17, j, 0) | sndF j => (18, j, 0) | sndD j => (19, j, 0) | rcvW j => (20, j, 0) | rcvD j => (21, j, 0)
  | dst j => (22, j, 0)

theorem code_injective : Function.Injective code := by
  intro a b h
  cases a <;> cases b <;> simp_all [code]

instance : DecidableEq Atom := fun a b => decidable_of_iff (code a = code b) code_injective.eq_iff

end Atom

open Atom

/-- What a transfer reads, at the sender. -/
def srcA (j : ℕ) : Atom :=
  if grp j < 4 then (if stp j = 0 then acc (srcRel j) (half j) else slotS (j - 1))
  else if grp j < 6 then agL (srcRel j) (half j) else agR (srcRel j) (half j)
/-- What it writes, at the receiver: before, -/
def dstA (j : ℕ) : Atom := if grp j < 4 then slotJ j else agJ (dstRel j) (half j)
/-- and after. -/
def landA (j : ℕ) : List Atom := if grp j < 4 then [slotI j] else [agL (dstRel j) (half j), agR (dstRel j) (half j)]

/-! ## Events -/

inductive Ev where
  /-- the signal to the left (0) or the right (1) neighbour -/
  | sig (b : ℕ)
  | waitB
  /-- the probabilities stored -/
  | probs
  /-- a piece of the experts' product stored; the shared product added to it, on device 0 -/
  | store (r h : ℕ) | shared (r h : ℕ)
  | send (j : ℕ) | waitS (j : ℕ) | waitR (j : ℕ)
  /-- the device's own partial sum added to what landed -/
  | add (j : ℕ)
  /-- the total of the device's own half chunk -/
  | fin (h : ℕ)
  /-- a piece of the result stored, read at the first (0) or the second (1) half share -/
  | out (r h b : ℕ)
  | stop

/-- What an event takes. -/
def pre : Ev → List Atom
  | .sig 0 => tokL :: (allJ.filter fun j => toRight j).map dstA
  | .sig _ => tokR :: (allJ.filter fun j => !toRight j).map dstA
  | .waitB => [barW]
  | .probs => [prJ]
  | .store r h => [accJ r h, pr]
  | .shared r h => [accB r h]
  | .send j => [snd j, srcA j, dst j]
  | .waitS j => [sndF j]
  | .waitR j => [rcvW j]
  | .add j => [slotI j, acc (srcRel (j + 1)) (half j)]
  | .fin 0 => [slotI 7, slotI 14, acc 1 0, agJ 1 0]
  | .fin _ => [slotI 23, slotI 30, acc 15 1, agJ 15 1]
  | .out r h 0 => [agL r h, outJ r h]
  | .out r h _ => [agR r h, outJ r h]
  | .stop => []

/-- What it leaves. -/
def post : Ev → List Atom
  | .sig _ => []
  | .waitB => barD :: allJ.map dst
  | .probs => [pr]
  | .store r h => [accB r h, pr]
  | .shared r h => [acc r h]
  | .send j => [sndF j]
  | .waitS j => [sndD j, srcA j]
  | .waitR j => rcvD j :: landA j
  | .add j => [slotS j, acc (srcRel (j + 1)) (half j)]
  | .fin 0 => [slotI 7, slotI 14, acc 1 0, agL 1 0, agR 1 0]
  | .fin _ => [slotI 23, slotI 30, acc 15 1, agL 15 1, agR 15 1]
  | .out r h 0 => [agL r h, out r h]
  | .out r h _ => [agR r h, out r h]
  | .stop => []

/-- The whole run: the entry and the first four half chunks; the eight steps of the reduce-scatter, the computation of the next
    step's half chunks between a step's transfers and its waits; the totals; the eight steps of the all-gather, the results
    of a step stored during the next. -/
def evs : List Ev := [
  .sig 0, .sig 1, .waitB, .probs, .store 9 0, .shared 9 0, .store 10 0, .shared 10 0, .store 7 1, .shared 7 1, .store 6 1, .shared 6 1,
  .send 0, .send 16, .send 8, .send 24,
    .store 8 0, .shared 8 0, .store 8 1, .shared 8 1, .store 11 0, .shared 11 0, .store 5 1, .shared 5 1,
    .waitS 0, .waitR 0, .waitS 16, .waitR 16, .waitS 8, .waitR 8, .waitS 24, .waitR 24,
    .add 0, .add 16, .add 8, .add 24,
  .send 1, .send 17, .send 9, .send 25,
    .store 7 0, .shared 7 0, .store 9 1, .shared 9 1, .store 12 0, .shared 12 0, .store 4 1, .shared 4 1,
    .waitS 1, .waitR 1, .waitS 17, .waitR 17, .waitS 9, .waitR 9, .waitS 25, .waitR 25,
    .add 1, .add 17, .add 9, .add 25,
  .send 2, .send 18, .send 10, .send 26,
    .store 6 0, .shared 6 0, .store 10 1, .shared 10 1, .store 13 0, .shared 13 0, .store 3 1, .shared 3 1,
    .waitS 2, .waitR 2, .waitS 18, .waitR 18, .waitS 10, .waitR 10, .waitS 26, .waitR 26,
    .add 2, .add 18, .add 10, .add 26,
  .send 3, .send 19, .send 11, .send 27,
    .store 5 0, .shared 5 0, .store 11 1, .shared 11 1, .store 14 0, .shared 14 0, .store 2 1, .shared 2 1,
    .waitS 3, .waitR 3, .waitS 19, .waitR 19, .waitS 11, .waitR 11, .waitS 27, .waitR 27,
    .add 3, .add 19, .add 11, .add 27,
  .send 4, .send 20, .send 12, .send 28,
    .store 4 0, .shared 4 0, .store 12 1, .shared 12 1, .store 15 0, .shared 15 0, .store 1 1, .shared 1 1,
    .waitS 4, .waitR 4, .waitS 20, .waitR 20, .waitS 12, .waitR 12, .waitS 28, .waitR 28,
    .add 4, .add 20, .add 12, .add 28,
  .send 5, .send 21, .send 13, .send 29,
    .store 3 0, .shared 3 0, .store 13 1, .shared 13 1, .store 0 0, .shared 0 0, .store 0 1, .shared 0 1,
    .waitS 5, .waitR 5, .waitS 21, .waitR 21, .waitS 13, .waitR 13, .waitS 29, .waitR 29,
    .add 5, .add 21, .add 13, .add 29,
  .send 6, .send 22, .send 14, .send 30,
    .store 2 0, .shared 2 0, .store 14 1, .shared 14 1, .store 1 0, .shared 1 0, .store 15 1, .shared 15 1,
    .waitS 6, .waitR 6, .waitS 22, .waitR 22, .waitS 14, .waitR 14, .waitS 30, .waitR 30,
    .add 6, .add 22,
  .send 7, .send 23, .waitS 7, .waitR 7, .waitS 23, .waitR 23,
  .fin 0, .fin 1, .out 1 0 0, .out 15 1 0,
  .send 32, .send 40, .send 48, .send 56,
    .waitS 32, .waitR 32, .waitS 40, .waitR 40, .waitS 48, .waitR 48, .waitS 56, .waitR 56,
  .send 33, .send 41, .send 49, .send 57,
    .out 0 0 1, .out 0 1 1, .out 2 0 0, .out 14 1 0,
    .waitS 33, .waitR 33, .waitS 41, .waitR 41, .waitS 49, .waitR 49, .waitS 57, .waitR 57,
  .send 34, .send 42, .send 50, .send 58,
    .out 15 0 1, .out 1 1 1, .out 3 0 0, .out 13 1 0,
    .waitS 34, .waitR 34, .waitS 42, .waitR 42, .waitS 50, .waitR 50, .waitS 58, .waitR 58,
  .send 35, .send 43, .send 51, .send 59,
    .out 14 0 1, .out 2 1 1, .out 4 0 0, .out 12 1 0,
    .waitS 35, .waitR 35, .waitS 43, .waitR 43, .waitS 51, .waitR 51, .waitS 59, .waitR 59,
  .send 36, .send 44, .send 52, .send 60,
    .out 13 0 1, .out 3 1 1, .out 5 0 0, .out 11 1 0,
    .waitS 36, .waitR 36, .waitS 44, .waitR 44, .waitS 52, .waitR 52, .waitS 60, .waitR 60,
  .send 37, .send 45, .send 53, .send 61,
    .out 12 0 1, .out 4 1 1, .out 6 0 0, .out 10 1 0,
    .waitS 37, .waitR 37, .waitS 45, .waitR 45, .waitS 53, .waitR 53, .waitS 61, .waitR 61,
  .send 38, .send 46, .send 54, .send 62,
    .out 11 0 1, .out 5 1 1, .out 7 0 0, .out 9 1 0,
    .waitS 38, .waitR 38, .waitS 46, .waitR 46, .waitS 54, .waitR 54, .waitS 62, .waitR 62,
  .send 39, .send 47,
    .out 10 0 1, .out 6 1 1, .out 8 0 0, .out 8 1 0,
    .waitS 39, .waitR 39, .waitS 47, .waitR 47,
  .out 9 0 0, .out 7 1 0]

/-- The event at a place. -/
def ev (n : ℕ) : Ev := evs.getD n .stop

/-! ## The atoms held -/

def pieces : List (ℕ × ℕ) := (List.range 16).flatMap fun r => [(r, 0), (r, 1)]
def rsJ : List ℕ := allJ.filter fun j => grp j < 4

/-- What a device starts with. -/
def start : List Atom :=
  [prJ, tokL, tokR, barW] ++ pieces.map (fun p => accJ p.1 p.2) ++ pieces.map (fun p => agJ p.1 p.2) ++ pieces.map (fun p => outJ p.1 p.2)
    ++ rsJ.map slotJ ++ allJ.map snd ++ allJ.map rcvW

/-- What an event makes of a list of atoms. -/
def next (e : Ev) (σ : List Atom) : List Atom := post e ++ σ.diff (pre e)

/-- What a device holds after the events of a list. -/
def run (es : List Ev) (σ : List Atom) : List Atom := es.foldl (fun σ e => next e σ) σ

/-- What it holds before event `n`. -/
def held (n : ℕ) : List Atom := run (evs.take n) start

/-- Every event of a list finds what it takes. -/
def ok : List Ev → List Atom → Bool
  | [], _ => true
  | e :: es, σ => (pre e).isSubperm σ && ok es (next e σ)

/-- What a device ends with. -/
def final : List Atom :=
  [pr, barD] ++ pieces.map (fun p => acc p.1 p.2) ++ pieces.map (fun p => agL p.1 p.2) ++ pieces.map (fun p => agR p.1 p.2)
    ++ pieces.map (fun p => out p.1 p.2)
    ++ rsJ.map (fun j => if j = 7 ∨ j = 14 ∨ j = 23 ∨ j = 30 then slotI j else slotS j) ++ allJ.map sndD ++ allJ.map rcvD

end Cert.KProof
-- ==== Proof.Cells.lean ====
/-
  The program's memory as the proof cuts it: the 128 × 512 pieces of the three 2048 × 1024 buffers and the slots of the four
  landing buffers as memrefs, the semaphores of the sixty transfers by number, the two neighbours of a device; and the reads and
  writes of such pieces.
-/
module

public import proofs.«01_k».proof.Proof.Machine
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Memref
public import Idealize.ShloMosaic.Lib.Tactic

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the transfers' (duties `Bool`) -/

abbrev UB : Type := URounds (GSem nD τ sig) Bool
abbrev UU : Type := UR sig nD τ × UB

abbrev MM (F : FTy → Type) := MT nD τ sig Unit (Elt F) ℕ UU ℕ

abbrev EP : Emb (UR sig nD τ) (MM F) := embL
abbrev ER : Emb UB (MM F) := embR

abbrev 𝒱₀ : Variants := Variants.none

/-! ## Devices -/

/-- The two neighbours. -/
def lf (c : Dev nD) : Dev nD := ⟨(c.val + 15) % 16, Nat.mod_lt _ (by decide)⟩
def rt (c : Dev nD) : Dev nD := ⟨(c.val + 1) % 16, Nat.mod_lt _ (by decide)⟩

theorem lf_rt (c : Dev nD) : lf (rt c) = c := by revert c; decide
theorem rt_lf (c : Dev nD) : rt (lf c) = c := by revert c; decide

/-- The device a transfer goes to, and the one it comes from. -/
def tgt (c : Dev nD) (j : ℕ) : Dev nD := if toRight j then rt c else lf c
def frm (c : Dev nD) (j : ℕ) : Dev nD := if toRight j then lf c else rt c

theorem frm_tgt (c : Dev nD) (j : ℕ) : frm (tgt c j) j = c := by unfold frm tgt; split <;> simp [lf_rt, rt_lf]
theorem tgt_frm (c : Dev nD) (j : ℕ) : tgt (frm c j) j = c := by unfold frm tgt; split <;> simp [lf_rt, rt_lf]

/-- The chunk at distance `r` from a device. -/
def ch (c : Dev nD) (r : ℕ) : Fin 16 := ⟨(c.val + r) % 16, Nat.mod_lt _ (by decide)⟩
/-- A half as an index. -/
def hf (h : ℕ) : Fin 2 := ⟨h % 2, Nat.mod_lt _ (by decide)⟩

/-- The receiver counts the chunk of a transfer from itself. -/
theorem ch_tgt (c : Dev nD) (j : ℕ) : ch (tgt c j) (dstRel j) = ch c (srcRel j) := by
  unfold ch tgt dstRel lf rt
  apply Fin.ext
  split <;> simp only <;> omega

/-! ## Pieces -/

def offP (a : Fin 16) (h : Fin 2) : Fin 2 → ℕ := ![128 * a.val, 512 * h.val]
theorem inbP (a : Fin 16) (h : Fin 2) : ∀ i, offP a h i + S128x512.size i ≤ S2048x1024.size i := by revert a h; decide
abbrev rP (a : Fin 16) (h : Fin 2) : Rect S2048x1024 := Rect.unit (s := S2048x1024) (offP a h) S128x512.size (inbP a h)

abbrev accM (a : Fin 16) (h : Fin 2) : Memref sig .tc .vmem S128x512 .bf16 :=
  (Memref.whole cc0_scratch0 : Memref sig .tc .vmem S2048x1024 .bf16).slice (rP a h) (fun _ => rfl)
abbrev agM (a : Fin 16) (h : Fin 2) : Memref sig .tc .vmem S128x512 .bf16 :=
  (Memref.whole cc0_scratch2 : Memref sig .tc .vmem S2048x1024 .bf16).slice (rP a h) (fun _ => rfl)
abbrev outM (a : Fin 16) (h : Fin 2) : Memref sig .tc .vmem S128x512 .f32 :=
  (Memref.whole cc0_stg5_0 : Memref sig .tc .vmem S2048x1024 .f32).slice (rP a h) (fun _ => rfl)

theorem inb8 (t : Fin 8) : ∀ i, (![t.val, 0, 0] : Fin 3 → ℕ) i + S1x128x512.size i ≤ S8x128x512.size i := by revert t; decide
theorem inb7 (t : Fin 7) : ∀ i, (![t.val, 0, 0] : Fin 3 → ℕ) i + S1x128x512.size i ≤ S7x128x512.size i := by revert t; decide

abbrev slot8 (M : Memref sig .tc .vmem S8x128x512 .bf16) (t : Fin 8) : Memref sig .tc .vmem S128x512 .bf16 :=
  (M.slice (Rect.unit (s := S8x128x512) ![t.val, 0, 0] S1x128x512.size (inb8 t)) (fun _ => rfl)).squeeze S128x512 squeezes_S1x128x512_S128x512
abbrev slot7 (M : Memref sig .tc .vmem S7x128x512 .bf16) (t : Fin 7) : Memref sig .tc .vmem S128x512 .bf16 :=
  (M.slice (Rect.unit (s := S7x128x512) ![t.val, 0, 0] S1x128x512.size (inb7 t)) (fun _ => rfl)).squeeze S128x512 squeezes_S1x128x512_S128x512

/-- The landing slot of a reduce-scatter transfer. -/
def slotM (j : ℕ) : Memref sig .tc .vmem S128x512 .bf16 :=
  match grp j with
  | 0 => slot8 (Memref.whole cc0_scratch3) ⟨stp j % 8, Nat.mod_lt _ (by decide)⟩
  | 1 => slot7 (Memref.whole cc0_scratch4) ⟨stp j % 7, Nat.mod_lt _ (by decide)⟩
  | 2 => slot8 (Memref.whole cc0_scratch5) ⟨stp j % 8, Nat.mod_lt _ (by decide)⟩
  | _ => slot7 (Memref.whole cc0_scratch6) ⟨stp j % 7, Nat.mod_lt _ (by decide)⟩

/-- What a transfer reads at device `c`, and what the one to `c` writes there. -/
def srcM (c : Dev nD) (j : ℕ) : Memref sig .tc .vmem S128x512 .bf16 :=
  if grp j < 4 then (if stp j = 0 then accM (ch c (srcRel j)) (hf (half j)) else slotM (j - 1)) else agM (ch c (srcRel j)) (hf (half j))
def dstM (c : Dev nD) (j : ℕ) : Memref sig .tc .vmem S128x512 .bf16 :=
  if grp j < 4 then slotM j else agM (ch c (dstRel j)) (hf (half j))

/-! ## Semaphores -/

abbrev barS : Sem sig := (SemArray.scalar (sig.barrier 0 rfl) : Sems sig S_).sem

/-- The numbers of a transfer's two semaphores. -/
def sndNo (j : ℕ) : ℕ := (match grp j with | 0 => 6 | 1 => 22 | 2 => 36 | 3 => 52 | 4 => 66 | 5 => 82 | 6 => 98 | _ => 112) + stp j
def rcvNo (j : ℕ) : ℕ := sndNo j + if long (grp j) then 8 else 7

def sndS (j : ℕ) : DmaSem sig := ⟨sndNo j % 126, Nat.mod_lt _ (by decide)⟩
def rcvS (j : ℕ) : DmaSem sig := ⟨rcvNo j % 126, Nat.mod_lt _ (by decide)⟩

abbrev barCell (c : Dev nD) : GSem nD τ sig := ((c : Thread nD τ), .reg barS)
abbrev sndCell (c : Dev nD) (j : ℕ) : GSem nD τ sig := ((c : Thread nD τ), .dma (sndS j))
abbrev rcvCell (c : Dev nD) (j : ℕ) : GSem nD τ sig := ((c : Thread nD τ), .dma (rcvS j))

/-- What one transfer credits. -/
abbrev N : ℕ := (accM 0 0).view.dmaCredit
theorem N_pos : 0 < N := View.dmaCredit_pos _ (by decide)

end Cert.KProof

end
-- ==== Proof.Valid.lean ====
/-
  The run of the events on the atoms is possible: every event finds its atoms (`valid`), and the end holds what it should
  (`held_end`). Both by computation.
-/
module

public import proofs.«01_k».proof.Proof.Machine

@[expose] public section

namespace Cert.KProof

theorem valid : ok evs start = true := by decide +kernel
theorem held_end : (run evs start).isPerm final = true := by decide +kernel

end Cert.KProof

end
-- ==== Proof.Proto.lean ====
/-
  What the proof says of the program's state. The VALUES: for what the sixteen devices' staged operands hold (`Ins`), the product
  a device computes for a half chunk, its partial sum, what each reduce-scatter transfer carries, the totals. Each ATOM's meaning
  as a resource (`res`). The SCHEDULE of the semaphores: one round; the barrier cell's two duties hand a device the elements of
  its neighbours' buffers it will write; a transfer's send cell hands back what it read, its receive cell the landed piece. The
  LEVELS by which the waits are admitted. And the STATE of a device before a list of events (`St`), with the one step all rules share.
-/
module

public import proofs.«01_k».proof.Proof.Cells
public import proofs.«01_k».proof.Proof.Valid
public import Idealize.ShloMosaic.Lib.Pipeline.BigSepL

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## Values -/

/-- What a device's five staged operands hold. -/
structure Ins (F : FTy → Type) where
  x : Vec F S2048x512 .f32
  rw : Vec F S512x64 .f32
  idx : Vec F S2048x1 .i32
  ew : Vec F S4x512x1024 .f32
  sw : Vec F S512x1024 .f32

def offR (a : Fin 16) : Fin 2 → ℕ := ![128 * a.val, 0]
theorem inbX (a : Fin 16) : ∀ i, offR a i + S128x512.size i ≤ S2048x512.size i := by revert a; decide
theorem inbI (a : Fin 16) : ∀ i, offR a i + S128x1.size i ≤ S2048x1.size i := by revert a; decide
theorem inbQ (a : Fin 16) : ∀ i, offR a i + S128x64.size i ≤ S2048x64.size i := by revert a; decide

section Val
variable {α : Type}
/-- The 128 rows of a chunk. -/
def rowsX (X : S2048x512.Idx → α) (a : Fin 16) : S128x512.Idx → α := fun j => X ((Rect.unit (s := S2048x512) (offR a) S128x512.size (inbX a)).emb j)
def rowsI (X : S2048x1.Idx → α) (a : Fin 16) : S128x1.Idx → α := fun j => X ((Rect.unit (s := S2048x1) (offR a) S128x1.size (inbI a)).emb j)
def rowsQ (X : S2048x64.Idx → α) (a : Fin 16) : S128x64.Idx → α := fun j => X ((Rect.unit (s := S2048x64) (offR a) S128x64.size (inbQ a)).emb j)
/-- The 512 columns of a half. -/
def offE (h : Fin 2) : Fin 3 → ℕ := ![0, 0, 512 * h.val]
def offS (h : Fin 2) : Fin 2 → ℕ := ![0, 512 * h.val]
theorem inbE (h : Fin 2) : ∀ i, offE h i + S4x512x512.size i ≤ S4x512x1024.size i := by revert h; decide
theorem inbS (h : Fin 2) : ∀ i, offS h i + S512x512.size i ≤ S512x1024.size i := by revert h; decide
def colsE (X : S4x512x1024.Idx → α) (h : Fin 2) : S4x512x512.Idx → α := fun j => X ((Rect.unit (s := S4x512x1024) (offE h) S4x512x512.size (inbE h)).emb j)
def colsS (X : S512x1024.Idx → α) (h : Fin 2) : S512x512.Idx → α := fun j => X ((Rect.unit (s := S512x1024) (offS h) S512x512.size (inbS h)).emb j)
end Val

variable (V : Dev nD → Ins F)

/-- The device's number, as the program computes it from its word. -/
def word (c : Dev nD) : BitVec 32 := Scalar.remsi (Scalar.divsi (Dev.word c) 1#32) 16#32
def lanes : IVec S128x64 32 := iota .tc S128x64 32 [1] iota_S128x64_d1_w32

/-- The probabilities. -/
def prob (c : Dev nD) : Vec F S2048x64 .f32 := k0_pay3 (V c).x (V c).rw

/-- The weighted products of four experts, summed, from a chunk's rows: the program's own expression. -/
def base (w : BitVec 32) (x : Vec F S128x512 .f32) (i : Vec F S128x1 .i32) (p : Vec F S128x64 .f32) (e : Vec F S4x512x512 .f32) : Vec F S128x512 .bf16 :=
  k0_pay9 w lanes (k0_pay4 x) (k0_pay5 i) p (k0_pay6 w lanes x i p) (k0_pay7 w lanes x i p) (Scalar.addi (Scalar.muli w 4#32) 2#32) (k0_pay8 w) e

/-- What device `c` stores for half `h` of chunk `a`: the experts' part; -/
def accBase (c : Dev nD) (a : Fin 16) (h : Fin 2) : Vec F S128x512 .bf16 :=
  base (word c) (rowsX (V c).x a) (rowsI (V c).idx a) (rowsQ (prob V c) a) (colsE (V c).ew h)
/-- with the shared part, on device 0. -/
def accVal (c : Dev nD) (a : Fin 16) (h : Fin 2) : Vec F S128x512 .bf16 :=
  if c = 0 then k0_pay10 (k0_pay4 (rowsX (V c).x a)) (accBase V c a h) (colsS (V c).sw h) else accBase V c a h

/-- A slot's row of one slab, and back. -/
def unsq (v : Vec F S128x512 .bf16) : Vec F S1x128x512 .bf16 := shapeCast S1x128x512 v shapeCasts_S128x512_S1x128x512
def sq (v : Vec F S1x128x512 .bf16) : Vec F S128x512 .bf16 := shapeCast S128x512 v shapeCasts_S1x128x512_S128x512

/-- What landed plus the device's own partial sum. -/
def plus (v w : Vec F S128x512 .bf16) : Vec F S128x512 .bf16 := sq (k0_pay72 (unsq v) w)

/-- What step `t` of stream `g` brings device `c`. -/
def slotInG (g : ℕ) : ℕ → Dev nD → Vec F S128x512 .bf16
  | 0, c => accVal V (frm c (8 * g)) (ch (frm c (8 * g)) (srcRel (8 * g))) (hf (half (8 * g)))
  | t + 1, c => plus (slotInG g t (frm c (8 * g))) (accVal V (frm c (8 * g)) (ch (frm c (8 * g)) (srcRel (8 * g + t + 1))) (hf (half (8 * g))))

def slotIn (c : Dev nD) (j : ℕ) : Vec F S128x512 .bf16 := slotInG V (grp j) (stp j) c
def slotSum (c : Dev nD) (j : ℕ) : Vec F S128x512 .bf16 :=
  plus (slotIn V c j) (accVal V c (ch c (srcRel (j + 1))) (hf (half j)))

/-- The total of half `h` of chunk `a`: summed by the device before the chunk's (left half), after it (right half). -/
def agVal (a : Fin 16) (h : Fin 2) : Vec F S128x512 .bf16 :=
  if h = 0 then k0_pay293 (unsq (slotIn V (ch a 15) 7)) (unsq (slotIn V (ch a 15) 14)) (accVal V (ch a 15) a 0)
  else k0_pay293 (unsq (slotIn V (ch a 1) 23)) (unsq (slotIn V (ch a 1) 30)) (accVal V (ch a 1) a 1)
/-- What is stored of it. -/
def outVal (a : Fin 16) (h : Fin 2) : Vec F S128x512 .f32 := k0_pay294 (agVal V a h)

/-! ## Atoms as resources -/

/-- A piece of some contents. -/
def some' (c : Dev nD) {s : Shape} {e : EltTy} (m : Memref sig .tc .vmem s e) : sProp 𝕄 := iprop(∃ X, owns (c : Thread nD τ) m fullShare X)

def res (c : Dev nD) : Atom → sProp 𝕄
  | .accJ r h => some' c (accM (ch c r) (hf h))
  | .accB r h => owns (c : Thread nD τ) (accM (ch c r) (hf h)) fullShare (accBase V c (ch c r) (hf h))
  | .acc r h => owns (c : Thread nD τ) (accM (ch c r) (hf h)) fullShare (accVal V c (ch c r) (hf h))
  | .slotJ j => some' c (slotM j)
  | .slotI j => owns (c : Thread nD τ) (slotM j) fullShare (slotIn V c j)
  | .slotS j => owns (c : Thread nD τ) (slotM j) fullShare (slotSum V c j)
  | .agJ r h => some' c (agM (ch c r) (hf h))
  | .agL r h => owns (c : Thread nD τ) (agM (ch c r) (hf h)) fullShare.left (agVal V (ch c r) (hf h))
  | .agR r h => owns (c : Thread nD τ) (agM (ch c r) (hf h)) fullShare.right (agVal V (ch c r) (hf h))
  | .outJ r h => some' c (outM (ch c r) (hf h))
  | .out r h => owns (c : Thread nD τ) (outM (ch c r) (hf h)) fullShare (outVal V (ch c r) (hf h))
  | .prJ => some' c (Memref.whole cc0_scratch1 : Memref sig .tc .vmem S2048x64 .f32)
  | .pr => owns (c : Thread nD τ) (Memref.whole cc0_scratch1 : Memref sig .tc .vmem S2048x64 .f32) fullShare (prob V c)
  | .tokL => dutyTok ER (barCell (lf c)) 0 true
  | .tokR => dutyTok ER (barCell (rt c)) 0 false
  | .barW => iprop(atPos ER (barCell c) 0 ∅ 0 ∗ cred (tallyAt (barCell c) () 2))
  | .barD => semVal (barCell c) 0
  | .snd j => iprop(dutyTok ER (sndCell c j) 0 false ∗ dutyTok ER (rcvCell (tgt c j) j) 0 false ∗ atPos ER (sndCell c j) 0 ∅ 0)
  | .sndF j => iprop(atPos ER (sndCell c j) 0 ∅ 0 ∗ cred (tallyAt (sndCell c j) () N))
  | .sndD j => semVal (sndCell c j) 0
  | .rcvW j => iprop(atPos ER (rcvCell c j) 0 ∅ 0 ∗ cred (tallyAt (rcvCell c j) () N))
  | .rcvD j => semVal (rcvCell c j) 0
  | .dst j => some' (tgt c j) (dstM (tgt c j) j)

/-- The atoms that a semaphore's invariant may hold: pieces. -/
def Piece : Atom → Prop
  | .acc _ _ | .slotI _ | .slotS _ | .slotJ _ | .agJ _ _ | .agL _ _ | .agR _ _ => True
  | _ => False

theorem storable_piece (c : Dev nD) {a : Atom} (h : Piece a) : BI.Storable (upEmb : UEmb _ 𝕄) (res V c a) := by
  cases a <;> first | exact h.elim | (unfold res; first | infer_instance | (unfold some'; infer_instance))

theorem storable_list (c : Dev nD) (l : List Atom) (h : ∀ a ∈ l, Piece a) : BI.Storable (upEmb : UEmb _ 𝕄) (bigSepL l (res V c)) := by
  induction l with
  | nil => exact (inferInstance : BI.Storable (upEmb : UEmb _ 𝕄) (iprop(emp) : sProp 𝕄))
  | cons a l ih =>
    rw [bigSepL_cons']
    have := storable_piece V c (h a (List.mem_cons_self ..))
    have := ih fun b hb => h b (List.mem_cons_of_mem _ hb)
    infer_instance

theorem piece_src (j : ℕ) : Piece (srcA j) := by unfold srcA; repeat' split
                                                 all_goals trivial
theorem piece_dst (j : ℕ) : Piece (dstA j) := by unfold dstA; split <;> trivial
theorem piece_land (j : ℕ) : ∀ a ∈ landA j, Piece a := by
  unfold landA; split <;> intro a ha <;> fin_cases ha <;> trivial

/-! ## The schedule -/

/-- The transfer whose send (`false`) or receive (`true`) semaphore has a number. -/
def role (n : ℕ) : Option (Bool × ℕ) :=
  match allJ.find? fun j => sndNo j == n with
  | some j => some (false, j)
  | none => (allJ.find? fun j => rcvNo j == n).map fun j => (true, j)

theorem role_snd : ∀ j ∈ allJ, role (sndS j).val = some (false, j) := by decide +kernel
theorem role_rcv : ∀ j ∈ allJ, role (rcvS j).val = some (true, j) := by decide +kernel

/-- What a barrier duty hands device `c`: the right neighbour's elements (`true`), the left's (`false`), that `c`'s transfers write. -/
def barPay (c : Dev nD) (d : Bool) : sProp 𝕄 :=
  if d then bigSepL ((allJ.filter fun j => toRight j).map dstA) (res V (rt c)) else bigSepL ((allJ.filter fun j => !toRight j).map dstA) (res V (lf c))

def dmaPay (c : Dev nD) (n : ℕ) : sProp 𝕄 :=
  match role n with
  | some (false, j) => res V c (srcA j)
  | some (true, j) => bigSepL (landA j) (res V c)
  | none => iprop(emp)

/-- One round, round 0: a barrier cell has the two duties of one unit each; a transfer's cell the duty `false` of its credit. -/
def ringRd : Rounds.Schedule (GSem nD τ sig) Bool 𝕄 where
  duties g r := if r = 0 ∧ g.1.2 = .tc then (match g.2 with | .reg _ => Finset.univ | .dma n => if (role n.val).isSome then {false} else ∅) else ∅
  unitless _ := False
  amount g _ _ := match g.2 with | .reg _ => 1 | .dma _ => N
  payload g _ d := match g.2 with | .reg _ => barPay V g.1.1 d | .dma n => dmaPay V g.1.1 n.val
  amount_pos g _ _ _ := by
    rcases g.2 with _ | _
    · exact Nat.one_pos
    · exact N_pos

theorem storable_bar (c : Dev nD) (d : Bool) : BI.Storable (upEmb : UEmb _ 𝕄) (barPay V c d) := by
  unfold barPay; split
  · exact storable_list V _ _ fun a ha => by obtain ⟨j, _, rfl⟩ := List.mem_map.mp ha; exact piece_dst j
  · exact storable_list V _ _ fun a ha => by obtain ⟨j, _, rfl⟩ := List.mem_map.mp ha; exact piece_dst j

theorem storable_dma (c : Dev nD) (n : ℕ) : BI.Storable (upEmb : UEmb _ 𝕄) (dmaPay V c n) := by
  unfold dmaPay; split
  · exact storable_piece V c (piece_src _)
  · exact storable_list V c _ (piece_land _)
  · infer_instance

instance ringRd_payload_storable (g : GSem nD τ sig) (r : ℕ) (d : Bool) :
    BI.Storable (upEmb : UEmb _ 𝕄) ((ringRd V).payload g r d) := by
  rcases g with ⟨t, s | n⟩
  · exact storable_bar V t.1 d
  · exact storable_dma V t.1 n.val

theorem duties_bar (c : Dev nD) : (ringRd V).duties (barCell c) 0 = Finset.univ := by dsimp only [ringRd]; exact if_pos ⟨rfl, rfl⟩
theorem duties_snd (c : Dev nD) {j : ℕ} (hj : j ∈ allJ) : (ringRd V).duties (sndCell c j) 0 = {false} := by
  dsimp only [ringRd]; rw [if_pos ⟨rfl, rfl⟩, role_snd j hj]; rfl
theorem duties_rcv (c : Dev nD) {j : ℕ} (hj : j ∈ allJ) : (ringRd V).duties (rcvCell c j) 0 = {false} := by
  dsimp only [ringRd]; rw [if_pos ⟨rfl, rfl⟩, role_rcv j hj]; rfl
theorem duties_later (g : GSem nD τ sig) : ∀ r, 1 ≤ r → (ringRd V).duties g r = ∅ :=
  fun r hr => by dsimp only [ringRd]; rw [if_neg fun h => by omega]

theorem payload_bar (c : Dev nD) (d : Bool) : (ringRd V).payload (barCell c) 0 d = barPay V c d := rfl
theorem payload_snd (c : Dev nD) {j : ℕ} (hj : j ∈ allJ) (d : Bool) : (ringRd V).payload (sndCell c j) 0 d = res V c (srcA j) := by
  show dmaPay V c (sndS j).val = _; unfold dmaPay; rw [role_snd j hj]
theorem payload_rcv (c : Dev nD) {j : ℕ} (hj : j ∈ allJ) (d : Bool) : (ringRd V).payload (rcvCell c j) 0 d = bigSepL (landA j) (res V c) := by
  show dmaPay V c (rcvS j).val = _; unfold dmaPay; rw [role_rcv j hj]

theorem expect_bar (c : Dev nD) : (ringRd V).expect (barCell c) 0 = 2 := by
  unfold Schedule.expect Schedule.amountOf
  rw [duties_bar, Finset.sum_congr rfl fun d _ => (show (ringRd V).amount (barCell c) 0 d = 1 from rfl), Finset.sum_const, Finset.card_univ, Fintype.card_bool, smul_eq_mul]
theorem expect_snd (c : Dev nD) {j : ℕ} (hj : j ∈ allJ) : (ringRd V).expect (sndCell c j) 0 = N := by
  unfold Schedule.expect Schedule.amountOf; rw [duties_snd V c hj, Finset.sum_singleton]; rfl
theorem expect_rcv (c : Dev nD) {j : ℕ} (hj : j ∈ allJ) : (ringRd V).expect (rcvCell c j) 0 = N := by
  unfold Schedule.expect Schedule.amountOf; rw [duties_rcv V c hj, Finset.sum_singleton]; rfl

/-! ## What is owed, and the levels -/

/-- What an event pays. -/
def due (c : Dev nD) : Ev → CellTallies nD τ sig Unit
  | .sig 0 => tallyAt (barCell (lf c)) () 1
  | .sig _ => tallyAt (barCell (rt c)) () 1
  | .send j => tallyAt (rcvCell (tgt c j) j) () N
  | _ => 0

/-- What a list of events still pays. -/
def owed (c : Dev nD) : List Ev → CellTallies nD τ sig Unit
  | [] => 0
  | e :: es => owed c es + due c e

/-- The step of a transfer, counted over both phases from 2. -/
def stepLv (j : ℕ) : ℕ := stp j + if grp j < 4 then 2 else 10

def L (g : GSem nD τ sig) : Finset Unit := if g.1.2 = .tc then {()} else ∅
/-- Barrier cells at 1, the receive cells at their steps, everything else at 0. -/
def lv (g : GSem nD τ sig) (_ : Unit) : ℕ := match g.2 with
  | .reg _ => 1
  | .dma n => match role n.val with | some (true, j) => stepLv j | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_rcv (c : Dev nD) {j : ℕ} (hj : j ∈ allJ) (u : Unit) : lv (rcvCell c j) u = stepLv j := by show (match role (rcvS j).val with | some (true, j) => stepLv j | _ => 0) = _; rw [role_rcv j hj]
theorem lv_snd (c : Dev nD) {j : ℕ} (hj : j ∈ allJ) (u : Unit) : lv (sndCell c j) u = 0 := by show (match role (sndS j).val with | some (true, j) => stepLv j | _ => 0) = _; rw [role_snd j hj]

/-- The level an event pays at; of an event that pays nothing, none. -/
def dueLv : Ev → Option ℕ
  | .sig _ => some 1
  | .send j => some (stepLv j)
  | _ => none

/-- The transfer an event names is one of the sixty. -/
def named : Ev → Bool
  | .send j | .waitS j | .waitR j => j ∈ allJ
  | _ => true

theorem due_pos {c : Dev nD} {e : Ev} (he : named e = true) {g : GSem nD τ sig} {u : Unit} (h : 0 < due c e g u) : g.1.2 = .tc ∧ dueLv e = some (lv g u) := by
  have key (g' : GSem nD τ sig) (n : ℕ) (h : 0 < (tallyAt g' () n : CellTallies nD τ sig Unit) g u) : g = g' := by
    rw [tallyAt_apply] at h
    by_contra hn
    rw [if_neg fun h' => hn h'.1] at h
    exact Nat.lt_irrefl 0 h
  cases e with
  | sig b =>
    rcases b with _ | b
    · obtain rfl := key _ _ h; exact ⟨rfl, rfl⟩
    · obtain rfl := key _ _ h; exact ⟨rfl, rfl⟩
  | send j => obtain rfl := key _ _ h; exact ⟨rfl, by rw [lv_rcv _ (by simpa [named] using he)]; rfl⟩
  | _ => exact absurd h (Nat.lt_irrefl 0)

theorem owed_pos {c : Dev nD} (es : List Ev) (hn : ∀ e ∈ es, named e = true) {g : GSem nD τ sig} {u : Unit} (h : 0 < owed c es g u) :
    g.1.2 = .tc ∧ ∃ e ∈ es, dueLv e = some (lv g u) := by
  induction es with
  | nil => exact absurd h (Nat.lt_irrefl 0)
  | cons e es ih =>
    rw [owed, Pi.add_apply, Finsupp.add_apply] at h
    rcases Nat.eq_zero_or_pos (owed c es g u) with h0 | h0
    · rw [h0, Nat.zero_add] at h
      have := due_pos (hn e (List.mem_cons_self ..)) h
      exact ⟨this.1, e, List.mem_cons_self .., this.2⟩
    · obtain ⟨h1, e', he', h2⟩ := ih (fun e he => hn e (List.mem_cons_of_mem _ he)) h0
      exact ⟨h1, e', List.mem_cons_of_mem _ he', h2⟩

/-- Everything still paid after an event lies above a level. -/
def above (k : ℕ) (es : List Ev) : Bool := es.all fun e => match dueLv e with | some l => k < l | none => true

/-- The order of the run: at every wait, everything still paid lies above it. -/
def ordered : List Ev → Bool
  | [] => true
  | e :: es => named e && (match e with | .waitB => above 1 es | .waitS _ => above 0 es | .waitR j => above (stepLv j) es | _ => true) && ordered es

theorem ordered_evs : ordered evs = true := by decide +kernel

theorem named_of_ordered {es : List Ev} (h : ordered es = true) : ∀ e ∈ es, named e = true := by
  induction es with
  | nil => intro e he; cases he
  | cons e es ih =>
    simp only [ordered, Bool.and_eq_true] at h
    intro e' he'
    rcases List.mem_cons.mp he' with rfl | he'
    · exact h.1.1
    · exact ih h.2 e' he'

theorem ordered_drop {es : List Ev} (h : ordered es = true) (n : ℕ) : ordered (es.drop n) = true := by
  induction es generalizing n with
  | nil => rw [List.drop_nil]; exact h
  | cons e es ih =>
    rcases n with _ | n
    · exact h
    · simp only [ordered, Bool.and_eq_true] at h
      exact ih h.2 n

/-- A wait at a level below everything still paid is admitted. -/
theorem mayWait {c : Dev nD} {sm : SemLoc sig} {es : List Ev} (k : ℕ) (hk : lv ((c : Thread nD τ), sm) () = k) (hn : ∀ e ∈ es, named e = true) (ha : above k es = true) :
    (levAts L lv : sProp 𝕄) ⊢ MayWait (c : Thread nD τ) sm () (owed c es) :=
  MayOwe.of_cut (L := L) (lev := lv) k (fun p hp => by rw [Finset.mem_singleton.mp hp, L_tc]; exact Finset.mem_singleton_self _)
    (fun g u hg => by rw [L, if_pos (owed_pos es hn hg).1]; exact Finset.mem_singleton_self _)
    (fun p hp => by rw [Finset.mem_singleton.mp hp]; exact hk.le)
    (fun g u hg => by
      obtain ⟨_, e, he, hl⟩ := owed_pos es hn hg
      have := List.all_eq_true.mp ha e he
      rw [hl] at this
      simpa using this)

/-! ## The state of a device -/

/-- The run's cells: the barrier, then the transfers' semaphores. -/
def csem (k : Fin 121) : SemLoc sig := if k.val = 0 then .reg barS else .dma ⟨(5 + k.val) % 126, Nat.mod_lt _ (by decide)⟩
abbrev kcell (ck : Dev nD × Fin 121) : GSem nD τ sig := ((ck.1 : Thread nD τ), csem ck.2)
/-- The index of a DMA semaphore's cell. -/
def kix (n : DmaSem sig) : Fin 121 := ⟨(n.val - 5) % 121, Nat.mod_lt _ (by decide)⟩

theorem csem_snd : ∀ j ∈ allJ, csem (kix (sndS j)) = .dma (sndS j) := by decide +kernel
theorem csem_rcv : ∀ j ∈ allJ, csem (kix (rcvS j)) = .dma (rcvS j) := by decide +kernel

/-- Every cell's invariant, under the names `K`, and that round 0 is reached. -/
def records (K : Dev nD × Fin 121 → ℕ) : sProp 𝕄 :=
  iprop((bigSep Finset.univ fun ck : Dev nD × Fin 121 => cellInv ER (ringRd V) (K ck) (kcell ck))
    ∗ bigSep Finset.univ fun ck : Dev nD × Fin 121 => reached ER (kcell ck) 0)

instance records_persistent (K : Dev nD × Fin 121 → ℕ) : BI.Persistent (records V K) := by unfold records; infer_instance

/-- The five operands' staging buffers, which the run only reads. -/
def ro (c : Dev nD) : sProp 𝕄 :=
  iprop(owns (c : Thread nD τ) (Memref.whole cc0_stg0_0 : Memref sig .tc .vmem S2048x512 .f32) fullShare (V c).x
    ∗ owns (c : Thread nD τ) (Memref.whole cc0_stg1_0 : Memref sig .tc .vmem S512x64 .f32) fullShare (V c).rw
    ∗ owns (c : Thread nD τ) (Memref.whole cc0_stg2_0 : Memref sig .tc .vmem S2048x1 .i32) fullShare (V c).idx
    ∗ owns (c : Thread nD τ) (Memref.whole cc0_stg3_0 : Memref sig .tc .vmem S4x512x1024 .f32) fullShare (V c).ew
    ∗ owns (c : Thread nD τ) (Memref.whole cc0_stg4_0 : Memref sig .tc .vmem S512x1024 .f32) fullShare (V c).sw)

/-- What a device holds beside its atoms, before the events `es`. -/
def basis (K : Dev nD × Fin 121 → ℕ) (c : Dev nD) (es : List Ev) : sProp 𝕄 :=
  iprop(records V K ∗ levAts L lv ∗ (∃ W, owes (c : Thread nD τ) (owed c es) W) ∗ ro V c)

/-- The state of device `c` with the events `es` still to come. -/
def St (K : Dev nD × Fin 121 → ℕ) (c : Dev nD) (es : List Ev) : sProp 𝕄 :=
  iprop(∃ n, ⌜evs.drop n = es⌝ ∗ bigSepL (held n) (res V c) ∗ basis V K c es)

theorem bigSepL_perm {I : Type} {l l' : List I} (h : l.Perm l') (Φ : I → sProp 𝕄) : bigSepL l Φ = bigSepL l' Φ := by
  induction h with
  | nil => rfl
  | cons a _ ih => rw [bigSepL_cons, bigSepL_cons, ih]
  | swap a b l =>
    rw [bigSepL_cons', bigSepL_cons', bigSepL_cons', bigSepL_cons']
    have swp (P Q R : sProp 𝕄) : iprop(P ∗ Q ∗ R) ⊢ iprop(Q ∗ P ∗ R) := BI.sep_assoc'.trans ((BI.sep_mono BI.sep_comm (BI.Entails.refl _)).trans BI.sep_assoc)
    exact (swp _ _ _).antisymm (swp _ _ _)
  | trans _ _ h1 h2 => exact h1.trans h2

/-- A list's chain as two lists' chains. -/
theorem bigSepL_parts {I : Type} {l a b : List I} (h : l.Perm (a ++ b)) (Φ : I → sProp 𝕄) : bigSepL l Φ = iprop(bigSepL a Φ ∗ bigSepL b Φ) := by
  rw [bigSepL_perm h, bigSepL_append]

theorem ok_drop (es : List Ev) (σ : List Atom) (h : ok es σ = true) (n : ℕ) : ok (es.drop n) (run (es.take n) σ) = true := by
  induction es generalizing n σ with
  | nil => rw [List.drop_nil, List.take_nil]; exact h
  | cons e es ih =>
    rcases n with _ | n
    · exact h
    · simp only [ok, Bool.and_eq_true] at h
      exact ih _ h.2 n

theorem held_succ {n : ℕ} {e : Ev} {es : List Ev} (h : evs.drop n = e :: es) : held (n + 1) = next e (held n) := by
  have hlt : n < evs.length := by
    by_contra hn
    rw [List.drop_eq_nil_of_le (Nat.le_of_not_lt hn)] at h
    cases h
  have he : evs[n] = e := by
    have := List.drop_eq_getElem_cons hlt
    rw [h] at this
    exact (List.cons.inj this).1.symm
  unfold held run
  rw [List.take_succ_eq_append_getElem hlt, List.foldl_append, he]
  rfl

theorem pre_held {n : ℕ} {e : Ev} {es : List Ev} (h : evs.drop n = e :: es) : (pre e).Subperm (held n) := by
  have := ok_drop evs start valid n
  rw [h] at this
  simp only [ok, Bool.and_eq_true] at this
  exact List.isSubperm_iff.mp this.1

variable {V}

/-- An event's atoms taken out of the state, to be put back, the event still to come; -/
theorem St_peek {K : Dev nD × Fin 121 → ℕ} {c : Dev nD} {e : Ev} {es : List Ev} :
    St V K c (e :: es) ⊢ iprop(⌜ordered (e :: es) = true⌝ ∗ bigSepL (pre e) (res V c) ∗ basis V K c (e :: es)
      ∗ ((bigSepL (pre e) (res V c) ∗ basis V K c (e :: es)) -∗ St V K c (e :: es))) := by
  unfold St
  iintro ⟨%n, %hn, Hσ, HB⟩
  have hp : (held n).Perm (pre e ++ (held n).diff (pre e)) := (List.subperm_append_diff_self_of_count_le (fun x hx => (pre_held hn).count_le x)).symm
  icases (Entails.of_eq (bigSepL_parts hp (res V c))) $$ Hσ with ⟨Hp, Hr⟩
  isplitr
  · ipureintro; rw [← hn]; exact ordered_drop ordered_evs n
  isplitl [Hp]; · iexact Hp
  isplitl [HB]; · iexact HB
  iintro ⟨Hp, HB⟩
  iexists n
  isplitr; · ipureintro; exact hn
  isplitl [Hp Hr]
  · iapply (Entails.of_eq (bigSepL_parts hp (res V c)).symm)
    isplitl [Hp] <;> iassumption
  iexact HB

/-- or for good, against what it leaves. -/
theorem St_step {K : Dev nD × Fin 121 → ℕ} {c : Dev nD} {e : Ev} {es : List Ev} :
    St V K c (e :: es) ⊢ iprop(⌜ordered (e :: es) = true⌝ ∗ bigSepL (pre e) (res V c) ∗ basis V K c (e :: es)
      ∗ ((bigSepL (post e) (res V c) ∗ basis V K c es) -∗ St V K c es)) := by
  unfold St
  iintro ⟨%n, %hn, Hσ, HB⟩
  have hp : (held n).Perm (pre e ++ (held n).diff (pre e)) := (List.subperm_append_diff_self_of_count_le (fun x hx => (pre_held hn).count_le x)).symm
  icases (Entails.of_eq (bigSepL_parts hp (res V c))) $$ Hσ with ⟨Hp, Hr⟩
  isplitr
  · ipureintro; rw [← hn]; exact ordered_drop ordered_evs n
  isplitl [Hp]; · iexact Hp
  isplitl [HB]; · iexact HB
  iintro ⟨Hp, HB⟩
  iexists (n + 1)
  isplitr
  · ipureintro; rw [← List.drop_drop, hn]; rfl
  isplitl [Hp Hr]
  · iapply (Entails.of_eq (bigSepL_parts (.of_eq (held_succ hn)) (res V c)).symm)
    isplitl [Hp] <;> iassumption
  iexact HB

end Cert.KProof

end
-- ==== Proof.Ghost.lean ====
/-
  The launch's ghost state: every cell's invariant allocated at once, each duty's token dealt to the device that pays it, and the
  launch's credit for what the devices owe.
-/
module

public import proofs.«01_k».proof.Proof.Proto
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## Lists of resources -/

theorem both {P Q : sProp 𝕄} (h₁ : P ⊢ Q) (h₂ : Q ⊢ P) : P = Q := h₁.antisymm h₂

theorem bigSep_cup {I : Type} [DecidableEq I] {s t : Finset I} (h : Disjoint s t) (Φ : I → sProp 𝕄) : bigSep (s ∪ t) Φ = iprop(bigSep s Φ ∗ bigSep t Φ) := BI.bigSep_union h
theorem bigSep_sub {I : Type} [DecidableEq I] {s t : Finset I} (h : t ⊆ s) (Φ : I → sProp 𝕄) : bigSep s Φ = iprop(bigSep t Φ ∗ bigSep (s \ t) Φ) := BI.bigSep_sdiff_split h

theorem bigSepL_congr' {I : Type} {l : List I} {Φ Ψ : I → sProp 𝕄} (h : ∀ i ∈ l, Φ i = Ψ i) : bigSepL l Φ = bigSepL l Ψ :=
  (bigSepL_mono fun i hi => Entails.of_eq (h i hi)).antisymm (bigSepL_mono fun i hi => Entails.of_eq (h i hi).symm)

theorem bigSepL_sep' {I : Type} [DecidableEq I] {l : List I} (hl : l.Nodup) (Φ Ψ : I → sProp 𝕄) :
    bigSepL l (fun i => iprop(Φ i ∗ Ψ i)) = iprop(bigSepL l Φ ∗ bigSepL l Ψ) := by
  rw [← bigSep_eq_bigSepL_of_eq l rfl hl, ← bigSep_eq_bigSepL_of_eq l rfl hl, ← bigSep_eq_bigSepL_of_eq l rfl hl]
  exact bigSep_sep' _ _ _

theorem bigSep_list {I : Type} {J : Type} [Fintype I] [DecidableEq I] (l : List J) (Φ : I → J → sProp 𝕄) :
    bigSep Finset.univ (fun i => bigSepL l (Φ i)) = bigSepL l fun j => bigSep Finset.univ fun i => Φ i j := by
  induction l with
  | nil =>
    refine both ?_ ?_
    · exact show (bigSep Finset.univ fun i : I => bigSepL [] (Φ i)) ⊢ (iprop(emp) : sProp 𝕄) by iintro -; iempintro
    · exact BI.bigSep_of_persistent (Finset.univ : Finset I) (iprop(emp) : sProp 𝕄)
  | cons j l ih =>
    rw [bigSepL_cons', ← ih, ← bigSep_sep']
    exact bigSep_congr fun i _ => bigSepL_cons' _ _ _

theorem allJ_nodup : allJ.Nodup := by decide +kernel

/-! ## The cells, listed -/

def cellList : List (Fin 121) := 0 :: (allJ.map (fun j => kix (sndS j)) ++ allJ.map fun j => kix (rcvS j))
theorem cells_all : (Finset.univ : Finset (Fin 121)) = cellList.toFinset := by decide +kernel
theorem cells_nodup : cellList.Nodup := by decide +kernel

theorem bigSep_cells (Φ : SemLoc sig → sProp 𝕄) :
    (bigSep Finset.univ fun k : Fin 121 => Φ (csem k)) = iprop(Φ (.reg barS) ∗ bigSepL allJ (fun j => Φ (.dma (sndS j))) ∗ bigSepL allJ fun j => Φ (.dma (rcvS j))) := by
  rw [bigSep_univ_eq_bigSepL cellList cells_all cells_nodup]
  unfold cellList
  rw [bigSepL_cons', bigSepL_append, bigSepL_map, bigSepL_map, bigSepL_congr' fun j hj => congrArg Φ (csem_snd j hj), bigSepL_congr' fun j hj => congrArg Φ (csem_rcv j hj)]
  rfl

/-- The transfers' semaphores are the kernel's own; the barrier's is the launch's. -/
def osem (k : Fin 120) : SemLoc sig := csem k.succ
def oix (n : DmaSem sig) : Fin 120 := ⟨(n.val - 6) % 120, Nat.mod_lt _ (by decide)⟩
def ownList : List (Fin 120) := allJ.map (fun j => oix (sndS j)) ++ allJ.map fun j => oix (rcvS j)
theorem osem_snd : ∀ j ∈ allJ, osem (oix (sndS j)) = .dma (sndS j) := by decide +kernel
theorem osem_rcv : ∀ j ∈ allJ, osem (oix (rcvS j)) = .dma (rcvS j) := by decide +kernel

theorem ownSems0_eq (c : Dev nD) : (Pipeline.ownSems0 (Ix := Unit) (Name := ℕ) (U := UU) (Lvl := ℕ) (Val := Elt F) (τ := τ) osem c : sProp 𝕄)
    = iprop(bigSepL allJ (fun j => semVal (sndCell c j) 0) ∗ bigSepL allJ fun j => semVal (rcvCell c j) 0) := by
  rw [Pipeline.ownSems0_eq_of_list c osem ownList (by decide +kernel) (by decide +kernel)]
  unfold ownList
  rw [bigSepL_append, bigSepL_map, bigSepL_map, bigSepL_congr' fun j hj => congrArg (fun sm => (semVal ((c : Thread nD τ), sm) 0 : sProp 𝕄)) (osem_snd j hj),
    bigSepL_congr' fun j hj => congrArg (fun sm => (semVal ((c : Thread nD τ), sm) 0 : sProp 𝕄)) (osem_rcv j hj)]

theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 121 => semVal (kcell (c, k)) 0 : sProp 𝕄) := by
  rw [ownSems0_eq, unscopedSems0_eq, show (bigSep Finset.univ fun k : Fin 121 => (semVal (kcell (c, k)) 0 : sProp 𝕄)) = _ from bigSep_cells fun sm => semVal ((c : Thread nD τ), sm) 0]
  iintro ⟨⟨HS, HV⟩, HB⟩
  isplitl [HB]; · iexact HB
  isplitl [HS] <;> iassumption

theorem csem_injective : Function.Injective csem := (by decide +kernel : ∀ k k', csem k = csem k' → k = k')

theorem kcell_injective : Function.Injective (kcell : Dev nD × Fin 121 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-! ## What the launch mints -/

def ringCells : Finset (GSem nD τ sig) := Finset.univ.map ⟨kcell, kcell_injective⟩

/-- Every cell's `false` token, and the barriers' `true` ones. -/
def tokF (ck : Dev nD × Fin 121) : GSem nD τ sig × ℕ × Bool := (kcell ck, 0, false)
def tokT (c : Dev nD) : GSem nD τ sig × ℕ × Bool := (barCell c, 0, true)
theorem tokF_injective : Function.Injective tokF := fun _ _ h => kcell_injective (congrArg Prod.fst h)
theorem tokT_injective : Function.Injective tokT := fun _ _ h => congrArg (fun x : GSem nD τ sig × ℕ × Bool => x.1.1.1) h
def toksF : Finset (GSem nD τ sig × ℕ × Bool) := Finset.univ.map ⟨tokF, tokF_injective⟩
def toksT : Finset (GSem nD τ sig × ℕ × Bool) := Finset.univ.map ⟨tokT, tokT_injective⟩
def ringToks : Finset (GSem nD τ sig × ℕ × Bool) := toksF ∪ toksT

theorem toks_disjoint : Disjoint toksF toksT := by
  rw [Finset.disjoint_left]
  intro x h1 h2
  obtain ⟨a, -, rfl⟩ := Finset.mem_map.mp h1
  obtain ⟨b, -, h⟩ := Finset.mem_map.mp h2
  exact absurd (congrArg (fun x : GSem nD τ sig × ℕ × Bool => x.2.2) h) (fun h => by cases h)

def u₀ : UU := (initOf (Pipeline.cells cfgs cellOf_inj) (Pipeline.launchToks cfgs cellOf_inj), initOf ringCells ringToks)

variable (V : Dev nD → Ins F)

/-- The duty tokens of device `c`'s own cells. -/
def toks (c : Dev nD) : sProp 𝕄 :=
  iprop((bigSep Finset.univ fun k : Fin 121 => dutyTok ER (kcell (c, k)) 0 false) ∗ dutyTok ER (barCell c) 0 true)

def G (c : Dev nD) : sProp 𝕄 :=
  iprop((bigSep Finset.univ fun k : Fin 121 => roundState ER (ringRd V) (kcell (c, k)) 0)
    ∗ (bigSep Finset.univ fun k : Fin 121 => atPos ER (kcell (c, k)) 0 ∅ 0) ∗ (bigSep Finset.univ fun k : Fin 121 => reached ER (kcell (c, k)) 0) ∗ toks c)

/-- What stays with device `c`: its positions, and the tokens of the duties it pays. -/
def linear (c : Dev nD) : sProp 𝕄 :=
  iprop(dutyTok ER (barCell (lf c)) 0 true ∗ dutyTok ER (barCell (rt c)) 0 false ∗ atPos ER (barCell c) 0 ∅ 0
    ∗ bigSepL allJ (fun j => iprop(dutyTok ER (sndCell c j) 0 false ∗ dutyTok ER (rcvCell (tgt c j) j) 0 false ∗ atPos ER (sndCell c j) 0 ∅ 0))
    ∗ bigSepL allJ (fun j => atPos ER (rcvCell c j) 0 ∅ 0))

def G' (c : Dev nD) : sProp 𝕄 := iprop(∃ K, records V K ∗ linear c)

theorem fund_ring : BI.own (ER (initOf ringCells ringToks)) ⊢ (|==> bigSep Finset.univ (G V) : sProp 𝕄) := by
  have hX (Φ : GSem nD τ sig → sProp 𝕄) : bigSep ringCells Φ = bigSep Finset.univ fun c : Dev nD => bigSep Finset.univ fun k : Fin 121 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks
    rw [bigSep_cup toks_disjoint, bigSep_sep']
    unfold toksF toksT; rw [bigSep_map, bigSep_map, bigSep_univ_prod]; rfl
  iintro HX
  imod (Rounds.fund ER (ringRd V) ringCells ringToks) $$ HX with ⟨Hst, Hr, Hat, Htok⟩
  imodintro
  ihave Hst' := (Entails.of_eq (hX fun g => roundState ER (ringRd V) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-- One device's counters become its cells' invariants. -/
theorem core_alloc (c : Dev nD) :
    iprop(Pipeline.ownSems0 (Ix := Unit) (Name := ℕ) (U := UU) (Lvl := ℕ) (Val := Elt F) (τ := τ) osem c ∗ unscopedSems0 c ∗ G V c)
      ⊢ |={Set.univ}=> iprop((bigSep Finset.univ fun k => iprop(∃ κ : ℕ, cellInv ER (ringRd V) κ (kcell (c, k))))
          ∗ (bigSep Finset.univ fun k : Fin 121 => atPos ER (kcell (c, k)) 0 ∅ 0) ∗ (bigSep Finset.univ fun k : Fin 121 => reached ER (kcell (c, k)) 0) ∗ toks c) := by
  unfold G
  iintro ⟨Hos, Hus, Hst, Hat, Hr, Htok⟩
  ihave Hv := (sems0_eq (F := F) c) $$ [Hos Hus]
  · isplitl [Hos] <;> iassumption
  imod (show iprop((bigSep Finset.univ fun k : Fin 121 => semVal (kcell (c, k)) 0) ∗ bigSep Finset.univ fun k : Fin 121 => roundState ER (ringRd V) (kcell (c, k)) 0)
      ⊢ (|={Set.univ}=> bigSep Finset.univ fun k => iprop(∃ κ : ℕ, cellInv ER (ringRd V) κ (kcell (c, k))) : sProp 𝕄) from by
        rw [← bigSep_sep']
        exact (bigSep_mono fun k _ => (Rounds.body_intro ER (ringRd V) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-! ## The tokens round the ring -/

def ringL : Dev nD ≃ Dev nD := ⟨lf, rt, rt_lf, lf_rt⟩
def ringR : Dev nD ≃ Dev nD := ⟨rt, lf, lf_rt, rt_lf⟩
def ringT (j : ℕ) : Dev nD ≃ Dev nD := ⟨fun c => tgt c j, fun c => frm c j, fun c => frm_tgt c j, fun c => tgt_frm c j⟩

/-- The tokens of the devices' own cells, dealt to the devices that pay. -/
theorem toks_around : (bigSep Finset.univ fun c : Dev nD => (toks c : sProp 𝕄))
    = iprop((bigSep Finset.univ fun c : Dev nD => dutyTok ER (barCell (lf c)) 0 true) ∗ (bigSep Finset.univ fun c : Dev nD => dutyTok ER (barCell (rt c)) 0 false)
      ∗ (bigSep Finset.univ fun c : Dev nD => bigSepL allJ fun j => dutyTok ER (sndCell c j) 0 false)
      ∗ bigSep Finset.univ fun c : Dev nD => bigSepL allJ fun j => dutyTok ER (rcvCell (tgt c j) j) 0 false) := by
  have h (c : Dev nD) : (bigSep Finset.univ fun k : Fin 121 => (dutyTok ER (kcell (c, k)) 0 false : sProp 𝕄)) = _ := bigSep_cells fun sm => dutyTok ER ((c : Thread nD τ), sm) 0 false
  unfold toks
  rw [bigSep_congr fun (c : Dev nD) _ => by rw [h c]]
  rw [bigSep_sep', bigSep_sep', bigSep_sep', bigSep_univ_equiv ringL (fun c : Dev nD => (dutyTok ER (barCell c) 0 true : sProp 𝕄)),
    bigSep_univ_equiv ringR (fun c : Dev nD => (dutyTok ER ((c : Thread nD τ), SemLoc.reg barS) 0 false : sProp 𝕄)),
    bigSep_list allJ (fun (c : Dev nD) j => (dutyTok ER ((c : Thread nD τ), SemLoc.dma (rcvS j)) 0 false : sProp 𝕄)),
    bigSepL_congr' (fun j _ => bigSep_univ_equiv (ringT j) (fun c : Dev nD => (dutyTok ER ((c : Thread nD τ), SemLoc.dma (rcvS j)) 0 false : sProp 𝕄))),
    ← bigSep_list allJ (fun (c : Dev nD) j => (dutyTok ER ((ringT j c : Thread nD τ), SemLoc.dma (rcvS j)) 0 false : sProp 𝕄))]
  refine both ?_ ?_
  · iintro ⟨⟨H1, H2, H3⟩, H4⟩
    isplitl [H4]; · iexact H4
    isplitl [H1]; · iexact H1
    isplitl [H2]; · iexact H2
    iexact H3
  · iintro ⟨H4, H1, H2, H3⟩
    isplitl [H1 H2 H3]
    · isplitl [H1]; · iexact H1
      isplitl [H2]; · iexact H2
      iexact H3
    iexact H4

theorem linear_eq : (bigSep Finset.univ fun c : Dev nD => (linear c : sProp 𝕄))
    = iprop((bigSep Finset.univ fun c : Dev nD => bigSep Finset.univ fun k : Fin 121 => atPos ER (kcell (c, k)) 0 ∅ 0) ∗ bigSep Finset.univ fun c : Dev nD => toks c) := by
  have h (c : Dev nD) : (bigSep Finset.univ fun k : Fin 121 => (atPos ER (kcell (c, k)) 0 ∅ 0 : sProp 𝕄)) = _ := bigSep_cells fun sm => atPos ER ((c : Thread nD τ), sm) 0 ∅ 0
  rw [toks_around, bigSep_congr fun (c : Dev nD) _ => h c]
  unfold linear
  simp only [bigSep_sep', bigSepL_sep' allJ_nodup]
  refine both ?_ ?_
  · iintro ⟨H1, H2, H3, ⟨H4, H5, H6⟩, H7⟩
    isplitl [H3 H6 H7]
    · isplitl [H3]; · iexact H3
      isplitl [H6] <;> iassumption
    isplitl [H1]; · iexact H1
    isplitl [H2]; · iexact H2
    isplitl [H4] <;> iassumption
  · iintro ⟨⟨H3, H6, H7⟩, H1, H2, H4, H5⟩
    isplitl [H1]; · iexact H1
    isplitl [H2]; · iexact H2
    isplitl [H3]; · iexact H3
    isplitl [H4 H5 H6]
    · isplitl [H4]; · iexact H4
      isplitl [H5] <;> iassumption
    iexact H7

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd V) κ (kcell (c, k))))
          ∗ (bigSep Finset.univ fun k : Fin 121 => atPos ER (kcell (c, k)) 0 ∅ 0) ∗ (bigSep Finset.univ fun k : Fin 121 => reached ER (kcell (c, k)) 0) ∗ toks c) : sProp 𝕄)
      ⊢ bigSep Finset.univ (G' V) := by
  rw [bigSep_sep', bigSep_sep', bigSep_sep', ← bigSep_univ_prod (fun ck : Dev nD × Fin 121 => iprop(∃ κ : ℕ, cellInv ER (ringRd V) κ (kcell ck))),
    ← bigSep_univ_prod (fun ck : Dev nD × Fin 121 => (reached ER (kcell ck) 0 : sProp 𝕄))]
  iintro ⟨HI, Hat, #HR, Htok⟩
  ihave HK := (BI.bigSep_exists_pi Finset.univ (fun (ck : Dev nD × Fin 121) (κ : ℕ) => (cellInv ER (ringRd V) κ (kcell ck) : sProp 𝕄))) $$ HI
  icases HK with ⟨%K, #HI⟩
  iapply (with_records (R := records V K) fun c _ => show iprop(records V K ∗ linear c) ⊢ G' V c by
    unfold G'; iintro H; iexists K; iexact H)
  isplitr
  · unfold records; isplitl; · iexact HI
    iexact HR
  · iapply (Entails.of_eq (linear_eq (F := F)).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G V c) : sProp 𝕄)
    ⊢ |={Set.univ}=> bigSep Finset.univ (G' V) :=
  ((bigSep_mono fun c _ => core_alloc V c).trans (bigSep_fupd _ _)).trans (BI.fupd_mono (regroup V))

/-! ## The launch's credit -/

def O₀ (d : Dev nD) : CellTallies nD τ sig Unit := owed d evs

def sigsL : List Ev → ℕ
  | [] => 0
  | .sig 0 :: es => sigsL es + 1
  | _ :: es => sigsL es
def sigsR : List Ev → ℕ
  | [] => 0
  | .sig (_ + 1) :: es => sigsR es + 1
  | _ :: es => sigsR es
def sends (es : List Ev) : List ℕ := es.filterMap fun | .send j => some j | _ => none
theorem sigsL_evs : sigsL evs = 1 := by decide +kernel
theorem sigsR_evs : sigsR evs = 1 := by decide +kernel
theorem sends_evs : ∀ j ∈ allJ, (sends evs).count j = 1 := by decide +kernel

theorem bar_eq_iff {a b : Dev nD} : barCell a = barCell b ↔ a = b :=
  ⟨fun h => congrArg (fun g : GSem nD τ sig => g.1.1) h, fun h => h ▸ rfl⟩
theorem rcv_eq_iff {a b : Dev nD} {i j : ℕ} (hi : i ∈ allJ) (hj : j ∈ allJ) : rcvCell a i = rcvCell b j ↔ a = b ∧ i = j := by
  refine ⟨fun h => ⟨congrArg (fun g : GSem nD τ sig => g.1.1) h, ?_⟩, fun h => by rw [h.1, h.2]⟩
  have h2 : rcvS i = rcvS j := SemLoc.dma.inj (congrArg Prod.snd h)
  have := role_rcv i hi
  rw [h2, role_rcv j hj] at this
  exact (congrArg Prod.snd (Option.some.inj this)).symm

theorem tally_at (g g' : GSem nD τ sig) (n : ℕ) : (tallyAt g' () n : CellTallies nD τ sig Unit) g () = if g = g' then n else 0 := by
  rw [tallyAt_apply]
  by_cases h : g = g'
  · rw [if_pos ⟨h, rfl⟩, if_pos h]
  · rw [if_neg fun h' => h h'.1, if_neg h]

theorem tally_bar (c x : Dev nD) : (tallyAt (barCell x) () 1 : CellTallies nD τ sig Unit) (barCell c) () = if x = c then 1 else 0 := by
  rw [tally_at]
  by_cases h : x = c
  · rw [if_pos h, if_pos (bar_eq_iff.mpr h.symm)]
  · rw [if_neg h, if_neg fun h' => h (bar_eq_iff.mp h').symm]

theorem owed_bar (d c : Dev nD) (es : List Ev) :
    owed d es (barCell c) () = sigsL es * (if lf d = c then 1 else 0) + sigsR es * (if rt d = c then 1 else 0) := by
  induction es with
  | nil => rw [show sigsL [] = 0 from rfl, show sigsR [] = 0 from rfl, Nat.zero_mul, Nat.zero_mul]; rfl
  | cons e es ih =>
    rw [owed, Pi.add_apply, Finsupp.add_apply, ih]
    cases e with
    | sig b =>
      rcases b with _ | b
      · rw [show due d (.sig 0) = tallyAt (barCell (lf d)) () 1 from rfl, tally_bar, show sigsL (.sig 0 :: es) = sigsL es + 1 from rfl, show sigsR (.sig 0 :: es) = sigsR es from rfl,
          Nat.add_mul, Nat.one_mul]
        exact Nat.add_right_comm ..
      · rw [show due d (.sig (b + 1)) = tallyAt (barCell (rt d)) () 1 from rfl, tally_bar, show sigsL (.sig (b + 1) :: es) = sigsL es from rfl,
          show sigsR (.sig (b + 1) :: es) = sigsR es + 1 from rfl, Nat.add_mul, Nat.one_mul]
        exact Nat.add_assoc ..
    | send j =>
      rw [show due d (.send j) = tallyAt (rcvCell (tgt d j) j) () N from rfl, tally_at, if_neg (show ¬barCell c = rcvCell (tgt d j) j from fun h => by cases congrArg Prod.snd h)]
      rfl
    | _ => rfl

theorem owed_rcv (d c : Dev nD) {j : ℕ} (hj : j ∈ allJ) (es : List Ev) (hn : ∀ e ∈ es, named e = true) :
    owed d es (rcvCell c j) () = (sends es).count j * (if d = frm c j then N else 0) := by
  induction es with
  | nil => rw [show (sends []).count j = 0 from rfl, Nat.zero_mul]; rfl
  | cons e es ih =>
    rw [owed, Pi.add_apply, Finsupp.add_apply, ih fun e he => hn e (List.mem_cons_of_mem _ he)]
    cases e with
    | sig b =>
      have h : ∀ x, (tallyAt (barCell x) () 1 : CellTallies nD τ sig Unit) (rcvCell c j) () = 0 := fun x => by rw [tally_at, if_neg fun h => by cases congrArg Prod.snd h]
      rcases b with _ | b
      · rw [show due d (.sig 0) = tallyAt (barCell (lf d)) () 1 from rfl, h]; rfl
      · rw [show due d (.sig (b + 1)) = tallyAt (barCell (rt d)) () 1 from rfl, h]; rfl
    | send i =>
      have hi : i ∈ allJ := by simpa [named] using hn (.send i) (List.mem_cons_self ..)
      rw [show due d (.send i) = tallyAt (rcvCell (tgt d i) i) () N from rfl, tally_at, show sends (.send i :: es) = i :: sends es from rfl, List.count_cons]
      by_cases hij : i = j
      · subst hij
        have : rcvCell c i = rcvCell (tgt d i) i ↔ d = frm c i := by
          rw [rcv_eq_iff hj hj]
          exact ⟨fun h => by rw [h.1, frm_tgt], fun h => ⟨by rw [h, tgt_frm], rfl⟩⟩
        simp only [this, beq_self_eq_true, if_true]
        rw [Nat.add_mul, Nat.one_mul]
      · rw [if_neg fun h => hij ((rcv_eq_iff hj hi).mp h).2.symm, if_neg (show ¬(i == j) = true by simpa using hij)]
        rfl
    | _ => rfl

theorem sum_lf : ∀ c : Dev nD, (∑ d : Dev nD, if lf d = c then 1 else 0) = 1 := by decide +kernel
theorem sum_rt : ∀ c : Dev nD, (∑ d : Dev nD, if rt d = c then 1 else 0) = 1 := by decide +kernel

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => show O₀ d (barCell c) () = _ from owed_bar d c evs, sigsL_evs, sigsR_evs]
  simp only [Nat.one_mul]
  rw [Finset.sum_add_distrib, sum_lf, sum_rt]

theorem launch_rcv (c : Dev nD) {j : ℕ} (hj : j ∈ allJ) :
    tallyOn (rcvCell c j) (launchCredit (Pipeline.owing O₀) 0 (rcvCell c j)) = (tallyAt (rcvCell c j) () N : CellTallies nD τ sig Unit) := by
  unfold tallyAt; refine congrArg _ (Finsupp.ext fun u => ?_); cases u
  rw [Pipeline.launchCredit_owing, Finsupp.single_eq_same, Finset.sum_congr rfl fun d _ => show O₀ d (rcvCell c j) () = _ from owed_rcv d c hj evs (named_of_ordered ordered_evs), sends_evs j hj]
  simp only [Nat.one_mul]
  rw [Finset.sum_ite_eq' Finset.univ (frm c j) fun _ => N, if_pos (Finset.mem_univ _)]

def credList : List (SemLoc sig) := .reg barS :: allJ.map fun j => .dma (rcvS j)
theorem credList_nodup : credList.Nodup := by decide +kernel

theorem creds (c : Dev nD) :
    (Pipeline.launchCred O₀ c : sProp 𝕄) ⊢ iprop(cred (tallyAt (barCell c) () 2) ∗ bigSepL allJ fun j => cred (tallyAt (rcvCell c j) () N)) := by
  unfold Pipeline.launchCred
  rw [bigSep_sub (Finset.subset_univ credList.toFinset), bigSep_eq_bigSepL_of_eq credList rfl credList_nodup]
  unfold credList
  rw [bigSepL_cons', bigSepL_map, launch_bar, bigSepL_congr' fun j hj => congrArg (fun t => (cred t : sProp 𝕄)) (launch_rcv c hj)]
  iintro ⟨H, -⟩
  iexact H

end Cert.KProof

end
-- ==== Proof.Rules1.lean ====
/-
  One rule per operation of the body, on a device's state (`St`): a load leaves the state as it is, and continues at the value
  the atoms say; a store, a signal, a transfer or a wait moves to the next event.
-/
module

public import proofs.«01_k».proof.Proof.Proto
public import Idealize.ShloMosaic.Lib.Pipeline.Value

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

abbrev PP (F : FTy → Type) (α : Type) := Prog (TpuEff nD τ sig (Elt F) Λ₀ .tc) α
/-- The weakest precondition of a program on device `c`. -/
abbrev WP (c : Dev nD) {α : Type} (p : PP F α) (Q : α → sProp 𝕄) : sProp 𝕄 :=
  wp frame (wpE (defs₀ (F := F)) 𝒱₀ (c : Thread nD τ) none) Set.univ p Q

/-! ## Loads and stores of owned memrefs -/

section Mem

variable {s : Shape} {e : EltTy} {c : Dev nD} {α : Type} {q : PosShare TreeShare}

/-- A load of a rectangle of an owned memref. -/
theorem ld_sub {Q : α → sProp 𝕄} {m : Memref sig .tc .vmem s e} {r : Rect s} {hl : m.view.LoadsAt r.toLoadRect} {k : (r.shape.Idx → Elt F e) → PP F α} (X : s.Idx → Elt F e) :
    (owns (c : Thread nD τ) m q X : sProp 𝕄) ⊢ iprop((owns (c : Thread nD τ) m q X -∗ WP c (k fun j => X (r.emb j)) Q) -∗ WP c (.op (.load m r.toLoadRect hl) k) Q) := by
  have h (f : Buf (Elt F) (m.view.loc (c : Thread nD τ))) : (m.view.loc (c : Thread nD τ) ↦[m.view.set]{q} f : sProp 𝕄)
      ⊢ iprop(((m.view.loc (c : Thread nD τ) ↦[m.view.set]{q} f) -∗ WP c (k fun j => m.view.read (Elt F) f (r.emb j)) Q) -∗ WP c (.op (.load m r.toLoadRect hl) k) Q) :=
    wp_load_rect 𝒱₀ (c : Thread nD τ) none Set.univ (m := m) (r := r) (S := m.view.set) (f := f) (View.set_slice_subset m.view r)
  unfold owns
  iintro ⟨%f, %hf, H⟩ Hk
  subst hf
  iapply (h f) $$ H
  iintro H
  iapply Hk
  iexists f; isplitr; · ipureintro; rfl
  iexact H

theorem ld_sub' {Q : α → sProp 𝕄} {m : Memref sig .tc .vmem s e} {r : Rect s} {hl : m.view.LoadsAt r.toLoadRect} {k : (r.shape.Idx → Elt F e) → PP F α} (X : s.Idx → Elt F e)
    (Y : r.shape.Idx → Elt F e) (hY : (fun j => X (r.emb j)) = Y) :
    (owns (c : Thread nD τ) m q X : sProp 𝕄) ⊢ iprop((owns (c : Thread nD τ) m q X -∗ WP c (k Y) Q) -∗ WP c (.op (.load m r.toLoadRect hl) k) Q) := by
  subst hY; exact ld_sub X

/-- A load of the owned rectangle of a memref. -/
theorem ld_piece {Q : α → sProp 𝕄} {m : Memref sig .tc .vmem s e} {r : Rect s} {hr : ∀ a, r.stride a = 1} {hl : m.view.LoadsAt r.toLoadRect} {k : (r.shape.Idx → Elt F e) → PP F α} (X : r.shape.Idx → Elt F e) :
    (owns (c : Thread nD τ) (m.slice r hr) q X : sProp 𝕄) ⊢ iprop((owns (c : Thread nD τ) (m.slice r hr) q X -∗ WP c (k X) Q) -∗ WP c (.op (.load m r.toLoadRect hl) k) Q) := by
  have h (f : Buf (Elt F) ((m.slice r hr).view.loc (c : Thread nD τ))) : ((m.slice r hr).view.loc (c : Thread nD τ) ↦[(m.slice r hr).view.set]{q} f : sProp 𝕄)
      ⊢ iprop((((m.slice r hr).view.loc (c : Thread nD τ) ↦[(m.slice r hr).view.set]{q} f) -∗ WP c (k ((m.slice r hr).view.read (Elt F) f)) Q) -∗ WP c (.op (.load m r.toLoadRect hl) k) Q) :=
    wp_load_rect 𝒱₀ (c : Thread nD τ) none Set.univ (subset_refl _)
  unfold owns
  iintro ⟨%f, %hf, H⟩ Hk
  subst hf
  iapply (h f) $$ H
  iintro H
  iapply Hk
  iexists f; isplitr; · ipureintro; rfl
  iexact H

/-- A store to the owned rectangle of a memref. -/
theorem st_piece {Q : α → sProp 𝕄} {m : Memref sig .tc .vmem s e} {r : Rect s} {hr : ∀ a, r.stride a = 1} {w : r.shape.Idx → Elt F e} {hx : (m.access r).Stores Finset.univ}
    {hm : (Finset.univ : Finset r.shape.Idx) = Finset.univ ∨ ∀ a, r.stride a = 1} {k : PUnit → PP F α} (X : r.shape.Idx → Elt F e) :
    (owns (c : Thread nD τ) (m.slice r hr) fullShare X : sProp 𝕄) ⊢ iprop((owns (c : Thread nD τ) (m.slice r hr) fullShare w -∗ WP c (k ⟨⟩) Q)
      -∗ WP c (.op (.store m r w Finset.univ hx hm) k) Q) := by
  have h (f : Buf (Elt F) ((m.slice r hr).view.loc (c : Thread nD τ))) : ((m.slice r hr).view.loc (c : Thread nD τ) ↦[(m.slice r hr).view.set]{fullShare} f : sProp 𝕄)
      ⊢ iprop((((m.slice r hr).view.loc (c : Thread nD τ) ↦[(m.slice r hr).view.set]{fullShare} ((m.slice r hr).view.write (Elt F) f w Finset.univ)) -∗ WP c (k ⟨⟩) Q)
        -∗ WP c (.op (.store m r w Finset.univ hx hm) k) Q) :=
    wp_store 𝒱₀ (c : Thread nD τ) none Set.univ (subset_refl _)
  unfold owns
  iintro ⟨%f, %hf, H⟩ Hk
  subst hf
  iapply (h f) $$ H
  iintro H
  iapply Hk
  iexists ((m.slice r hr).view.write (Elt F) f w Finset.univ); isplitr; · ipureintro; exact View.read_write_univ _ _
  iexact H

/-- A store to a whole memref through a rectangle that covers it. -/
theorem st_sub {Q : α → sProp 𝕄} {m : Memref sig .tc .vmem s e} {r : Rect s} {w : r.shape.Idx → Elt F e} {hx : (m.access r).Stores Finset.univ}
    {hm : (Finset.univ : Finset r.shape.Idx) = Finset.univ ∨ ∀ a, r.stride a = 1} {k : PUnit → PP F α} (X Y : s.Idx → Elt F e)
    (hY : ∀ f : m.view.ty.Contents (Elt F), m.view.read (Elt F) ((m.access r).write (Elt F) f w Finset.univ) = Y) :
    (owns (c : Thread nD τ) m fullShare X : sProp 𝕄) ⊢ iprop((owns (c : Thread nD τ) m fullShare Y -∗ WP c (k ⟨⟩) Q)
      -∗ WP c (.op (.store m r w Finset.univ hx hm) k) Q) := by
  have h (f : Buf (Elt F) (m.view.loc (c : Thread nD τ))) : (m.view.loc (c : Thread nD τ) ↦[m.view.set]{fullShare} f : sProp 𝕄)
      ⊢ iprop(((m.view.loc (c : Thread nD τ) ↦[m.view.set]{fullShare} ((m.access r).write (Elt F) f w Finset.univ)) -∗ WP c (k ⟨⟩) Q)
        -∗ WP c (.op (.store m r w Finset.univ hx hm) k) Q) :=
    wp_store 𝒱₀ (c : Thread nD τ) none Set.univ (m := m) (r := r) (S := m.view.set) (f := f) (View.set_slice_subset m.view r)
  unfold owns
  iintro ⟨%f, %hf, H⟩ Hk
  subst hf
  iapply (h f) $$ H
  iintro H
  iapply Hk
  iexists ((m.access r).write (Elt F) f w Finset.univ); isplitr; · ipureintro; exact hY f
  iexact H

/-- Loads and stores of a half chunk, of a chunk's rows, of a half of the columns, at a printed offset. -/
theorem ld_at {Q : α → sProp 𝕄} {m : Memref sig .tc .vmem S2048x1024 e} {a : Fin 16} {h : Fin 2} {o : Fin 2 → ℕ} (ho : o = offP a h) {hin}
    {hl : m.view.LoadsAt (Rect.unit (s := S2048x1024) o S128x512.size hin).toLoadRect} {k : (S128x512.Idx → Elt F e) → PP F α} (X : S128x512.Idx → Elt F e) :
    (owns (c : Thread nD τ) (m.slice (rP a h) (fun _ => rfl)) q X : sProp 𝕄) ⊢ iprop((owns (c : Thread nD τ) (m.slice (rP a h) (fun _ => rfl)) q X -∗ WP c (k X) Q)
      -∗ WP c (.op (.load m (Rect.unit (s := S2048x1024) o S128x512.size hin).toLoadRect hl) k) Q) := by
  subst ho; exact ld_piece (m := m) (r := Rect.unit (s := S2048x1024) (offP a h) S128x512.size hin) (hl := hl) (k := k) X

theorem st_at {Q : α → sProp 𝕄} {m : Memref sig .tc .vmem S2048x1024 e} {a : Fin 16} {h : Fin 2} {o : Fin 2 → ℕ} (ho : o = offP a h) {hin} {w : S128x512.Idx → Elt F e}
    {hx : (m.access (Rect.unit (s := S2048x1024) o S128x512.size hin)).Stores Finset.univ} {hm} {k : PUnit → PP F α} (X : S128x512.Idx → Elt F e) :
    (owns (c : Thread nD τ) (m.slice (rP a h) (fun _ => rfl)) fullShare X : sProp 𝕄) ⊢ iprop((owns (c : Thread nD τ) (m.slice (rP a h) (fun _ => rfl)) fullShare w -∗ WP c (k ⟨⟩) Q)
      -∗ WP c (.op (.store m (Rect.unit (s := S2048x1024) o S128x512.size hin) w Finset.univ hx hm) k) Q) := by
  subst ho; exact st_piece (m := m) (r := Rect.unit (s := S2048x1024) (offP a h) S128x512.size hin) (hx := hx) (hm := hm) (k := k) X

theorem ld_rowsX {Q : α → sProp 𝕄} {m : Memref sig .tc .vmem S2048x512 e} {a : Fin 16} {o : Fin 2 → ℕ} (ho : o = offR a) {hin}
    {hl : m.view.LoadsAt (Rect.unit (s := S2048x512) o S128x512.size hin).toLoadRect} {k : (S128x512.Idx → Elt F e) → PP F α} (X : S2048x512.Idx → Elt F e) :
    (owns (c : Thread nD τ) m q X : sProp 𝕄) ⊢ iprop((owns (c : Thread nD τ) m q X -∗ WP c (k (rowsX X a)) Q)
      -∗ WP c (.op (.load m (Rect.unit (s := S2048x512) o S128x512.size hin).toLoadRect hl) k) Q) := by
  subst ho; exact ld_sub' (m := m) (r := Rect.unit (s := S2048x512) (offR a) S128x512.size hin) (hl := hl) (k := k) X (rowsX X a) rfl

theorem ld_rowsI {Q : α → sProp 𝕄} {m : Memref sig .tc .vmem S2048x1 e} {a : Fin 16} {o : Fin 2 → ℕ} (ho : o = offR a) {hin}
    {hl : m.view.LoadsAt (Rect.unit (s := S2048x1) o S128x1.size hin).toLoadRect} {k : (S128x1.Idx → Elt F e) → PP F α} (X : S2048x1.Idx → Elt F e) :
    (owns (c : Thread nD τ) m q X : sProp 𝕄) ⊢ iprop((owns (c : Thread nD τ) m q X -∗ WP c (k (rowsI X a)) Q)
      -∗ WP c (.op (.load m (Rect.unit (s := S2048x1) o S128x1.size hin).toLoadRect hl) k) Q) := by
  subst ho; exact ld_sub' (m := m) (r := Rect.unit (s := S2048x1) (offR a) S128x1.size hin) (hl := hl) (k := k) X (rowsI X a) rfl

theorem ld_rowsQ {Q : α → sProp 𝕄} {m : Memref sig .tc .vmem S2048x64 e} {a : Fin 16} {o : Fin 2 → ℕ} (ho : o = offR a) {hin}
    {hl : m.view.LoadsAt (Rect.unit (s := S2048x64) o S128x64.size hin).toLoadRect} {k : (S128x64.Idx → Elt F e) → PP F α} (X : S2048x64.Idx → Elt F e) :
    (owns (c : Thread nD τ) m q X : sProp 𝕄) ⊢ iprop((owns (c : Thread nD τ) m q X -∗ WP c (k (rowsQ X a)) Q)
      -∗ WP c (.op (.load m (Rect.unit (s := S2048x64) o S128x64.size hin).toLoadRect hl) k) Q) := by
  subst ho; exact ld_sub' (m := m) (r := Rect.unit (s := S2048x64) (offR a) S128x64.size hin) (hl := hl) (k := k) X (rowsQ X a) rfl

theorem ld_colsE {Q : α → sProp 𝕄} {m : Memref sig .tc .vmem S4x512x1024 e} {h : Fin 2} {o : Fin 3 → ℕ} (ho : o = offE h) {hin}
    {hl : m.view.LoadsAt (Rect.unit (s := S4x512x1024) o S4x512x512.size hin).toLoadRect} {k : (S4x512x512.Idx → Elt F e) → PP F α} (X : S4x512x1024.Idx → Elt F e) :
    (owns (c : Thread nD τ) m q X : sProp 𝕄) ⊢ iprop((owns (c : Thread nD τ) m q X -∗ WP c (k (colsE X h)) Q)
      -∗ WP c (.op (.load m (Rect.unit (s := S4x512x1024) o S4x512x512.size hin).toLoadRect hl) k) Q) := by
  subst ho; exact ld_sub' (m := m) (r := Rect.unit (s := S4x512x1024) (offE h) S4x512x512.size hin) (hl := hl) (k := k) X (colsE X h) rfl

theorem ld_colsS {Q : α → sProp 𝕄} {m : Memref sig .tc .vmem S512x1024 e} {h : Fin 2} {o : Fin 2 → ℕ} (ho : o = offS h) {hin}
    {hl : m.view.LoadsAt (Rect.unit (s := S512x1024) o S512x512.size hin).toLoadRect} {k : (S512x512.Idx → Elt F e) → PP F α} (X : S512x1024.Idx → Elt F e) :
    (owns (c : Thread nD τ) m q X : sProp 𝕄) ⊢ iprop((owns (c : Thread nD τ) m q X -∗ WP c (k (colsS X h)) Q)
      -∗ WP c (.op (.load m (Rect.unit (s := S512x1024) o S512x512.size hin).toLoadRect hl) k) Q) := by
  subst ho; exact ld_sub' (m := m) (r := Rect.unit (s := S512x1024) (offS h) S512x512.size hin) (hl := hl) (k := k) X (colsS X h) rfl

end Mem

section Slot

variable {c : Dev nD} {α : Type} {q : PosShare TreeShare}

theorem unsq_sq (v : Vec F S1x128x512 .bf16) : unsq (sq v) = v := shapeCast_shapeCast v _ _
theorem sq_unsq (v : Vec F S128x512 .bf16) : sq (unsq v) = v := shapeCast_shapeCast v _ _

abbrev Sn (n : ℕ) : Shape := ⟨3, ![n, 128, 512]⟩
abbrev slotR {n : ℕ} (off : Fin 3 → ℕ) (hin : ∀ i, off i + S1x128x512.size i ≤ (Sn n).size i) : Rect (Sn n) := Rect.unit (s := Sn n) off S1x128x512.size hin
/-- The slot at an offset of a landing buffer. -/
abbrev slotAt {n : ℕ} (m : Memref sig .tc .vmem (Sn n) .bf16) (off : Fin 3 → ℕ) (hin : ∀ i, off i + S1x128x512.size i ≤ (Sn n).size i) : Memref sig .tc .vmem S128x512 .bf16 :=
  (m.slice (slotR off hin) (fun _ => rfl)).squeeze S128x512 squeezes_S1x128x512_S128x512

variable {n : ℕ} {m : Memref sig .tc .vmem (Sn n) .bf16} {off : Fin 3 → ℕ} {hin : ∀ i, off i + S1x128x512.size i ≤ (Sn n).size i}

theorem eq_of (A B : sProp 𝕄) (h₁ : A ⊢ B) (h₂ : B ⊢ A) : A = B := BI.equiv_iff.mp ⟨h₁, h₂⟩

/-- A slot owned is its slab owned. -/
theorem owns_slotAt (X : S128x512.Idx → Elt F .bf16) :
    (owns (c : Thread nD τ) (slotAt m off hin) q X : sProp 𝕄) = owns (c : Thread nD τ) (m.slice (slotR off hin) (fun _ => rfl)) q (unsq (F := F) X) := by
  have hread (f : m.view.ty.Contents (Elt F)) : (slotAt m off hin).view.read (Elt F) f = sq (F := F) ((m.slice (slotR off hin) (fun _ => rfl)).view.read (Elt F) f) := rfl
  have hset : (slotAt m off hin).view.set = (m.slice (slotR off hin) (fun _ => rfl)).view.set := View.set_reshape _ _
  unfold owns
  rw [hset]
  refine eq_of _ _ ?_ ?_
  · iintro ⟨%f, %hf, H⟩
    iexists f; isplitr
    · ipureintro; rw [← hf, hread, unsq_sq]
    iexact H
  · iintro ⟨%f, %hf, H⟩
    iexists f; isplitr
    · ipureintro; rw [hread, hf, sq_unsq]
    iexact H

/-- A load of an owned slot of a landing buffer. -/
theorem ld_slot {Q : α → sProp 𝕄} {hl : m.view.LoadsAt (slotR off hin).toLoadRect} {k : (S1x128x512.Idx → Elt F .bf16) → PP F α} (X : S128x512.Idx → Elt F .bf16) :
    (owns (c : Thread nD τ) (slotAt m off hin) q X : sProp 𝕄) ⊢ iprop((owns (c : Thread nD τ) (slotAt m off hin) q X -∗ WP c (k (unsq X)) Q)
      -∗ WP c (.op (.load m (slotR off hin).toLoadRect hl) k) Q) := by
  rw [owns_slotAt]; exact ld_piece _

/-- A store to an owned slot. -/
theorem st_slot {Q : α → sProp 𝕄} {w : S1x128x512.Idx → Elt F .bf16} {hx : (m.access (slotR off hin)).Stores Finset.univ}
    {hm : (Finset.univ : Finset (slotR off hin).shape.Idx) = Finset.univ ∨ ∀ a, (slotR off hin).stride a = 1}
    {k : PUnit → PP F α} (X : S128x512.Idx → Elt F .bf16) :
    (owns (c : Thread nD τ) (slotAt m off hin) fullShare X : sProp 𝕄) ⊢ iprop((owns (c : Thread nD τ) (slotAt m off hin) fullShare (sq (F := F) w) -∗ WP c (k ⟨⟩) Q)
      -∗ WP c (.op (.store m (slotR off hin) w Finset.univ hx hm) k) Q) := by
  rw [owns_slotAt, owns_slotAt, unsq_sq]; exact st_piece _

/-- The same of a memref named otherwise. -/
theorem ld_slotM {M : Memref sig .tc .vmem S128x512 .bf16} (hM : slotAt m off hin = M) {Q : α → sProp 𝕄} {hl : m.view.LoadsAt (slotR off hin).toLoadRect}
    {k : (S1x128x512.Idx → Elt F .bf16) → PP F α} (X : S128x512.Idx → Elt F .bf16) :
    (owns (c : Thread nD τ) M q X : sProp 𝕄) ⊢ iprop((owns (c : Thread nD τ) M q X -∗ WP c (k (unsq X)) Q) -∗ WP c (.op (.load m (slotR off hin).toLoadRect hl) k) Q) := by
  subst hM; exact ld_slot X

theorem st_slotM {M : Memref sig .tc .vmem S128x512 .bf16} (hM : slotAt m off hin = M) {Q : α → sProp 𝕄} {w : S1x128x512.Idx → Elt F .bf16} {hx : (m.access (slotR off hin)).Stores Finset.univ}
    {hm : (Finset.univ : Finset (slotR off hin).shape.Idx) = Finset.univ ∨ ∀ a, (slotR off hin).stride a = 1}
    {k : PUnit → PP F α} (X : S128x512.Idx → Elt F .bf16) :
    (owns (c : Thread nD τ) M fullShare X : sProp 𝕄) ⊢ iprop((owns (c : Thread nD τ) M fullShare (sq (F := F) w) -∗ WP c (k ⟨⟩) Q)
      -∗ WP c (.op (.store m (slotR off hin) w Finset.univ hx hm) k) Q) := by
  subst hM; exact st_slot X

end Slot

end Cert.KProof

end
-- ==== Proof.Rules2.lean ====
/-
  The rules for the body's loads and stores.
-/
module

public import proofs.«01_k».proof.Proof.Rules1

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable {V : Dev nD → Ins F} {K : Dev nD × Fin 121 → ℕ} {c : Dev nD} {es : List Ev}

/-! ## The state opened at one atom -/

/-- One element of a chain, and the way back. -/
theorem bigSepL_at {I : Type} {a : I} {l : List I} (h : a ∈ l) (Φ : I → sProp 𝕄) : bigSepL l Φ ⊢ iprop(Φ a ∗ (Φ a -∗ bigSepL l Φ)) := by
  classical
  have e := Entails.of_eq (bigSepL_parts (a := [a]) (b := l.erase a) (List.perm_cons_erase h) Φ)
  have e' := Entails.of_eq (bigSepL_parts (a := [a]) (b := l.erase a) (List.perm_cons_erase h) Φ).symm
  have s1 : bigSepL [a] Φ ⊢ Φ a := Entails.of_eq (bigSepL_singleton a Φ)
  have s2 : Φ a ⊢ bigSepL [a] Φ := Entails.of_eq (bigSepL_singleton a Φ).symm
  iintro H
  icases e $$ H with ⟨Ha, Hr⟩
  isplitl [Ha]; · iapply s1; iexact Ha
  iintro Ha
  iapply e'
  isplitl [Ha]; · iapply s2; iexact Ha
  iexact Hr

/-- An operation that only looks at one atom of the next event; -/
theorem peek {e : Ev} {B G : sProp 𝕄} (a : Atom) (ha : a ∈ pre e) (hr : res V c a ⊢ iprop((res V c a -∗ B) -∗ G)) (h : St V K c (e :: es) ⊢ B) : St V K c (e :: es) ⊢ G := by
  refine St_peek.trans ?_
  iintro ⟨-, Hp, HB, Hc⟩
  icases (bigSepL_at ha (res V c)) $$ Hp with ⟨Ha, Hr⟩
  iapply hr $$ Ha
  iintro Ha
  iapply h
  iapply Hc
  isplitl [Ha Hr]
  · iapply Hr; iexact Ha
  iexact HB

/-- one that only looks at the operands; -/
theorem peekRo {e : Ev} {A B G : sProp 𝕄} (ho : ro V c ⊢ iprop(A ∗ (A -∗ ro V c))) (hr : A ⊢ iprop((A -∗ B) -∗ G)) (h : St V K c (e :: es) ⊢ B) : St V K c (e :: es) ⊢ G := by
  refine St_peek.trans ?_
  unfold basis
  iintro ⟨-, Hp, ⟨HR, HL, HO, Hro⟩, Hc⟩
  icases ho $$ Hro with ⟨Ha, Hr⟩
  iapply hr $$ Ha
  iintro Ha
  iapply h
  iapply Hc
  isplitl [Hp]; · iexact Hp
  isplitl [HR]; · iexact HR
  isplitl [HL]; · iexact HL
  isplitl [HO]; · iexact HO
  iapply Hr; iexact Ha

/-- one that turns an atom of the event into others, the rest of the event's atoms staying. -/
theorem step {e : Ev} {B G : sProp 𝕄} (a : Atom) (b rest : List Atom) (hpre : (pre e).Perm ([a] ++ rest)) (hpost : (post e).Perm (b ++ rest)) (hd : due c e = 0)
    (hr : res V c a ⊢ iprop((bigSepL b (res V c) -∗ B) -∗ G)) (h : St V K c es ⊢ B) : St V K c (e :: es) ⊢ G := by
  have e1 := Entails.of_eq (bigSepL_parts hpre (res V c))
  have e2 := Entails.of_eq (bigSepL_parts hpost (res V c)).symm
  have hb : basis V K c (e :: es) ⊢ basis V K c es := Entails.of_eq (by unfold basis; rw [owed, hd, add_zero])
  have s1 : bigSepL [a] (res V c) ⊢ res V c a := Entails.of_eq (bigSepL_singleton a _)
  refine St_step.trans ?_
  iintro ⟨-, Hp, HB, Hc⟩
  icases e1 $$ Hp with ⟨Ha, Hr⟩
  ihave Ha := s1 $$ Ha
  iapply hr $$ Ha
  iintro Hb
  iapply h
  iapply Hc
  isplitl [Hb Hr]
  · iapply e2; isplitl [Hb] <;> iassumption
  iapply hb; iexact HB

/-! ## The operands -/

section Ro

theorem ro_x : ro V c ⊢ iprop(owns (c : Thread nD τ) (Memref.whole cc0_stg0_0 : Memref sig .tc .vmem S2048x512 .f32) fullShare (V c).x
    ∗ (owns (c : Thread nD τ) (Memref.whole cc0_stg0_0 : Memref sig .tc .vmem S2048x512 .f32) fullShare (V c).x -∗ ro V c)) := by
  unfold ro; iintro ⟨H0, H1, H2, H3, H4⟩; isplitl [H0]; · iexact H0
  iintro H0; isplitl [H0]; · iexact H0
  isplitl [H1]; · iexact H1
  isplitl [H2]; · iexact H2
  isplitl [H3] <;> iassumption
theorem ro_rw : ro V c ⊢ iprop(owns (c : Thread nD τ) (Memref.whole cc0_stg1_0 : Memref sig .tc .vmem S512x64 .f32) fullShare (V c).rw
    ∗ (owns (c : Thread nD τ) (Memref.whole cc0_stg1_0 : Memref sig .tc .vmem S512x64 .f32) fullShare (V c).rw -∗ ro V c)) := by
  unfold ro; iintro ⟨H0, H1, H2, H3, H4⟩; isplitl [H1]; · iexact H1
  iintro H1; isplitl [H0]; · iexact H0
  isplitl [H1]; · iexact H1
  isplitl [H2]; · iexact H2
  isplitl [H3] <;> iassumption
theorem ro_idx : ro V c ⊢ iprop(owns (c : Thread nD τ) (Memref.whole cc0_stg2_0 : Memref sig .tc .vmem S2048x1 .i32) fullShare (V c).idx
    ∗ (owns (c : Thread nD τ) (Memref.whole cc0_stg2_0 : Memref sig .tc .vmem S2048x1 .i32) fullShare (V c).idx -∗ ro V c)) := by
  unfold ro; iintro ⟨H0, H1, H2, H3, H4⟩; isplitl [H2]; · iexact H2
  iintro H2; isplitl [H0]; · iexact H0
  isplitl [H1]; · iexact H1
  isplitl [H2]; · iexact H2
  isplitl [H3] <;> iassumption
theorem ro_ew : ro V c ⊢ iprop(owns (c : Thread nD τ) (Memref.whole cc0_stg3_0 : Memref sig .tc .vmem S4x512x1024 .f32) fullShare (V c).ew
    ∗ (owns (c : Thread nD τ) (Memref.whole cc0_stg3_0 : Memref sig .tc .vmem S4x512x1024 .f32) fullShare (V c).ew -∗ ro V c)) := by
  unfold ro; iintro ⟨H0, H1, H2, H3, H4⟩; isplitl [H3]; · iexact H3
  iintro H3; isplitl [H0]; · iexact H0
  isplitl [H1]; · iexact H1
  isplitl [H2]; · iexact H2
  isplitl [H3] <;> iassumption
theorem ro_sw : ro V c ⊢ iprop(owns (c : Thread nD τ) (Memref.whole cc0_stg4_0 : Memref sig .tc .vmem S512x1024 .f32) fullShare (V c).sw
    ∗ (owns (c : Thread nD τ) (Memref.whole cc0_stg4_0 : Memref sig .tc .vmem S512x1024 .f32) fullShare (V c).sw -∗ ro V c)) := by
  unfold ro; iintro ⟨H0, H1, H2, H3, H4⟩; isplitl [H4]; · iexact H4
  iintro H4; isplitl [H0]; · iexact H0
  isplitl [H1]; · iexact H1
  isplitl [H2]; · iexact H2
  isplitl [H3] <;> iassumption

end Ro

section Rules

variable {α : Type} {Q : α → sProp (MM F)} {r h : ℕ} {off : Dev nD → Fin 2 → ℕ}

theorem hz : (![0, 0] : Fin 2 → ℕ) = fun _ => 0 := funext fun a => by fin_cases a <;> rfl

/-! ### The probabilities -/

theorem r_ldX0 {hin} {hl} {k : (S2048x512.Idx → Elt F .f32) → PP F α} (hk : St V K c (.probs :: es) ⊢ WP c (k (V c).x) Q) :
    St V K c (.probs :: es) ⊢ WP c (.op (.load (Memref.whole cc0_stg0_0 : Memref sig .tc .vmem S2048x512 .f32) (Rect.unit (s := S2048x512) ![0, 0] S2048x512.size hin).toLoadRect hl) k) Q := by
  exact peekRo ro_x (ld_sub' _ _ (Memref.readAt_unit_zero (Elt F) cc0_stg0_0 hz _ _)) hk

theorem r_ldRw0 {hin} {hl} {k : (S512x64.Idx → Elt F .f32) → PP F α} (hk : St V K c (.probs :: es) ⊢ WP c (k (V c).rw) Q) :
    St V K c (.probs :: es) ⊢ WP c (.op (.load (Memref.whole cc0_stg1_0 : Memref sig .tc .vmem S512x64 .f32) (Rect.unit (s := S512x64) ![0, 0] S512x64.size hin).toLoadRect hl) k) Q := by
  exact peekRo ro_rw (ld_sub' _ _ (Memref.readAt_unit_zero (Elt F) cc0_stg1_0 hz _ _)) hk

/-- A load of what may hold anything. -/
theorem ld_some {s : Shape} {e : EltTy} {m : Memref sig .tc .vmem s e} {B : (s.Idx → Elt F e) → sProp 𝕄} {G : sProp 𝕄}
    (hr : ∀ X, owns (c : Thread nD τ) m fullShare X ⊢ iprop((owns (c : Thread nD τ) m fullShare X -∗ B X) -∗ G)) :
    (some' c m : sProp 𝕄) ⊢ iprop((some' c m -∗ ∀ X, B X) -∗ G) := by
  unfold some'
  iintro ⟨%X, H⟩ Hk
  iapply (hr X) $$ H
  iintro H
  ihave Hk := Hk $$ [H]
  · iexists X; iexact H
  iapply Hk

theorem r_ldPr0 {hin} {hl} {k : (S2048x64.Idx → Elt F .f32) → PP F α} (hk : ∀ X, St V K c (.probs :: es) ⊢ WP c (k X) Q) :
    St V K c (.probs :: es) ⊢ WP c (.op (.load (Memref.whole cc0_scratch1 : Memref sig .tc .vmem S2048x64 .f32) (Rect.unit (s := S2048x64) ![0, 0] S2048x64.size hin).toLoadRect hl) k) Q :=
  peek .prJ (List.mem_singleton_self _) (ld_some (fun X => ld_sub X)) (forall_intro fun X => hk _)

/-- What holds anything, overwritten. -/
theorem st_some {s : Shape} {e : EltTy} {m : Memref sig .tc .vmem s e} {w : s.Idx → Elt F e} {B G : sProp 𝕄} {b : Atom} (hb : res V c b = owns (c : Thread nD τ) m fullShare w)
    (hr : ∀ X, owns (c : Thread nD τ) m fullShare X ⊢ iprop((owns (c : Thread nD τ) m fullShare w -∗ B) -∗ G)) :
    (some' c m : sProp 𝕄) ⊢ iprop((bigSepL [b] (res V c) -∗ B) -∗ G) := by
  have hb' : owns (c : Thread nD τ) m fullShare w ⊢ bigSepL [b] (res V c) := Entails.of_eq (by rw [bigSepL_singleton, hb])
  unfold some'
  iintro ⟨%X, H⟩ Hk
  iapply (hr X) $$ H
  iintro H
  iapply Hk
  iapply hb'; iexact H

/-- A piece, overwritten. -/
theorem st_one {s : Shape} {e : EltTy} {m : Memref sig .tc .vmem s e} {w : s.Idx → Elt F e} {A B G : sProp 𝕄} {b : Atom} (hb : res V c b = owns (c : Thread nD τ) m fullShare w)
    (hr : A ⊢ iprop((owns (c : Thread nD τ) m fullShare w -∗ B) -∗ G)) :
    A ⊢ iprop((bigSepL [b] (res V c) -∗ B) -∗ G) := by
  rw [bigSepL_singleton, hb]; exact hr

theorem r_stPr {hin} {hx} {hm} {w : S2048x64.Idx → Elt F .f32} {k : PUnit → PP F α} (hw : w = prob V c) (hk : St V K c es ⊢ WP c (k ⟨⟩) Q) :
    St V K c (.probs :: es) ⊢ WP c (.op (.store (Memref.whole cc0_scratch1 : Memref sig .tc .vmem S2048x64 .f32) (Rect.unit (s := S2048x64) ![0, 0] S2048x64.size hin) w Finset.univ hx hm) k) Q := by
  subst hw
  refine step .prJ [.pr] [] (.refl _) (.refl _) rfl (st_some (m := Memref.whole cc0_scratch1) rfl fun X => st_sub _ _ fun f => ?_) hk
  simp only [Memref.view_whole, View.read_whole]
  exact Memref.write_access_unit_zero_univ (Elt F) cc0_scratch1 hz _ _ _

/-! ### A half chunk's partial sum -/

theorem r_ldX {r h : ℕ} {off : Dev nD → Fin 2 → ℕ} {hin} {hl} {k : (S128x512.Idx → Elt F .f32) → PP F α} (ho : ∀ c, off c = offR (ch c r)) (hk : St V K c (.store r h :: es) ⊢ WP c (k (rowsX (V c).x (ch c r))) Q) :
    St V K c (.store r h :: es) ⊢ WP c (.op (.load (Memref.whole cc0_stg0_0 : Memref sig .tc .vmem S2048x512 .f32) (Rect.unit (s := S2048x512) (off c) S128x512.size hin).toLoadRect hl) k) Q :=
  peekRo ro_x (ld_rowsX (ho c) _) hk

theorem r_ldI {r h : ℕ} {off : Dev nD → Fin 2 → ℕ} {hin} {hl} {k : (S128x1.Idx → Elt F .i32) → PP F α} (ho : ∀ c, off c = offR (ch c r)) (hk : St V K c (.store r h :: es) ⊢ WP c (k (rowsI (V c).idx (ch c r))) Q) :
    St V K c (.store r h :: es) ⊢ WP c (.op (.load (Memref.whole cc0_stg2_0 : Memref sig .tc .vmem S2048x1 .i32) (Rect.unit (s := S2048x1) (off c) S128x1.size hin).toLoadRect hl) k) Q :=
  peekRo ro_idx (ld_rowsI (ho c) _) hk

theorem r_ldQ {r h : ℕ} {off : Dev nD → Fin 2 → ℕ} {hin} {hl} {k : (S128x64.Idx → Elt F .f32) → PP F α} (ho : ∀ c, off c = offR (ch c r)) (hk : St V K c (.store r h :: es) ⊢ WP c (k (rowsQ (prob V c) (ch c r))) Q) :
    St V K c (.store r h :: es) ⊢ WP c (.op (.load (Memref.whole cc0_scratch1 : Memref sig .tc .vmem S2048x64 .f32) (Rect.unit (s := S2048x64) (off c) S128x64.size hin).toLoadRect hl) k) Q :=
  peek .pr (List.mem_cons_of_mem _ (List.mem_singleton_self _)) (ld_rowsQ (m := Memref.whole cc0_scratch1) (ho c) (prob V c)) hk

theorem r_ldE {r h : ℕ} {o : Fin 3 → ℕ} {hin} {hl} {k : (S4x512x512.Idx → Elt F .f32) → PP F α} (ho : o = offE (hf h)) (hk : St V K c (.store r h :: es) ⊢ WP c (k (colsE (V c).ew (hf h))) Q) :
    St V K c (.store r h :: es) ⊢ WP c (.op (.load (Memref.whole cc0_stg3_0 : Memref sig .tc .vmem S4x512x1024 .f32) (Rect.unit (s := S4x512x1024) o S4x512x512.size hin).toLoadRect hl) k) Q :=
  peekRo ro_ew (ld_colsE ho _) hk

theorem r_ldAccJ {r h : ℕ} {off : Dev nD → Fin 2 → ℕ} {hin} {hl} {k : (S128x512.Idx → Elt F .bf16) → PP F α} (ho : ∀ c, off c = offP (ch c r) (hf h)) (hk : ∀ X, St V K c (.store r h :: es) ⊢ WP c (k X) Q) :
    St V K c (.store r h :: es) ⊢ WP c (.op (.load (Memref.whole cc0_scratch0 : Memref sig .tc .vmem S2048x1024 .bf16) (Rect.unit (s := S2048x1024) (off c) S128x512.size hin).toLoadRect hl) k) Q :=
  peek (.accJ r h) (List.mem_cons_self ..) (ld_some (m := accM (ch c r) (hf h)) fun X => ld_at (ho c) X) (forall_intro fun X => hk _)

theorem r_stAcc {r h : ℕ} {off : Dev nD → Fin 2 → ℕ} {hin} {hx} {hm} {w : S128x512.Idx → Elt F .bf16} {k : PUnit → PP F α} (ho : ∀ c, off c = offP (ch c r) (hf h))
    (hw : w = accBase V c (ch c r) (hf h)) (hk : St V K c es ⊢ WP c (k ⟨⟩) Q) :
    St V K c (.store r h :: es) ⊢ WP c (.op (.store (Memref.whole cc0_scratch0 : Memref sig .tc .vmem S2048x1024 .bf16) (Rect.unit (s := S2048x1024) (off c) S128x512.size hin) w Finset.univ hx hm) k) Q :=
  step (.accJ r h) [.accB r h] [.pr] (.refl _) (.refl _) rfl (st_some (m := accM (ch c r) (hf h)) (by rw [hw]; rfl) fun X => st_at (ho c) X) hk

/-! ### The shared part, on device 0 -/

theorem accVal_zero (hc : c = 0) {a : Fin 16} {h : Fin 2} : accVal V c a h = k0_pay10 (k0_pay4 (rowsX (V c).x a)) (accBase V c a h) (colsS (V c).sw h) := by
  unfold accVal; rw [if_pos hc]
theorem accVal_ne (hc : c ≠ 0) {a : Fin 16} {h : Fin 2} : accVal V c a h = accBase V c a h := by
  unfold accVal; rw [if_neg hc]

theorem r_shAcc {r h : ℕ} {off : Dev nD → Fin 2 → ℕ} {hin} {hl} {k : (S128x512.Idx → Elt F .bf16) → PP F α} (ho : off c = offP (ch c r) (hf h))
    (hk : St V K c (.shared r h :: es) ⊢ WP c (k (accBase V c (ch c r) (hf h))) Q) :
    St V K c (.shared r h :: es) ⊢ WP c (.op (.load (Memref.whole cc0_scratch0 : Memref sig .tc .vmem S2048x1024 .bf16) (Rect.unit (s := S2048x1024) (off c) S128x512.size hin).toLoadRect hl) k) Q :=
  peek (.accB r h) (List.mem_cons_self ..) (ld_at (m := Memref.whole cc0_scratch0) ho (accBase V c (ch c r) (hf h))) hk

theorem r_shSw {r h : ℕ} {o : Fin 2 → ℕ} {hin} {hl} {k : (S512x512.Idx → Elt F .f32) → PP F α} (ho : o = offS (hf h)) (hk : St V K c (.shared r h :: es) ⊢ WP c (k (colsS (V c).sw (hf h))) Q) :
    St V K c (.shared r h :: es) ⊢ WP c (.op (.load (Memref.whole cc0_stg4_0 : Memref sig .tc .vmem S512x1024 .f32) (Rect.unit (s := S512x1024) o S512x512.size hin).toLoadRect hl) k) Q :=
  peekRo ro_sw (ld_colsS ho _) hk

theorem r_shSt {r h : ℕ} {off : Dev nD → Fin 2 → ℕ} {hin} {hx} {hm} {w : S128x512.Idx → Elt F .bf16} {k : PUnit → PP F α} (hc : c = 0) (ho : off c = offP (ch c r) (hf h))
    (hw : w = k0_pay10 (k0_pay4 (rowsX (V c).x (ch c r))) (accBase V c (ch c r) (hf h)) (colsS (V c).sw (hf h))) (hk : St V K c es ⊢ WP c (k ⟨⟩) Q) :
    St V K c (.shared r h :: es) ⊢ WP c (.op (.store (Memref.whole cc0_scratch0 : Memref sig .tc .vmem S2048x1024 .bf16) (Rect.unit (s := S2048x1024) (off c) S128x512.size hin) w Finset.univ hx hm) k) Q :=
  step (.accB r h) [.acc r h] [] (.refl _) (.refl _) rfl
    (st_one (m := accM (ch c r) (hf h)) (w := w) (by rw [hw, ← accVal_zero hc]; rfl) (st_at (m := Memref.whole cc0_scratch0) ho (accBase V c (ch c r) (hf h)))) hk

/-- Every other device's product is its partial sum. -/
theorem shared_skip {r h : ℕ} (hc : c ≠ 0) {B : sProp 𝕄} (hk : St V K c es ⊢ B) : St V K c (.shared r h :: es) ⊢ B :=
  step (.accB r h) [.acc r h] [] (.refl _) (.refl _) rfl
    (by
      have e : res V c (.accB r h) ⊢ bigSepL [.acc r h] (res V c) := Entails.of_eq (by show _ = res V c (.acc r h); show owns _ _ _ _ = owns _ _ _ _; rw [accVal_ne hc])
      iintro H Hk
      iapply Hk
      iapply e; iexact H) hk

/-- The block a device enters under a condition. -/
theorem r_if {r h : ℕ} {p : Prop} [Decidable p] {T : p → PP F PUnit} {E : ¬p → PP F PUnit} {k : PUnit → PP F α}
    (hp : p ↔ c = 0)
    (ht : ∀ (hp : p) (Q' : PUnit → sProp 𝕄), c = 0 → (St V K c es ⊢ Q' ⟨⟩) → St V K c (.shared r h :: es) ⊢ WP c (T hp) Q')
    (he : ∀ (hp : ¬p), E hp = .ret ⟨⟩)
    (hk : St V K c es ⊢ WP c (k ⟨⟩) Q) :
    St V K c (.shared r h :: es) ⊢ WP c (dite p T E >>= k) Q := by
  rw [WP, wp_bind]
  by_cases hc : p
  · rw [dif_pos hc]
    exact ht hc _ (hp.mp hc) hk
  · rw [dif_neg hc, he]
    exact (shared_skip (fun h => hc (hp.mpr h)) hk).trans (le_wp_ret frame (wpE (defs₀ (F := F)) 𝒱₀ (c : Thread nD τ) none) _ _ _)

/-! ### A reduce-scatter step's addition, and the totals -/

theorem r_slot {e : Ev} {j n : ℕ} {m : Memref sig .tc .vmem (Sn n) .bf16} {o : Fin 3 → ℕ} {hin} {hl} {k : (S1x128x512.Idx → Elt F .bf16) → PP F α} (hj : Atom.slotI j ∈ pre e)
    (hM : slotAt m o hin = slotM j) (hk : St V K c (e :: es) ⊢ WP c (k (unsq (slotIn V c j))) Q) :
    St V K c (e :: es) ⊢ WP c (.op (.load m (Rect.unit (s := Sn n) o S1x128x512.size hin).toLoadRect hl) k) Q :=
  peek (.slotI j) hj (ld_slotM hM (slotIn V c j)) hk

theorem r_add_slot {j n : ℕ} {m : Memref sig .tc .vmem (Sn n) .bf16} {o : Fin 3 → ℕ} {hin} {hl} {k : (S1x128x512.Idx → Elt F .bf16) → PP F α}
    (hM : slotAt m o hin = slotM j) (hk : St V K c (.add j :: es) ⊢ WP c (k (unsq (slotIn V c j))) Q) :
    St V K c (.add j :: es) ⊢ WP c (.op (.load m (Rect.unit (s := Sn n) o S1x128x512.size hin).toLoadRect hl) k) Q :=
  r_slot (List.mem_cons_self ..) hM hk

theorem r_acc {off : Dev nD → Fin 2 → ℕ} {e : Ev} {r h : ℕ} {hin} {hl} {k : (S128x512.Idx → Elt F .bf16) → PP F α} (hj : Atom.acc r h ∈ pre e) (ho : ∀ c, off c = offP (ch c r) (hf h))
    (hk : St V K c (e :: es) ⊢ WP c (k (accVal V c (ch c r) (hf h))) Q) :
    St V K c (e :: es) ⊢ WP c (.op (.load (Memref.whole cc0_scratch0 : Memref sig .tc .vmem S2048x1024 .bf16) (Rect.unit (s := S2048x1024) (off c) S128x512.size hin).toLoadRect hl) k) Q :=
  peek (.acc r h) hj (ld_at (m := Memref.whole cc0_scratch0) (ho c) (accVal V c (ch c r) (hf h))) hk

theorem r_add_acc {off : Dev nD → Fin 2 → ℕ} {j : ℕ} {hin} {hl} {k : (S128x512.Idx → Elt F .bf16) → PP F α} (ho : ∀ c, off c = offP (ch c (srcRel (j + 1))) (hf (half j)))
    (hk : St V K c (.add j :: es) ⊢ WP c (k (accVal V c (ch c (srcRel (j + 1))) (hf (half j)))) Q) :
    St V K c (.add j :: es) ⊢ WP c (.op (.load (Memref.whole cc0_scratch0 : Memref sig .tc .vmem S2048x1024 .bf16) (Rect.unit (s := S2048x1024) (off c) S128x512.size hin).toLoadRect hl) k) Q :=
  r_acc (List.mem_cons_of_mem _ (List.mem_cons_self ..)) ho hk

theorem r_add_st {j n : ℕ} {m : Memref sig .tc .vmem (Sn n) .bf16} {o : Fin 3 → ℕ} {hin} {hx} {hm} {w : S1x128x512.Idx → Elt F .bf16} {k : PUnit → PP F α}
    (hM : slotAt m o hin = slotM j) (hw : w = k0_pay72 (unsq (slotIn V c j)) (accVal V c (ch c (srcRel (j + 1))) (hf (half j)))) (hk : St V K c es ⊢ WP c (k ⟨⟩) Q) :
    St V K c (.add j :: es) ⊢ WP c (.op (.store m (Rect.unit (s := Sn n) o S1x128x512.size hin) w Finset.univ hx hm) k) Q :=
  step (.slotI j) [.slotS j] [.acc (srcRel (j + 1)) (half j)] (.refl _) (.refl _) rfl
    (st_one (m := slotM j) (w := sq (F := F) w) (by rw [hw]; rfl) (st_slotM hM (slotIn V c j))) hk

theorem r_finJ {off : Dev nD → Fin 2 → ℕ} {b r h : ℕ} {hin} {hl} {k : (S128x512.Idx → Elt F .bf16) → PP F α} (hj : Atom.agJ r h ∈ pre (.fin b)) (ho : ∀ c, off c = offP (ch c r) (hf h))
    (hk : ∀ X, St V K c (.fin b :: es) ⊢ WP c (k X) Q) :
    St V K c (.fin b :: es) ⊢ WP c (.op (.load (Memref.whole cc0_scratch2 : Memref sig .tc .vmem S2048x1024 .bf16) (Rect.unit (s := S2048x1024) (off c) S128x512.size hin).toLoadRect hl) k) Q :=
  peek (.agJ r h) hj (ld_some (m := agM (ch c r) (hf h)) fun X => ld_at (ho c) X) (forall_intro fun X => hk _)

/-- A piece at the full share is the piece at both halves. -/
theorem owns_halves {s : Shape} {e : EltTy} (m : Memref sig .tc .vmem s e) (X : s.Idx → Elt F e) :
    (owns (c : Thread nD τ) m fullShare X : sProp 𝕄) ⊢ iprop(owns (c : Thread nD τ) m fullShare.left X ∗ owns (c : Thread nD τ) m fullShare.right X) := by
  have h (f : Buf (Elt F) (m.view.loc (c : Thread nD τ))) : (m.view.loc (c : Thread nD τ) ↦[m.view.set]{fullShare} f : sProp 𝕄)
      ⊢ iprop((m.view.loc (c : Thread nD τ) ↦[m.view.set]{fullShare.left} f) ∗ (m.view.loc (c : Thread nD τ) ↦[m.view.set]{fullShare.right} f)) :=
    (pointsTo_share (PosShare.mem_left_op_right fullShare)).1
  unfold owns
  iintro ⟨%f, %hf, H⟩
  icases (h f) $$ H with ⟨H1, H2⟩
  isplitl [H1]
  · iexists f; isplitr; · ipureintro; exact hf
    iexact H1
  · iexists f; isplitr; · ipureintro; exact hf
    iexact H2

theorem r_finSt {off : Dev nD → Fin 2 → ℕ} {b r h : ℕ} {rest : List Atom} {hin} {hx} {hm} {w : S128x512.Idx → Elt F .bf16} {k : PUnit → PP F α}
    (hpre : (pre (.fin b)).Perm ([Atom.agJ r h] ++ rest)) (hpost : (post (.fin b)).Perm ([Atom.agL r h, .agR r h] ++ rest)) (ho : ∀ c, off c = offP (ch c r) (hf h))
    (hw : w = agVal V (ch c r) (hf h)) (hk : St V K c es ⊢ WP c (k ⟨⟩) Q) :
    St V K c (.fin b :: es) ⊢ WP c (.op (.store (Memref.whole cc0_scratch2 : Memref sig .tc .vmem S2048x1024 .bf16) (Rect.unit (s := S2048x1024) (off c) S128x512.size hin) w Finset.univ hx hm) k) Q := by
  subst hw
  have e2 : iprop(res V c (.agL r h) ∗ res V c (.agR r h)) ⊢ bigSepL [.agL r h, .agR r h] (res V c) :=
    BI.Entails.refl _
  refine step (.agJ r h) [.agL r h, .agR r h] rest hpre hpost rfl ?_ hk
  show some' c (agM (ch c r) (hf h)) ⊢ _
  unfold some'
  iintro ⟨%X, H⟩ Hk
  iapply (st_at (m := Memref.whole cc0_scratch2) (ho c) X) $$ H
  iintro H
  iapply Hk
  iapply e2
  iapply (owns_halves (c := c) (agM (ch c r) (hf h)) (agVal V (ch c r) (hf h))); iexact H

/-! ### The result -/

theorem r_outL {off : Dev nD → Fin 2 → ℕ} {r h : ℕ} {hin} {hl} {k : (S128x512.Idx → Elt F .bf16) → PP F α} (ho : ∀ c, off c = offP (ch c r) (hf h))
    (hk : St V K c (.out r h 0 :: es) ⊢ WP c (k (agVal V (ch c r) (hf h))) Q) :
    St V K c (.out r h 0 :: es) ⊢ WP c (.op (.load (Memref.whole cc0_scratch2 : Memref sig .tc .vmem S2048x1024 .bf16) (Rect.unit (s := S2048x1024) (off c) S128x512.size hin).toLoadRect hl) k) Q :=
  peek (.agL r h) (List.mem_cons_self ..) (ld_at (m := Memref.whole cc0_scratch2) (ho c) (agVal V (ch c r) (hf h))) hk

theorem r_outR {off : Dev nD → Fin 2 → ℕ} {r h : ℕ} {hin} {hl} {k : (S128x512.Idx → Elt F .bf16) → PP F α} (ho : ∀ c, off c = offP (ch c r) (hf h))
    (hk : St V K c (.out r h 1 :: es) ⊢ WP c (k (agVal V (ch c r) (hf h))) Q) :
    St V K c (.out r h 1 :: es) ⊢ WP c (.op (.load (Memref.whole cc0_scratch2 : Memref sig .tc .vmem S2048x1024 .bf16) (Rect.unit (s := S2048x1024) (off c) S128x512.size hin).toLoadRect hl) k) Q :=
  peek (.agR r h) (List.mem_cons_self ..) (ld_at (m := Memref.whole cc0_scratch2) (ho c) (agVal V (ch c r) (hf h))) hk

theorem pre_out (r h b : ℕ) : ∃ a, pre (.out r h b) = [a, .outJ r h] ∧ post (.out r h b) = [a, .out r h] := by
  rcases b with _ | b
  · exact ⟨_, rfl, rfl⟩
  · exact ⟨_, rfl, rfl⟩

theorem r_outJ {off : Dev nD → Fin 2 → ℕ} {r h b : ℕ} {hin} {hl} {k : (S128x512.Idx → Elt F .f32) → PP F α} (ho : ∀ c, off c = offP (ch c r) (hf h))
    (hk : ∀ X, St V K c (.out r h b :: es) ⊢ WP c (k X) Q) :
    St V K c (.out r h b :: es) ⊢ WP c (.op (.load (Memref.whole cc0_stg5_0 : Memref sig .tc .vmem S2048x1024 .f32) (Rect.unit (s := S2048x1024) (off c) S128x512.size hin).toLoadRect hl) k) Q := by
  obtain ⟨a, ha, -⟩ := pre_out r h b
  exact peek (.outJ r h) (by rw [ha]; exact List.mem_cons_of_mem _ (List.mem_cons_self ..)) (ld_some (m := outM (ch c r) (hf h)) fun X => ld_at (ho c) X) (forall_intro fun X => hk _)

theorem r_outSt {off : Dev nD → Fin 2 → ℕ} {r h b : ℕ} {hin} {hx} {hm} {w : S128x512.Idx → Elt F .f32} {k : PUnit → PP F α} (ho : ∀ c, off c = offP (ch c r) (hf h))
    (hw : w = outVal V (ch c r) (hf h)) (hk : St V K c es ⊢ WP c (k ⟨⟩) Q) :
    St V K c (.out r h b :: es) ⊢ WP c (.op (.store (Memref.whole cc0_stg5_0 : Memref sig .tc .vmem S2048x1024 .f32) (Rect.unit (s := S2048x1024) (off c) S128x512.size hin) w Finset.univ hx hm) k) Q := by
  obtain ⟨a, ha, hb⟩ := pre_out r h b
  exact step (.outJ r h) [.out r h] [a] (by rw [ha]; exact .swap ..) (by rw [hb]; exact .swap ..) rfl
    (st_some (m := outM (ch c r) (hf h)) (by rw [hw]; rfl) fun X => st_at (ho c) X) hk

end Rules

end Cert.KProof

end
-- ==== Proof.Pieces.lean ====
/-
  A device's buffers as the pieces the run works on: each of the three 2048 × 1024 buffers as thirty-two half chunks, each landing
  buffer as its slots; and the same pieces put back together.
-/
module

public import proofs.«01_k».proof.Proof.Ghost
public import proofs.«01_k».proof.Proof.Rules2
public import Idealize.ShloMosaic.Lib.Memref

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## A buffer as its pieces -/

theorem some_intro {s : Shape} {e : EltTy} (c : Dev nD) (m : Memref sig .tc .vmem s e) (X : s.Idx → Elt F e) :
    (owns (c : Thread nD τ) m fullShare X : sProp 𝕄) ⊢ some' c m := by
  unfold some'; iintro H; iexists X; iexact H

section Rects

variable {s : Shape} {e : EltTy} {T : Type} [Fintype T] [DecidableEq T] (c : Dev nD) (m : Memref sig .tc .vmem s e)
  (r : T → Rect s) (hr : ∀ t a, (r t).stride a = 1) (hd : ∀ t t', t ≠ t' → Disjoint (r t).set (r t').set)
  (hcov : (Finset.univ : Finset T).biUnion (fun t => (r t).set) = Finset.univ)

include hd hcov in
/-- Pieces at known contents make the whole at the contents put together. -/
theorem owns_join (q : PosShare TreeShare) (Z : (t : T) → (r t).shape.Idx → Elt F e) :
    (bigSep Finset.univ fun t => owns (c : Thread nD τ) (m.slice (r t) (hr t)) q (Z t) : sProp 𝕄)
      ⊢ owns (c : Thread nD τ) m q (Rect.glue r hcov Z) := by
  have h : (fun t => owns (c : Thread nD τ) (m.slice (r t) (hr t)) q (Z t) : T → sProp 𝕄)
      = fun t => owns (c : Thread nD τ) (m.slice (r t) (hr t)) q (fun j => Rect.glue r hcov Z ((r t).emb j)) :=
    funext fun t => congrArg _ (funext fun j => (Rect.glue_emb r hcov hd Z t j).symm)
  rw [h]
  exact owns_of_rects (c : Thread nD τ) m q r hr hd hcov _

include hd hcov in
/-- A buffer at some contents is its pieces, each at some contents. -/
theorem some_rects : (some' c m : sProp 𝕄) = bigSep Finset.univ fun t => some' c (m.slice (r t) (hr t)) := by
  refine both ?_ ?_
  · unfold some'
    iintro ⟨%X, H⟩
    have h1 : (owns (c : Thread nD τ) m fullShare X : sProp 𝕄) ⊢ bigSep Finset.univ fun t => some' c (m.slice (r t) (hr t)) :=
      (owns_rects (c : Thread nD τ) m fullShare r hr hd hcov X).trans (bigSep_mono fun t _ => some_intro c (m.slice (r t) (hr t)) fun j => X ((r t).emb j))
    iapply h1; iexact H
  · have h1 : (bigSep Finset.univ fun t => some' c (m.slice (r t) (hr t)) : sProp 𝕄)
        ⊢ iprop(∃ Z : (t : T) → (r t).shape.Idx → Elt F e, bigSep Finset.univ fun t => owns (c : Thread nD τ) (m.slice (r t) (hr t)) fullShare (Z t)) :=
      haveI : ∀ t, Nonempty ((r t).shape.Idx → Elt F e) := fun t => ⟨fun _ => Classical.arbitrary _⟩
      BI.bigSep_exists_pi Finset.univ (fun t (Z : (r t).shape.Idx → Elt F e) => (owns (c : Thread nD τ) (m.slice (r t) (hr t)) fullShare Z : sProp 𝕄))
    iintro H
    icases h1 $$ H with ⟨%Z, H⟩
    unfold some'
    iexists (Rect.glue r hcov Z)
    iapply (owns_join c m r hr hd hcov fullShare Z); iexact H

end Rects

/-! ### The half chunks of a 2048 × 1024 buffer -/

theorem rP_disjoint (t t' : Fin 16 × Fin 2) (h : t ≠ t') : Disjoint (rP t.1 t.2).set (rP t'.1 t'.2).set := by
  obtain ⟨a, b⟩ := t; obtain ⟨a', b'⟩ := t'
  by_cases ha : a = a'
  · have hb : b.val ≠ b'.val := fun hb => h (by rw [ha, Fin.ext hb])
    refine Rect.unit_disjoint 1 ?_
    show 512 * b.val + 512 ≤ 512 * b'.val ∨ 512 * b'.val + 512 ≤ 512 * b.val
    omega
  · have hb : a.val ≠ a'.val := fun hb => ha (Fin.ext hb)
    refine Rect.unit_disjoint 0 ?_
    show 128 * a.val + 128 ≤ 128 * a'.val ∨ 128 * a'.val + 128 ≤ 128 * a.val
    omega

/-- The half chunk of an index. -/
def pieceOf (i : S2048x1024.Idx) : Fin 16 × Fin 2 :=
  (⟨(i 0).val / 128, Nat.div_lt_of_lt_mul (i 0).isLt⟩, ⟨(i 1).val / 512, Nat.div_lt_of_lt_mul (i 1).isLt⟩)

theorem mem_pieceOf (i : S2048x1024.Idx) : i ∈ (rP (pieceOf i).1 (pieceOf i).2).set := by
  rw [Rect.mem_set_unit]
  intro a
  fin_cases a
  · show 128 * ((i 0).val / 128) ≤ (i 0).val ∧ (i 0).val < 128 * ((i 0).val / 128) + 128
    omega
  · show 512 * ((i 1).val / 512) ≤ (i 1).val ∧ (i 1).val < 512 * ((i 1).val / 512) + 512
    omega

theorem rP_cover : (Finset.univ : Finset (Fin 16 × Fin 2)).biUnion (fun t => (rP t.1 t.2).set) = Finset.univ :=
  Finset.eq_univ_iff_forall.mpr fun i => Finset.mem_biUnion.mpr ⟨pieceOf i, Finset.mem_univ _, mem_pieceOf i⟩

theorem pieces_all (c : Dev nD) : (Finset.univ : Finset (Fin 16 × Fin 2)) = (pieces.map fun p => (ch c p.1, hf p.2)).toFinset := by revert c; decide +kernel
theorem pieces_nodup (c : Dev nD) : (pieces.map fun p => (ch c p.1, hf p.2)).Nodup := by revert c; decide +kernel

/-- The half chunks as a device counts them. -/
theorem bigSep_pieces (c : Dev nD) (Φ : Fin 16 × Fin 2 → sProp 𝕄) :
    bigSep Finset.univ Φ = bigSepL pieces fun p => Φ (ch c p.1, hf p.2) := by
  rw [bigSep_eq_bigSepL_of_eq _ (pieces_all c) (pieces_nodup c), bigSepL_map]

theorem some_pieces {e : EltTy} (c : Dev nD) (m : Memref sig .tc .vmem S2048x1024 e) :
    (some' c m : sProp 𝕄) = bigSepL pieces fun p => some' c (m.slice (rP (ch c p.1) (hf p.2)) (fun _ => rfl)) :=
  (some_rects c m (fun t : Fin 16 × Fin 2 => rP t.1 t.2) (fun _ _ => rfl) rP_disjoint rP_cover).trans
    (bigSep_pieces c fun t => some' c (m.slice (rP t.1 t.2) (fun _ => rfl)))

/-- A buffer put together from its half chunks. -/
def gather {α : Type} (Z : Fin 16 → Fin 2 → S128x512.Idx → α) : S2048x1024.Idx → α :=
  Rect.glue (fun t : Fin 16 × Fin 2 => rP t.1 t.2) rP_cover fun t => Z t.1 t.2

theorem gather_emb {α : Type} (Z : Fin 16 → Fin 2 → S128x512.Idx → α) (a : Fin 16) (h : Fin 2) (j : S128x512.Idx) :
    gather Z ((rP a h).emb j) = Z a h j :=
  Rect.glue_emb (fun t : Fin 16 × Fin 2 => rP t.1 t.2) rP_cover rP_disjoint (fun t => Z t.1 t.2) (a, h) j

theorem owns_pieces {e : EltTy} (c : Dev nD) (m : Memref sig .tc .vmem S2048x1024 e) (Z : Fin 16 → Fin 2 → S128x512.Idx → Elt F e) :
    (bigSepL pieces fun p => owns (c : Thread nD τ) (m.slice (rP (ch c p.1) (hf p.2)) (fun _ => rfl)) fullShare (Z (ch c p.1) (hf p.2)) : sProp 𝕄)
      ⊢ owns (c : Thread nD τ) m fullShare (gather Z) :=
  (Entails.of_eq (bigSep_pieces c fun t => owns (c : Thread nD τ) (m.slice (rP t.1 t.2) (fun _ => rfl)) fullShare (Z t.1 t.2)).symm).trans
    (owns_join c m (fun t : Fin 16 × Fin 2 => rP t.1 t.2) (fun _ _ => rfl) rP_disjoint rP_cover fullShare fun t => Z t.1 t.2)

/-! ### The landing slots -/

section Slots

variable {n : ℕ} (hn : ∀ t : Fin n, ∀ i, (![t.val, 0, 0] : Fin 3 → ℕ) i + S1x128x512.size i ≤ (Sn n).size i)

theorem some_slot (c : Dev nD) (m : Memref sig .tc .vmem (Sn n) .bf16) (t : Fin n) :
    (some' c (slotAt m ![t.val, 0, 0] (hn t)) : sProp 𝕄) = some' c (m.slice (slotR ![t.val, 0, 0] (hn t)) (fun _ => rfl)) := by
  unfold some'
  refine both ?_ ?_
  · iintro ⟨%X, H⟩
    iexists (unsq (F := F) X)
    rw [← owns_slotAt]; iexact H
  · iintro ⟨%X, H⟩
    iexists (sq (F := F) X)
    rw [owns_slotAt, unsq_sq]; iexact H

theorem slot_disjoint (t t' : Fin n) (h : t ≠ t') : Disjoint (slotR ![t.val, 0, 0] (hn t)).set (slotR ![t'.val, 0, 0] (hn t')).set := by
  have hb : t.val ≠ t'.val := fun hb => h (Fin.ext hb)
  refine Rect.unit_disjoint 0 ?_
  show t.val + 1 ≤ t'.val ∨ t'.val + 1 ≤ t.val
  omega

theorem slot_cover : (Finset.univ : Finset (Fin n)).biUnion (fun t => (slotR ![t.val, 0, 0] (hn t)).set) = Finset.univ :=
  Finset.eq_univ_iff_forall.mpr fun i => Finset.mem_biUnion.mpr ⟨⟨(i 0).val, (i 0).isLt⟩, Finset.mem_univ _, by
    rw [Rect.mem_set_unit]
    intro a
    fin_cases a
    · exact ⟨le_refl _, Nat.lt_succ_self _⟩
    · exact ⟨Nat.zero_le _, by have := (i 1).isLt; show (i 1).val < 0 + 128; rw [Nat.zero_add]; exact this⟩
    · exact ⟨Nat.zero_le _, by have := (i 2).isLt; show (i 2).val < 0 + 512; rw [Nat.zero_add]; exact this⟩⟩

theorem some_slots (c : Dev nD) (m : Memref sig .tc .vmem (Sn n) .bf16) :
    (some' c m : sProp 𝕄) = bigSep Finset.univ fun t : Fin n => some' c (slotAt m ![t.val, 0, 0] (hn t)) := by
  rw [some_rects c m (fun t : Fin n => slotR ![t.val, 0, 0] (hn t)) (fun _ _ => rfl) (slot_disjoint hn) (slot_cover hn)]
  exact bigSep_congr fun t _ => (some_slot hn c m t).symm

end Slots

theorem some_slot8 (c : Dev nD) (m : Memref sig .tc .vmem S8x128x512 .bf16) :
    (some' c m : sProp 𝕄) = bigSepL [0, 1, 2, 3, 4, 5, 6, 7] fun t : Fin 8 => some' c (slot8 m t) :=
  (some_slots (n := 8) inb8 c m).trans (bigSep_univ_eq_bigSepL _ (by decide) (by decide) _)
theorem some_slot7 (c : Dev nD) (m : Memref sig .tc .vmem S7x128x512 .bf16) :
    (some' c m : sProp 𝕄) = bigSepL [0, 1, 2, 3, 4, 5, 6] fun t : Fin 7 => some' c (slot7 m t) :=
  (some_slots (n := 7) inb7 c m).trans (bigSep_univ_eq_bigSepL _ (by decide) (by decide) _)

/-- The four landing buffers are the slots of the thirty reduce-scatter transfers. -/
theorem some_rs (c : Dev nD) :
    (bigSepL rsJ fun j => some' c (slotM j) : sProp 𝕄)
      = iprop(some' c (Memref.whole cc0_scratch3 : Memref sig .tc .vmem S8x128x512 .bf16) ∗ some' c (Memref.whole cc0_scratch4 : Memref sig .tc .vmem S7x128x512 .bf16)
        ∗ some' c (Memref.whole cc0_scratch5 : Memref sig .tc .vmem S8x128x512 .bf16) ∗ some' c (Memref.whole cc0_scratch6 : Memref sig .tc .vmem S7x128x512 .bf16)) := by
  rw [some_slot8, some_slot7, some_slot8, some_slot7]
  have hl : rsJ = ([0, 1, 2, 3, 4, 5, 6, 7] : List (Fin 8)).map (fun t => t.val) ++ (([0, 1, 2, 3, 4, 5, 6] : List (Fin 7)).map (fun t => 8 + t.val)
      ++ (([0, 1, 2, 3, 4, 5, 6, 7] : List (Fin 8)).map (fun t => 16 + t.val) ++ ([0, 1, 2, 3, 4, 5, 6] : List (Fin 7)).map fun t => 24 + t.val)) := by decide
  rw [hl, BI.bigSepL_append, BI.bigSepL_append, BI.bigSepL_append, bigSepL_map, bigSepL_map, bigSepL_map, bigSepL_map]
  rfl

/-- Two half shares of a piece at the same contents. -/
theorem owns_full {s : Shape} {e : EltTy} (c : Dev nD) (m : Memref sig .tc .vmem s e) (X : s.Idx → Elt F e) :
    iprop(owns (c : Thread nD τ) m fullShare.left X ∗ owns (c : Thread nD τ) m fullShare.right X) ⊢ (owns (c : Thread nD τ) m fullShare X : sProp 𝕄) := by
  have h (f : Buf (Elt F) (m.view.loc (c : Thread nD τ))) : iprop((m.view.loc (c : Thread nD τ) ↦[m.view.set]{fullShare.left} f) ∗ (m.view.loc (c : Thread nD τ) ↦[m.view.set]{fullShare.right} f))
      ⊢ (m.view.loc (c : Thread nD τ) ↦[m.view.set]{fullShare} f : sProp 𝕄) :=
    (pointsTo_share (PosShare.mem_left_op_right fullShare)).2
  unfold owns
  iintro ⟨⟨%f, %hf, H1⟩, ⟨%g, %hg, H2⟩⟩
  have he : (m.view.loc (c : Thread nD τ) ↦[m.view.set]{fullShare.right} g : sProp 𝕄) = (m.view.loc (c : Thread nD τ) ↦[m.view.set]{fullShare.right} f) :=
    pointsTo_congr fun i hi => by
      obtain ⟨x, -, rfl⟩ := Finset.mem_map.mp hi
      have := congrFun (hg.trans hf.symm) x
      simp only [View.read] at this
      exact (cast_inj _).mp this
  iexists f
  isplitr; · ipureintro; exact hf
  iapply (h f)
  isplitl [H1]; · iexact H1
  rw [← he]; iexact H2

end Cert.KProof

end
-- ==== Proof.Rules3.lean ====
/-
  The rules for the body's signals, transfers and waits.
-/
module

public import proofs.«01_k».proof.Proof.Rules2

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable {V : Dev nD → Ins F} {K : Dev nD × Fin 121 → ℕ} {c : Dev nD} {es : List Ev}

section Rules

variable {α : Type} {Q : α → sProp (MM F)}

/-! ## The cells' records -/

theorem rec_cell (ck : Dev nD × Fin 121) {g : GSem nD τ sig} (hg : kcell ck = g) : records V K ⊢ iprop(cellInv ER (ringRd V) (K ck) g ∗ reached ER g 0) := by
  subst hg
  have h1 : (bigSep Finset.univ fun ck : Dev nD × Fin 121 => cellInv ER (ringRd V) (K ck) (kcell ck) : sProp 𝕄) ⊢ cellInv ER (ringRd V) (K ck) (kcell ck) := bigSep_elim (Finset.mem_univ ck)
  have h2 : (bigSep Finset.univ fun ck : Dev nD × Fin 121 => reached ER (kcell ck) 0 : sProp 𝕄) ⊢ reached ER (kcell ck) 0 := bigSep_elim (Finset.mem_univ ck)
  unfold records
  iintro ⟨#H1, #H2⟩
  isplitl []
  · iapply h1; iexact H1
  · iapply h2; iexact H2

theorem rec_bar (c : Dev nD) : records V K ⊢ iprop(cellInv ER (ringRd V) (K (c, 0)) (barCell c) ∗ reached ER (barCell c) 0) := rec_cell (c, 0) rfl
theorem rec_snd (c : Dev nD) {j : ℕ} (hj : j ∈ allJ) : records V K ⊢ iprop(cellInv ER (ringRd V) (K (c, kix (sndS j))) (sndCell c j) ∗ reached ER (sndCell c j) 0) :=
  rec_cell (c, kix (sndS j)) (by unfold kcell; rw [csem_snd j hj])
theorem rec_rcv (c : Dev nD) {j : ℕ} (hj : j ∈ allJ) : records V K ⊢ iprop(cellInv ER (ringRd V) (K (c, kix (rcvS j))) (rcvCell c j) ∗ reached ER (rcvCell c j) 0) :=
  rec_cell (c, kix (rcvS j)) (by unfold kcell; rw [csem_rcv j hj])

/-! ## The entry -/

theorem sig_pay (d : Bool) : bigSepL ((allJ.filter fun j => toRight j == d).map dstA) (res V c) ⊢ (ringRd V).payload (barCell (if d then lf c else rt c)) 0 d := by
  rw [payload_bar]; unfold barPay
  cases d
  · rw [if_neg (by decide), if_neg (by decide), lf_rt]
    exact Entails.of_eq (congrArg (fun l => bigSepL (l.map dstA) (res V c)) (List.filter_congr fun j _ => by cases toRight j <;> rfl))
  · rw [if_pos rfl, if_pos rfl, rt_lf]
    exact Entails.of_eq (congrArg (fun l => bigSepL (l.map dstA) (res V c)) (List.filter_congr fun j _ => by cases toRight j <;> rfl))

/-- A signal to a neighbour, with what its transfers will write here. -/
theorem r_sig (b : ℕ) (d : Bool) (a : Atom) (t : Dev nD) (ht : t = if d then lf c else rt c)
    (hpre : pre (.sig b) = a :: (allJ.filter fun j => toRight j == d).map dstA) (hpost : post (.sig b) = []) (ha : res V c a = dutyTok ER (barCell t) 0 d)
    (hd : due c (.sig b) = tallyAt (barCell t) () 1)
    {sem : Sem sig} {k' : ℕ} {k : PUnit → PP F α} (hs : sem = barS) (hk' : k' = 1)
    (hk : St V K c es ⊢ WP c (k ⟨⟩) Q) :
    St V K c (.sig b :: es) ⊢ WP c (.op (.semSignal (t : Thread nD τ) sem k') k) Q := by
  subst hs hk'
  have e1 : bigSepL (pre (.sig b)) (res V c) ⊢ iprop(dutyTok ER (barCell t) 0 d ∗ (ringRd V).payload (barCell t) 0 d) := by
    rw [hpre, bigSepL_cons', ha, ht]
    exact BI.sep_mono (BI.Entails.refl _) (sig_pay d)
  have e2 : iprop(emp) ⊢ bigSepL (post (.sig b)) (res V c) := Entails.of_eq (by rw [hpost]; rfl)
  have hw (W : Waits sig Unit) : iprop(cellInv ER (ringRd V) (K (t, 0)) (barCell t) ∗ owes (c : Thread nD τ) (owed c (.sig b :: es)) W ∗ dutyTok ER (barCell t) 0 d
        ∗ (ringRd V).payload (barCell t) 0 d ∗ reached ER (barCell t) 0)
      ⊢ iprop((owes (c : Thread nD τ) (owed c es) W -∗ WP c (k ⟨⟩) Q) -∗ WP c (.op (.semSignal (t : Thread nD τ) barS 1) k) Q) :=
    Rounds.wp_signal 𝒱₀ ER (ringRd V) (c : Thread nD τ) none (dst := (t : Thread nD τ)) (κ := K (t, 0)) (d := d)
      (by rw [duties_bar]; exact Finset.mem_univ _) rfl () (owed c es) (by rw [owed, hd]; rfl)
  refine St_step.trans ?_
  unfold basis
  iintro ⟨-, Hp, ⟨#HR, #HL, ⟨%W, HO⟩, Hro⟩, Hc⟩
  icases e1 $$ Hp with ⟨Htok, Hpay⟩
  icases (rec_bar t) $$ HR with ⟨Hinv, Hre⟩
  iapply (hw W) $$ [Hinv HO Htok Hpay Hre]
  · isplitl [Hinv]; · iexact Hinv
    isplitl [HO]; · iexact HO
    isplitl [Htok]; · iexact Htok
    isplitl [Hpay] <;> iassumption
  iintro HO
  iapply hk
  iapply Hc
  isplitr
  · iapply e2; iempintro
  isplitr; · iexact HR
  isplitr; · iexact HL
  isplitl [HO]; · iexists W; iexact HO
  iexact Hro

theorem r_sigL {dev : Dev nD → Dev nD} {sem : Sem sig} {k' : ℕ} {k : PUnit → PP F α} (ht : ∀ c, dev c = lf c) (hs : sem = barS) (hk' : k' = 1) (hk : St V K c es ⊢ WP c (k ⟨⟩) Q) :
    St V K c (.sig 0 :: es) ⊢ WP c (.op (.semSignal (dev c : Thread nD τ) sem k') k) Q := by
  rw [ht]
  exact r_sig 0 true .tokL (lf c) rfl (by decide +kernel) rfl rfl rfl hs hk' hk

theorem r_sigR {dev : Dev nD → Dev nD} {sem : Sem sig} {k' : ℕ} {k : PUnit → PP F α} (ht : ∀ c, dev c = rt c) (hs : sem = barS) (hk' : k' = 1) (hk : St V K c es ⊢ WP c (k ⟨⟩) Q) :
    St V K c (.sig 1 :: es) ⊢ WP c (.op (.semSignal (dev c : Thread nD τ) sem k') k) Q := by
  rw [ht]
  exact r_sig 1 false .tokR (rt c) rfl (by decide +kernel) rfl rfl rfl hs hk' hk

/-! ## The waits -/

/-- A wait for everything a cell of the run is given: its payload, and the cell closed. -/
theorem wait_all {w : TpuEff nD τ sig (Elt F) Λ₀ .tc PUnit} {sm : SemLoc sig} {k' κ lvl : ℕ} {k : PUnit → PP F α} {e : Ev}
    (hw : ∀ Kt : PUnit → sProp 𝕄, wpE (defs₀ (F := F)) 𝒱₀ (c : Thread nD τ) none Set.univ w Kt = waitSpec (c : Thread nD τ) Set.univ sm k' Kt)
    (hr : records V K ⊢ iprop(cellInv ER (ringRd V) κ ((c : Thread nD τ), sm) ∗ reached ER ((c : Thread nD τ), sm) 0))
    (hN : k' = (ringRd V).expect ((c : Thread nD τ), sm) 0) (hl : lv ((c : Thread nD τ), sm) () = lvl)
    (ho : ordered (e :: es) = true → above lvl es = true) (hd : due c e = 0)
    (hpre : bigSepL (pre e) (res V c) ⊢ iprop(atPos ER ((c : Thread nD τ), sm) 0 ∅ 0 ∗ cred (tallyAt ((c : Thread nD τ), sm) () k')))
    (hpost : iprop(semVal ((c : Thread nD τ), sm) 0 ∗ bigSep ((ringRd V).duties ((c : Thread nD τ), sm) 0 \ ∅) (fun d => (ringRd V).payload ((c : Thread nD τ), sm) 0 d)) ⊢ bigSepL (post e) (res V c))
    (hk : St V K c es ⊢ WP c (k ⟨⟩) Q) :
    St V K c (e :: es) ⊢ WP c (.op w k) Q := by
  have hcl : iprop(cellInv ER (ringRd V) κ ((c : Thread nD τ), sm) ∗ atPos ER ((c : Thread nD τ), sm) (0 + 1) ∅ 0) ⊢ iprop(|={Set.univ}=> semVal ((c : Thread nD τ), sm) 0) :=
    Rounds.cell_close ER (ringRd V) (Set.mem_univ κ) (fun h => h) (R := 0 + 1) (duties_later V _)
  have hwt (W : Waits sig Unit) : iprop(cellInv ER (ringRd V) κ ((c : Thread nD τ), sm) ∗ cred (tallyAt ((c : Thread nD τ), sm) () k') ∗ owes (c : Thread nD τ) (owed c es) W
        ∗ MayWait (c : Thread nD τ) sm () (owed c es) ∗ atPos ER ((c : Thread nD τ), sm) 0 ∅ 0)
      ⊢ iprop(((owes (c : Thread nD τ) (owed c es) (insert (sm, ()) W) ∗ atPos ER ((c : Thread nD τ), sm) (0 + 1) ∅ 0 ∗ reached ER ((c : Thread nD τ), sm) (0 + 1)
            ∗ bigSep ((ringRd V).duties ((c : Thread nD τ), sm) 0 \ ∅) (fun d => (ringRd V).payload ((c : Thread nD τ), sm) 0 d)) -∗ WP c (k ⟨⟩) Q) -∗ WP c (.op w k) Q) :=
    Rounds.wp_wait_rest_token 𝒱₀ ER (ringRd V) (c : Thread nD τ) none (κ := κ) hw (Set.mem_univ _) () (O := owed c es) (W := W) (R := 0) (m := 0) (T := ∅)
      (by rw [Nat.zero_add, hN])
  have hb (W : Waits sig Unit) : owes (c : Thread nD τ) (owed c (e :: es)) W ⊢ (owes (c : Thread nD τ) (owed c es) W : sProp 𝕄) := Entails.of_eq (by rw [owed, hd, add_zero])
  refine St_step.trans ?_
  unfold basis
  iintro ⟨%hord, Hp, ⟨#HR, #HL, ⟨%W, HO⟩, Hro⟩, Hc⟩
  have hn : ∀ e ∈ es, named e = true := fun e' he' => named_of_ordered hord e' (List.mem_cons_of_mem _ he')
  icases hpre $$ Hp with ⟨Hat, Hcr⟩
  icases hr $$ HR with ⟨#Hinv, -⟩
  ihave HO := (hb W) $$ HO
  iapply (hwt W) $$ [Hat Hcr HO]
  · isplitr; · iexact Hinv
    isplitl [Hcr]; · iexact Hcr
    isplitl [HO]; · iexact HO
    isplitr; · iapply (mayWait (sm := sm) lvl hl hn (ho hord)); iexact HL
    iexact Hat
  iintro ⟨HO, Hat, -, Hpay⟩
  imod hcl $$ [Hat] with Hz
  · isplitr; · iexact Hinv
    iexact Hat
  iapply hk
  iapply Hc
  isplitl [Hz Hpay]
  · iapply hpost; isplitl [Hz] <;> iassumption
  isplitr; · iexact HR
  isplitr; · iexact HL
  isplitl [HO]; · iexists (insert (sm, ()) W); iexact HO
  iexact Hro

/-- What a neighbour's transfers will write there. -/
theorem dst_of {d : Dev nD} {j : ℕ} (h : tgt c j = d) : res V d (dstA j) = res V c (.dst j) := by
  subst h
  unfold dstA
  show _ = some' (tgt c j) (dstM (tgt c j) j)
  unfold dstM
  split <;> rfl

theorem bar_got : iprop(semVal (barCell c) 0 ∗ bigSep ((ringRd V).duties (barCell c) 0 \ ∅) (fun d => (ringRd V).payload (barCell c) 0 d)) ⊢ bigSepL (post .waitB) (res V c) := by
  have e1 : (bigSep ((ringRd V).duties (barCell c) 0 \ ∅) (fun d => (ringRd V).payload (barCell c) 0 d) : sProp 𝕄) = iprop(barPay V c false ∗ barPay V c true) := by
    rw [duties_bar, Finset.sdiff_empty]
    rw [show (Finset.univ : Finset Bool) = insert false {true} from by decide, BI.bigSep_insert (by decide), bigSep_singleton]
    rfl
  have e2 : barPay V c true ⊢ bigSepL ((allJ.filter fun j => toRight j).map .dst) (res V c) := by
    unfold barPay; rw [if_pos rfl, bigSepL_map, bigSepL_map]
    exact bigSepL_mono fun j hj => Entails.of_eq (dst_of (by unfold tgt; rw [if_pos (List.mem_filter.mp hj).2]))
  have e3 : barPay V c false ⊢ bigSepL ((allJ.filter fun j => !toRight j).map .dst) (res V c) := by
    unfold barPay; rw [if_neg (by decide), bigSepL_map, bigSepL_map]
    exact bigSepL_mono fun j hj => Entails.of_eq (dst_of (by unfold tgt; rw [if_neg (by have := (List.mem_filter.mp hj).2; simpa using this)]))
  have e4 := Entails.of_eq (bigSepL_parts (a := (allJ.filter fun j => toRight j).map Atom.dst) (b := (allJ.filter fun j => !toRight j).map .dst) (l := allJ.map .dst)
    (by rw [← List.map_append]; exact ((List.filter_append_perm (fun j => toRight j) allJ).map _).symm) (res V c)).symm
  have e5 : iprop(semVal (barCell c) 0 ∗ bigSepL (allJ.map .dst) (res V c)) ⊢ bigSepL (post .waitB) (res V c) := Entails.of_eq (by rw [post, bigSepL_cons']; rfl)
  have e6 := Entails.of_eq e1
  suffices e7 : iprop(semVal (barCell c) 0 ∗ bigSep ((ringRd V).duties (barCell c) 0 \ ∅) (fun d => (ringRd V).payload (barCell c) 0 d)) ⊢ iprop(semVal (barCell c) 0 ∗ bigSepL (allJ.map .dst) (res V c))  from e7.trans e5
  iintro ⟨Hz, Hp⟩
  icases e6 $$ Hp with ⟨Hf, Ht⟩
  isplitl [Hz]; · iexact Hz
  iapply e4
  isplitl [Ht]
  · iapply e2; iexact Ht
  · iapply e3; iexact Hf

theorem r_waitB {sem : Sem sig} {k' : ℕ} {k : PUnit → PP F α} (hs : sem = barS) (hk' : k' = 2) (hk : St V K c es ⊢ WP c (k ⟨⟩) Q) :
    St V K c (.waitB :: es) ⊢ WP c (.op (.semWait sem k') k) Q := by
  subst hs hk'
  exact wait_all (sm := .reg barS) (lvl := 1) (wpE_semWait_eq 𝒱₀ (c : Thread nD τ) none Set.univ) (rec_bar c) (expect_bar V c).symm rfl
    (fun h => by simp only [ordered, Bool.and_eq_true] at h; exact h.1.2) rfl (Entails.of_eq (bigSepL_singleton _ _)) bar_got hk

theorem one_got {sm : SemLoc sig} {P : sProp 𝕄} (hd : (ringRd V).duties ((c : Thread nD τ), sm) 0 = {false}) (hp : (ringRd V).payload ((c : Thread nD τ), sm) 0 false = P) :
    (bigSep ((ringRd V).duties ((c : Thread nD τ), sm) 0 \ ∅) (fun d => (ringRd V).payload ((c : Thread nD τ), sm) 0 d) : sProp 𝕄) = P := by
  rw [hd, Finset.sdiff_empty, bigSep_singleton, hp]

theorem named_peek {e : Ev} {B : sProp 𝕄} (h : ordered (e :: es) = true → St V K c (e :: es) ⊢ B) : St V K c (e :: es) ⊢ B := by
  unfold St
  iintro ⟨%n, %hn, Hσ, HB⟩
  have := h (by rw [← hn]; exact ordered_drop ordered_evs n)
  unfold St at this
  iapply this
  iexists n
  isplitr; · ipureintro; exact hn
  isplitl [Hσ] <;> iassumption

theorem r_waitS {j : ℕ} {sem : DmaSem sig} {s s' : Shape} {e e' : EltTy} {src : Memref sig .tc .vmem s e} {dst : Memref sig .tc .vmem s' e'} {h1 h2} {k : PUnit → PP F α}
    (hs : sem = sndS j) (hN : dst.view.dmaCredit = N) (hk : St V K c es ⊢ WP c (k ⟨⟩) Q) :
    St V K c (.waitS j :: es) ⊢ WP c (.op (.waitDma2 sem src dst h1 h2) k) Q := by
  subst hs
  refine named_peek fun h => ?_
  have hj : j ∈ allJ := by
    have := named_of_ordered h _ (List.mem_cons_self ..)
    simpa [named] using this
  have e2 : bigSepL (pre (.waitS j)) (res V c) ⊢ iprop(atPos ER (sndCell c j) 0 ∅ 0 ∗ cred (tallyAt (sndCell c j) () dst.view.dmaCredit)) :=
    Entails.of_eq (by rw [hN]; exact bigSepL_singleton _ _)
  have e1 := one_got (duties_snd V c hj) (payload_snd V c hj false)
  exact wait_all (sm := .dma (sndS j)) (lvl := 0) (wpE_waitDma2_eq 𝒱₀ (c : Thread nD τ) none Set.univ) (rec_snd c hj) (hN.trans (expect_snd V c hj).symm) (lv_snd c hj ())
    (fun h => by simp only [ordered, Bool.and_eq_true] at h; exact h.1.2) rfl e2
    (Entails.of_eq (by rw [e1]; rfl)) hk

theorem r_waitR {j : ℕ} {sem : DmaSem sig} {s s' : Shape} {e e' : EltTy} {src : Memref sig .tc .vmem s e} {dst : Memref sig .tc .vmem s' e'} {h1 h2} {k : PUnit → PP F α}
    (hs : sem = rcvS j) (hN : dst.view.dmaCredit = N) (hk : St V K c es ⊢ WP c (k ⟨⟩) Q) :
    St V K c (.waitR j :: es) ⊢ WP c (.op (.waitDma2 sem src dst h1 h2) k) Q := by
  subst hs
  refine named_peek fun h => ?_
  have hj : j ∈ allJ := by
    have := named_of_ordered h _ (List.mem_cons_self ..)
    simpa [named] using this
  have e2 : bigSepL (pre (.waitR j)) (res V c) ⊢ iprop(atPos ER (rcvCell c j) 0 ∅ 0 ∗ cred (tallyAt (rcvCell c j) () dst.view.dmaCredit)) :=
    Entails.of_eq (by rw [hN]; exact bigSepL_singleton _ _)
  have e1 := one_got (duties_rcv V c hj) (payload_rcv V c hj false)
  exact wait_all (sm := .dma (rcvS j)) (lvl := stepLv j) (wpE_waitDma2_eq 𝒱₀ (c : Thread nD τ) none Set.univ) (rec_rcv c hj) (hN.trans (expect_rcv V c hj).symm) (lv_rcv c hj ())
    (fun h => by simp only [ordered, Bool.and_eq_true] at h; exact h.1.2) rfl e2
    (Entails.of_eq (by rw [e1, post, bigSepL_cons']; rfl)) hk

/-! ## The transfers -/

/-- What a transfer reads, and that it lands as the receiver expects it. -/
theorem send_val {j : ℕ} : ∃ (q : PosShare TreeShare) (X : S128x512.Idx → Elt F .bf16),
    res V c (srcA j) = owns (c : Thread nD τ) (srcM c j) q X ∧ ((owns (tgt c j : Thread nD τ) (dstM (tgt c j) j) fullShare X : sProp 𝕄) ⊢ bigSepL (landA j) (res V (tgt c j))) := by
  by_cases hg : grp j < 4
  · have hl : landA j = [.slotI j] := if_pos hg
    have hd : dstM (tgt c j) j = slotM j := if_pos hg
    have hj : j = 8 * grp j + stp j := (Nat.div_add_mod j 8).symm
    have htr (t : ℕ) (ht : t < 8) : toRight (8 * grp j + t) = toRight j := by unfold toRight grp; rw [show (8 * (j / 8) + t) / 8 = j / 8 by omega]
    have hhf (t : ℕ) (ht : t < 8) : half (8 * grp j + t) = half j := by unfold half grp; rw [show (8 * (j / 8) + t) / 8 = j / 8 by omega]
    have hfr : frm (tgt c j) (8 * grp j) = c := by
      have := frm_tgt c j
      unfold frm at this ⊢
      rw [show toRight (8 * grp j) = toRight j from htr 0 (by decide)]; exact this
    have hh0 : half (8 * grp j) = half j := hhf 0 (by decide)
    rcases hs : stp j with _ | t
    · refine ⟨fullShare, accVal V c (ch c (srcRel j)) (hf (half j)), ?_, ?_⟩
      · have h1 : srcA j = .acc (srcRel j) (half j) := by unfold srcA; rw [if_pos hg, if_pos hs]
        have h2 : srcM c j = accM (ch c (srcRel j)) (hf (half j)) := by unfold srcM; rw [if_pos hg, if_pos hs]
        rw [h1, h2]; rfl
      · rw [hl, hd, bigSepL_singleton]
        refine Entails.of_eq ?_
        show owns _ _ _ _ = owns (tgt c j : Thread nD τ) (slotM j) fullShare (slotIn V (tgt c j) j)
        unfold slotIn; rw [hs, slotInG, hfr, hh0, show 8 * grp j = j by omega]
    · refine ⟨fullShare, slotSum V c (j - 1), ?_, ?_⟩
      · have h1 : srcA j = .slotS (j - 1) := by unfold srcA; rw [if_pos hg, if_neg (by omega)]
        have h2 : srcM c j = slotM (j - 1) := by unfold srcM; rw [if_pos hg, if_neg (by omega)]
        rw [h1, h2]; rfl
      · rw [hl, hd, bigSepL_singleton]
        refine Entails.of_eq ?_
        show owns _ _ _ _ = owns (tgt c j : Thread nD τ) (slotM j) fullShare (slotIn V (tgt c j) j)
        have hst : stp j < 8 := Nat.mod_lt _ (by decide)
        have g1 : grp (j - 1) = grp j := by unfold grp stp at *; omega
        have s1 : stp (j - 1) = t := by unfold grp stp at *; omega
        have h1 : half (j - 1) = half j := by unfold half; rw [g1]
        unfold slotSum slotIn; rw [hs, slotInG, hfr, hh0, g1, s1, h1, show j - 1 + 1 = 8 * grp j + t + 1 by omega]
  · have hl : landA j = [.agL (dstRel j) (half j), .agR (dstRel j) (half j)] := if_neg hg
    have hd : dstM (tgt c j) j = agM (ch (tgt c j) (dstRel j)) (hf (half j)) := if_neg hg
    have hm : srcM c j = agM (ch c (srcRel j)) (hf (half j)) := if_neg hg
    have hland : (owns (tgt c j : Thread nD τ) (dstM (tgt c j) j) fullShare (agVal V (ch c (srcRel j)) (hf (half j))) : sProp 𝕄) ⊢ bigSepL (landA j) (res V (tgt c j)) := by
      rw [hl, hd, ← ch_tgt c j]
      exact owns_halves (c := tgt c j) _ _
    by_cases h6 : grp j < 6
    · refine ⟨fullShare.left, agVal V (ch c (srcRel j)) (hf (half j)), ?_, hland⟩
      have h1 : srcA j = .agL (srcRel j) (half j) := by unfold srcA; rw [if_neg hg, if_pos h6]
      rw [h1, hm]; rfl
    · refine ⟨fullShare.right, agVal V (ch c (srcRel j)) (hf (half j)), ?_, hland⟩
      have h1 : srcA j = .agR (srcRel j) (half j) := by unfold srcA; rw [if_neg hg, if_neg h6]
      rw [h1, hm]; rfl

theorem r_send {j : ℕ} {t : Dev nD} {src : Memref sig .tc .vmem S128x512 .bf16} {dst : Memref sig .tc .vmem S128x512 .bf16} {sS sR : DmaSem sig}
    {hsc : dst.view.ref.isScScratch = false} {h1 : src.view.WordExact} {h2 : dst.view.WordExact} {h3 : DmaTarget.Typed .vmem (.dma sR) (.remote (t : Thread nD τ) dst (.dma sS) hsc)}
    {k : PUnit → PP F α} (ht : t = tgt c j) (hsrc : src = srcM c j) (hdst : dst = dstM (tgt c j) j) (hsS : sS = sndS j) (hsR : sR = rcvS j)
    (hN : dst.view.dmaCredit = N) (hk : St V K c es ⊢ WP c (k ⟨⟩) Q) :
    St V K c (.send j :: es) ⊢ WP c (.op (.enqueueDma src (.remote (t : Thread nD τ) dst (.dma sS) hsc) (.dma sR) h1 h2 h3) k) Q := by
  subst ht hsS hsR
  refine named_peek fun h => ?_
  have hj : j ∈ allJ := by
    have := named_of_ordered h _ (List.mem_cons_self ..)
    simpa [named] using this
  obtain ⟨q, X, hX, hland⟩ := send_val (V := V) (c := c) (j := j)
  rw [← hsrc] at hX
  rw [← hdst] at hland
  have e1 : bigSepL (pre (.send j)) (res V c) ⊢ iprop((dutyTok ER (sndCell c j) 0 false ∗ dutyTok ER (rcvCell (tgt c j) j) 0 false ∗ atPos ER (sndCell c j) 0 ∅ 0)
      ∗ owns (c : Thread nD τ) src q X ∗ ∃ Y, owns (tgt c j : Thread nD τ) dst fullShare Y) := Entails.of_eq (by
    rw [pre, bigSepL_cons', bigSepL_cons', bigSepL_singleton, hX, hdst]; rfl)
  have e2 : iprop(atPos ER (sndCell c j) 0 ∅ 0 ∗ cred (tallyAt (sndCell c j) () N)) ⊢ bigSepL (post (.send j)) (res V c) := Entails.of_eq (bigSepL_singleton _ _).symm
  have hw (W : Waits sig Unit) (fs : Buf (Elt F) (src.view.loc (c : Thread nD τ))) (fd : Buf (Elt F) (dst.view.loc (tgt c j : Thread nD τ))) (hfs : src.view.read (Elt F) fs = X) :
      iprop(cellInv ER (ringRd V) (K (c, kix (sndS j))) (sndCell c j) ∗ cellInv ER (ringRd V) (K (tgt c j, kix (rcvS j))) (rcvCell (tgt c j) j)
        ∗ (src.view.loc (c : Thread nD τ) ↦[src.view.set]{q} fs) ∗ (dst.view.loc (tgt c j : Thread nD τ) ↦[dst.view.set]{fullShare} fd)
        ∗ owes (c : Thread nD τ) (owed c (.send j :: es)) W
        ∗ dutyTok ER (sndCell c j) 0 false ∗ reached ER (sndCell c j) 0
        ∗ dutyTok ER (rcvCell (tgt c j) j) 0 false ∗ reached ER (rcvCell (tgt c j) j) 0)
      ⊢ iprop(((cred (tallyAt (sndCell c j) () N) ∗ owes (c : Thread nD τ) (owed c es) W) -∗ WP c (k ⟨⟩) Q)
          -∗ WP c (.op (.enqueueDma src (.remote (tgt c j : Thread nD τ) dst (.dma (sndS j)) hsc) (.dma (rcvS j)) h1 h2 h3) k) Q) :=
    Rounds.wp_send_pointsTo 𝒱₀ ER (ringRd V) (c : Thread nD τ) none (κ₁ := K (c, kix (sndS j))) (κ₂ := K (tgt c j, kix (rcvS j)))
      (r₁ := 0) (r₂ := 0) (d₁ := false) (d₂ := false) (fd := fd)
      (by rw [duties_snd V c hj]; exact Finset.mem_singleton_self _) (by rw [duties_rcv V _ hj]; exact Finset.mem_singleton_self _)
      () () N (show dst.view.amount (.dma (rcvS j)) = N from hN) rfl rfl (owed c es) (by rw [owed]; rfl) (W := W)
      (by
        rw [payload_snd V c hj, hX]
        unfold owns
        iintro H
        iexists fs; isplitr; · ipureintro; exact hfs
        iexact H)
      (by
        rw [payload_rcv V _ hj]
        have hl : (dst.view.loc (tgt c j : Thread nD τ) ↦[dst.view.set]{fullShare} (dst.view.write (Elt F) fd (src.view.read (Elt F) fs) Finset.univ) : sProp 𝕄)
            ⊢ owns (tgt c j : Thread nD τ) dst fullShare X := by
          unfold owns
          iintro H
          iexists (dst.view.write (Elt F) fd (src.view.read (Elt F) fs) Finset.univ); isplitr
          · ipureintro; rw [View.read_write_univ]; exact hfs
          iexact H
        exact hl.trans hland)
  refine St_step.trans ?_
  unfold basis owns at *
  iintro ⟨-, Hp, ⟨#HR, #HL, ⟨%W, HO⟩, Hro⟩, Hc⟩
  icases e1 $$ Hp with ⟨⟨Ht1, Ht2, Hat⟩, ⟨%fs, %hfs, Hs⟩, ⟨%Y, %fd, -, Hd⟩⟩
  icases (rec_snd c hj) $$ HR with ⟨Hi1, Hr1⟩
  icases (rec_rcv (tgt c j) hj) $$ HR with ⟨Hi2, Hr2⟩
  iapply (hw W fs fd hfs) $$ [Hi1 Hi2 Hs Hd HO Ht1 Hr1 Ht2 Hr2]
  · isplitl [Hi1]; · iexact Hi1
    isplitl [Hi2]; · iexact Hi2
    isplitl [Hs]; · iexact Hs
    isplitl [Hd]; · iexact Hd
    isplitl [HO]; · iexact HO
    isplitl [Ht1]; · iexact Ht1
    isplitl [Hr1]; · iexact Hr1
    isplitl [Ht2] <;> iassumption
  iintro ⟨Hcr, HO⟩
  iapply hk
  iapply Hc
  isplitl [Hat Hcr]
  · iapply e2; isplitl [Hat] <;> iassumption
  isplitr; · iexact HR
  isplitr; · iexact HL
  isplitl [HO]; · iexists W; iexact HO
  iexact Hro

/-- The first reduce-scatter transfers, from the partial sums; -/
theorem r_sendA {j : ℕ} {dev : Dev nD → Dev nD} {off : Dev nD → Fin 2 → ℕ} {hin} {dst : Memref sig .tc .vmem S128x512 .bf16} {sS sR : DmaSem sig}
    {hsc : dst.view.ref.isScScratch = false} {h1} {h2 : dst.view.WordExact} {h3} {k : PUnit → PP F α}
    (hg : grp j < 4) (hz : stp j = 0) (ht : ∀ c, dev c = tgt c j) (ho : ∀ c, off c = offP (ch c (srcRel j)) (hf (half j))) (hdst : dst = slotM j) (hsS : sS = sndS j) (hsR : sR = rcvS j)
    (hN : dst.view.dmaCredit = N) (hk : St V K c es ⊢ WP c (k ⟨⟩) Q) :
    St V K c (.send j :: es) ⊢ WP c (.op (.enqueueDma ((Memref.whole cc0_scratch0 : Memref sig .tc .vmem S2048x1024 .bf16).slice (Rect.unit (s := S2048x1024) (off c) S128x512.size hin) (fun _ => rfl))
      (.remote (dev c : Thread nD τ) dst (.dma sS) hsc) (.dma sR) h1 h2 h3) k) Q :=
  r_send (ht c) (by unfold srcM; rw [if_pos hg, if_pos hz]; exact Memref.slice_unit_congr _ (ho c) _ _ _ _) (by unfold dstM; rw [if_pos hg]; exact hdst) hsS hsR hN hk

/-- the later ones, from the slot before; -/
theorem r_sendS {j : ℕ} {dev : Dev nD → Dev nD} {src dst : Memref sig .tc .vmem S128x512 .bf16} {sS sR : DmaSem sig}
    {hsc : dst.view.ref.isScScratch = false} {h1 : src.view.WordExact} {h2 : dst.view.WordExact} {h3} {k : PUnit → PP F α}
    (hg : grp j < 4) (hz : stp j ≠ 0) (ht : ∀ c, dev c = tgt c j) (hsrc : src = slotM (j - 1)) (hdst : dst = slotM j) (hsS : sS = sndS j) (hsR : sR = rcvS j)
    (hN : dst.view.dmaCredit = N) (hk : St V K c es ⊢ WP c (k ⟨⟩) Q) :
    St V K c (.send j :: es) ⊢ WP c (.op (.enqueueDma src (.remote (dev c : Thread nD τ) dst (.dma sS) hsc) (.dma sR) h1 h2 h3) k) Q :=
  r_send (ht c) (by unfold srcM; rw [if_pos hg, if_neg hz]; exact hsrc) (by unfold dstM; rw [if_pos hg]; exact hdst) hsS hsR hN hk

/-- and the all-gather's. -/
theorem r_sendG {j : ℕ} {dev : Dev nD → Dev nD} {off off' : Dev nD → Fin 2 → ℕ} {hin hin'} {sS sR : DmaSem sig}
    {hsc} {h1} {h2} {h3} {k : PUnit → PP F α}
    (hg : ¬grp j < 4) (ht : ∀ c, dev c = tgt c j) (ho : ∀ c, off c = offP (ch c (srcRel j)) (hf (half j))) (ho' : ∀ c, off' c = offP (ch c (srcRel j)) (hf (half j)))
    (hsS : sS = sndS j) (hsR : sR = rcvS j) (hk : St V K c es ⊢ WP c (k ⟨⟩) Q) :
    St V K c (.send j :: es) ⊢ WP c (.op (.enqueueDma ((Memref.whole cc0_scratch2 : Memref sig .tc .vmem S2048x1024 .bf16).slice (Rect.unit (s := S2048x1024) (off c) S128x512.size hin) (fun _ => rfl))
      (.remote (dev c : Thread nD τ) ((Memref.whole cc0_scratch2 : Memref sig .tc .vmem S2048x1024 .bf16).slice (Rect.unit (s := S2048x1024) (off' c) S128x512.size hin') (fun _ => rfl)) (.dma sS) hsc)
      (.dma sR) h1 h2 h3) k) Q :=
  r_send (ht c) (by unfold srcM; rw [if_neg hg]; exact Memref.slice_unit_congr _ (ho c) _ _ _ _)
    (by unfold dstM; rw [if_neg hg, ch_tgt]; exact Memref.slice_unit_congr _ (ho' c) _ _ _ _) hsS hsR rfl hk

end Rules

end Cert.KProof

end
-- ==== Proof.Body.lean ====
/-
  The whole body, one rule per operation.
-/
module

public import proofs.«01_k».proof.Proof.Rules3
public import proofs.«01_k».proof.Proof.Gen.KernelIdeal.Skeleton

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable {V : Dev nD → Ins F} {K : Dev nD × Fin 121 → ℕ} {c : Dev nD} {es : List Ev}

/-! ## Going into a part of the body, and out -/

section Parts

variable {α β : Type} {Q : α → sProp (MM F)}

theorem into {p : PP F β} {f : β → PP F α} (h : ∀ Q' : β → sProp 𝕄, (∀ v, Q' v = WP c (f v) Q) → St V K c es ⊢ WP c p Q') : St V K c es ⊢ WP c (p >>= f) Q := by
  rw [WP, wp_bind]; exact h _ fun _ => rfl

theorem out {f : β → PP F α} {Q' : β → sProp 𝕄} {v : β} (hQ : ∀ v, Q' v = WP c (f v) Q) (h : St V K c es ⊢ WP c (f v) Q) : St V K c es ⊢ WP c (.ret v) Q' :=
  (h.trans (Entails.of_eq (hQ v).symm)).trans (le_wp_ret frame (wpE (defs₀ (F := F)) 𝒱₀ (c : Thread nD τ) none) _ _ _)

theorem r_dev {f : Dev nD → PP F α} (h : St V K c es ⊢ WP c (f c) Q) : St V K c es ⊢ WP c (.op .deviceId f) Q := by
  rw [WP, wp_deviceId]; exact h

end Parts

/-- A program of the body at the buffers and semaphores the launch gives it. -/
@[reducible] def at' {β : Sort*} (f : ∀ (arg0 : Memref sig .tc .vmem S2048x512 .f32) (harg0 : arg0.IsWhole) (arg1 : Memref sig .tc .vmem S512x64 .f32) (harg1 : arg1.IsWhole) (arg2 : Memref sig .tc .vmem S2048x1 .i32) (harg2 : arg2.IsWhole) (arg3 : Memref sig .tc .vmem S4x512x1024 .f32) (harg3 : arg3.IsWhole) (arg4 : Memref sig .tc .vmem S512x1024 .f32) (harg4 : arg4.IsWhole) (arg5 : Memref sig .tc .vmem S2048x1024 .f32) (harg5 : arg5.IsWhole) (arg6 : Memref sig .tc .vmem S2048x1024 .bf16) (harg6 : arg6.IsWhole) (arg7 : Memref sig .tc .vmem S2048x64 .f32) (harg7 : arg7.IsWhole) (arg8 : Memref sig .tc .vmem S2048x1024 .bf16) (harg8 : arg8.IsWhole) (arg9 : Memref sig .tc .vmem S8x128x512 .bf16) (harg9 : arg9.IsWhole) (arg10 : Memref sig .tc .vmem S7x128x512 .bf16) (harg10 : arg10.IsWhole) (arg11 : Memref sig .tc .vmem S8x128x512 .bf16) (harg11 : arg11.IsWhole) (arg12 : Memref sig .tc .vmem S7x128x512 .bf16) (harg12 : arg12.IsWhole) (arg13 : DmaSems sig S8) (arg14 : DmaSems sig S8) (arg15 : DmaSems sig S7) (arg16 : DmaSems sig S7) (arg17 : DmaSems sig S8) (arg18 : DmaSems sig S8) (arg19 : DmaSems sig S7) (arg20 : DmaSems sig S7) (arg21 : DmaSems sig S8) (arg22 : DmaSems sig S8) (arg23 : DmaSems sig S8) (arg24 : DmaSems sig S8) (arg25 : DmaSems sig S7) (arg26 : DmaSems sig S7) (arg27 : DmaSems sig S7) (arg28 : DmaSems sig S7), β) : β :=
  f (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22

theorem d1 : ∀ c : Dev nD, (⟨k0_dev1 c, k0_dev1_lt c⟩ : Dev nD) = lf c := by decide +kernel
theorem d2 : ∀ c : Dev nD, (⟨k0_dev2 c, k0_dev2_lt c⟩ : Dev nD) = rt c := by decide +kernel
theorem d3 : ∀ c : Dev nD, k0_off1 c 9#32 = offR (ch c 9) := by decide +kernel

/-! ### What operation is next -/

section Next

variable {α : Type} {Q : α → sProp (MM F)}

theorem n_ev (e : Ev) {B : sProp 𝕄} (h : St V K c (e :: es) ⊢ B) : St V K c (e :: es) ⊢ B := h

theorem n_ld (e : Ev) {s : Shape} {t : EltTy} (m : Memref sig .tc .vmem s t) {R hl} {k : _ → PP F α} (h : St V K c (e :: es) ⊢ WP c (.op (.load m R hl) k) Q) :
    St V K c (e :: es) ⊢ WP c (.op (.load m R hl) k) Q := h

theorem n_st (e : Ev) {s : Shape} {t : EltTy} (m : Memref sig .tc .vmem s t) {R w T hx hm} {k : PUnit → PP F α} (h : St V K c (e :: es) ⊢ WP c (.op (.store m R w T hx hm) k) Q) :
    St V K c (e :: es) ⊢ WP c (.op (.store m R w T hx hm) k) Q := h

theorem n_ret {β : Type} {Q : β → sProp (MM F)} {v : β} (h : St V K c es ⊢ WP c (.ret v) Q) : St V K c es ⊢ WP c (.ret v) Q := h

theorem n_sendA {j : ℕ} {B : sProp 𝕄} (hg : grp j < 4) (hz : stp j = 0) (h : St V K c (.send j :: es) ⊢ B) : St V K c (.send j :: es) ⊢ B := h
theorem n_sendS {j : ℕ} {B : sProp 𝕄} (hg : grp j < 4) (hz : stp j ≠ 0) (h : St V K c (.send j :: es) ⊢ B) : St V K c (.send j :: es) ⊢ B := h
theorem n_sendG {j : ℕ} {B : sProp 𝕄} (hg : ¬grp j < 4) (h : St V K c (.send j :: es) ⊢ B) : St V K c (.send j :: es) ⊢ B := h

theorem n_part {β : Type} {p : PP F β} {f : β → PP F α} (h : St V K c es ⊢ WP c (p >>= f) Q) : St V K c es ⊢ WP c (p >>= f) Q := h

/-- The shared part is done by device 0; elsewhere it is nothing. -/
theorem r_dev0 {r h : ℕ} {p : Prop} [Decidable p] {T : p → PP F α} {E : PP F α} (hk : St V K c es ⊢ WP c E Q) (hp : p ↔ c = 0)
    (yes : c = 0 → ∀ hp : p, (St V K c es ⊢ WP c E Q) → St V K c (.shared r h :: es) ⊢ WP c (T hp) Q) :
    St V K c (.shared r h :: es) ⊢ WP c (dite p T fun _ => E) Q := by
  by_cases h : p
  · rw [dif_pos h]; exact yes (hp.1 h) h hk
  · rw [dif_neg h]; exact shared_skip (fun hc => h (hp.2 hc)) hk

end Next

/-! ### The last two sums -/

def fin_rest (b : ℕ) : List Atom := if b = 0 then [.slotI 7, .slotI 14, .acc 1 0] else [.slotI 23, .slotI 30, .acc 15 1]

theorem ch_back (c : Dev nD) : ch (ch c 1) 15 = c ∧ ch (ch c 15) 1 = c := by revert c; decide +kernel

theorem fin_val0 (V : Dev nD → Ins F) (c : Dev nD) : k0_pay293 (unsq (slotIn V c 7)) (unsq (slotIn V c 14)) (accVal V c (ch c 1) (hf 0)) = agVal V (ch c 1) (hf 0) := by
  unfold agVal; rw [if_pos (show hf 0 = 0 from rfl), (ch_back c).1]; rfl

theorem fin_val1 (V : Dev nD → Ins F) (c : Dev nD) : k0_pay293 (unsq (slotIn V c 23)) (unsq (slotIn V c 30)) (accVal V c (ch c 15) (hf 1)) = agVal V (ch c 15) (hf 1) := by
  unfold agVal; rw [if_neg (show ¬hf 1 = 0 by decide), (ch_back c).2]; rfl

end Cert.KProof

end
-- ==== Proof.BodyA.lean ====
/-
  The body's first half: the barrier, the partial sums and the first transfers.
-/
module

public import proofs.«01_k».proof.Proof.Body
public import proofs.«01_k».proof.Proof.Gen.KernelIdeal.Skeleton

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable {V : Dev nD → Ins F} {K : Dev nD × Fin 121 → ℕ} {c : Dev nD} {es : List Ev}

attribute [local irreducible] St

set_option maxRecDepth 10000 in
set_option maxHeartbeats 0 in
theorem run_a {Q : _ → sProp (MM F)} (hk : St V K c (evs.drop 101) ⊢ Q ⟨c, word c, (Scalar.remsi (Scalar.subi (Scalar.addi (word c) 16#32) 1#32) 16#32), (Scalar.remsi (Scalar.addi (word c) 1#32) 16#32), lanes⟩) : St V K c evs ⊢ WP c (at' (k0_part138 (F := F))) Q := by
  unfold evs at'
  simp -proj only [k0_part138_eq_skeleton, k0_part138_skel]
  apply into; intro Q' hQ
  simp -proj only [k0_part1_eq_skeleton, k0_part1_skel, semSignalWord, semWaitWord, Prog.lift, Prog.bind_op, Prog.bind_ret, Prog.pure_eq_ret]
  refine r_dev ?_
  refine r_sigL (dev := fun c => ⟨k0_dev1 c, k0_dev1_lt c⟩) (by decide +kernel) rfl rfl ?_
  refine r_sigR (dev := fun c => ⟨k0_dev2 c, k0_dev2_lt c⟩) (by decide +kernel) rfl rfl ?_
  refine r_waitB rfl rfl ?_
  refine r_ldX0 ?_
  refine r_ldRw0 ?_
  refine r_ldPr0 fun X => ?_
  refine r_stPr rfl ?_
  repeat (first
    | ((with_reducible apply n_part); apply into; intro Q' hQ
       simp -proj only [k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, semSignalWord, semWaitWord, Prog.lift, Prog.bind_op, Prog.bind_ret, Prog.pure_eq_ret])
    | ((with_reducible apply n_ret); apply out hQ; clear hQ Q'; try dsimp only)
    | ((with_reducible apply n_ld (.store _ _) (Memref.whole cc0_stg0_0)); apply r_ldX; decide +kernel)
    | ((with_reducible apply n_ld (.store _ _) (Memref.whole cc0_stg2_0)); apply r_ldI; decide +kernel)
    | ((with_reducible apply n_ld (.store _ _) (Memref.whole cc0_scratch1)); apply r_ldQ; decide +kernel)
    | ((with_reducible apply n_ld (.store _ _) (Memref.whole cc0_stg3_0)); apply r_ldE; rfl)
    | ((with_reducible apply n_ld (.store _ _) (Memref.whole cc0_scratch0)); apply r_ldAccJ; decide +kernel; intro X)
    | ((with_reducible apply n_st (.store _ _) (Memref.whole cc0_scratch0)); apply r_stAcc; decide +kernel; rfl)
    | ((with_reducible apply n_ev (.shared _ _))
       apply r_dev0
       rotate_left
       · clear * - c; revert c; decide +kernel
       · intro hc hp hk
         apply r_shAcc; (subst hc; decide +kernel)
         apply r_shSw; rfl
         apply r_shAcc; (subst hc; decide +kernel)
         apply r_shSt hc; (subst hc; decide +kernel); rfl
         exact hk)
    | ((with_reducible apply n_ev (.waitS _)); apply r_waitS; rfl; rfl)
    | ((with_reducible apply n_ev (.waitR _)); apply r_waitR; rfl; rfl)
    | ((with_reducible apply n_sendA); decide; decide; apply r_sendA (by decide) (by decide); decide +kernel; decide +kernel; rfl; rfl; rfl; rfl)
    | ((with_reducible apply n_sendS); decide; decide; apply r_sendS (by decide) (by decide); decide +kernel; rfl; rfl; rfl; rfl; rfl)
    | ((with_reducible apply n_sendG); decide; apply r_sendG (by decide); decide +kernel; decide +kernel; decide +kernel; rfl; rfl)
    | ((with_reducible apply n_ld (.add _) (Memref.whole cc0_scratch0)); apply r_add_acc; decide +kernel)
    | ((with_reducible apply n_ld (.add _) (Memref.whole cc0_scratch3)); apply r_add_slot; rfl)
    | ((with_reducible apply n_ld (.add _) (Memref.whole cc0_scratch4)); apply r_add_slot; rfl)
    | ((with_reducible apply n_ld (.add _) (Memref.whole cc0_scratch5)); apply r_add_slot; rfl)
    | ((with_reducible apply n_ld (.add _) (Memref.whole cc0_scratch6)); apply r_add_slot; rfl)
    | ((with_reducible apply n_st (.add _) (Memref.whole cc0_scratch3)); apply r_add_st; rfl; rfl)
    | ((with_reducible apply n_st (.add _) (Memref.whole cc0_scratch4)); apply r_add_st; rfl; rfl)
    | ((with_reducible apply n_st (.add _) (Memref.whole cc0_scratch5)); apply r_add_st; rfl; rfl)
    | ((with_reducible apply n_st (.add _) (Memref.whole cc0_scratch6)); apply r_add_st; rfl; rfl)
    | ((with_reducible apply n_ld (.fin 0) (Memref.whole cc0_scratch3)); apply r_slot (j := 7) (by decide); rfl)
    | ((with_reducible apply n_ld (.fin 0) (Memref.whole cc0_scratch4)); apply r_slot (j := 14) (by decide); rfl)
    | ((with_reducible apply n_ld (.fin 1) (Memref.whole cc0_scratch5)); apply r_slot (j := 23) (by decide); rfl)
    | ((with_reducible apply n_ld (.fin 1) (Memref.whole cc0_scratch6)); apply r_slot (j := 30) (by decide); rfl)
    | ((with_reducible apply n_ld (.fin 0) (Memref.whole cc0_scratch0)); apply r_acc (r := 1) (h := 0) (by decide); decide +kernel)
    | ((with_reducible apply n_ld (.fin 1) (Memref.whole cc0_scratch0)); apply r_acc (r := 15) (h := 1) (by decide); decide +kernel)
    | ((with_reducible apply n_ld (.fin 0) (Memref.whole cc0_scratch2)); apply r_finJ (r := 1) (h := 0) (by decide); decide +kernel; intro X)
    | ((with_reducible apply n_ld (.fin 1) (Memref.whole cc0_scratch2)); apply r_finJ (r := 15) (h := 1) (by decide); decide +kernel; intro X)
    | ((with_reducible apply n_st (.fin 0) (Memref.whole cc0_scratch2)); apply r_finSt (r := 1) (h := 0) (rest := fin_rest 0) (by decide) (by decide); decide +kernel; exact fin_val0 V c)
    | ((with_reducible apply n_st (.fin 1) (Memref.whole cc0_scratch2)); apply r_finSt (r := 15) (h := 1) (rest := fin_rest 1) (by decide) (by decide); decide +kernel; exact fin_val1 V c)
    | ((with_reducible apply n_ld (.out _ _ 0) (Memref.whole cc0_scratch2)); apply r_outL; decide +kernel)
    | ((with_reducible apply n_ld (.out _ _ 1) (Memref.whole cc0_scratch2)); apply r_outR; decide +kernel)
    | ((with_reducible apply n_ld (.out _ _ _) (Memref.whole cc0_stg5_0)); apply r_outJ; decide +kernel; intro X)
    | ((with_reducible apply n_st (.out _ _ _) (Memref.whole cc0_stg5_0)); apply r_outSt; decide +kernel; rfl)
    )
  exact hk.trans (le_wp_ret frame (wpE (defs₀ (F := F)) 𝒱₀ (c : Thread nD τ) none) _ _ _)

end Cert.KProof

end
-- ==== Proof.BodyB.lean ====
/-
  The body's second half: the remaining sums round the ring.
-/
module

public import proofs.«01_k».proof.Proof.Body
public import proofs.«01_k».proof.Proof.Gen.KernelIdeal.Skeleton

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable {V : Dev nD → Ins F} {K : Dev nD × Fin 121 → ℕ} {c : Dev nD} {es : List Ev}

attribute [local irreducible] St

set_option maxRecDepth 10000 in
set_option maxHeartbeats 0 in
theorem run_b {Q : _ → sProp (MM F)} (hk : St V K c (evs.drop 241) ⊢ Q ⟨⟩) : St V K c (evs.drop 101) ⊢ WP c (at' (k0_part139 (F := F)) c (word c) (Scalar.remsi (Scalar.subi (Scalar.addi (word c) 16#32) 1#32) 16#32) (Scalar.remsi (Scalar.addi (word c) 1#32) 16#32) lanes) Q := by
  simp only [evs, List.drop_succ_cons, List.drop_zero]
  unfold at'
  simp -proj only [k0_part139_eq_skeleton, k0_part139_skel, Prog.pure_eq_ret]
  repeat (first
    | ((with_reducible apply n_part); apply into; intro Q' hQ
       simp -proj only [k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, k0_part72_eq_skeleton, k0_part72_skel, k0_part73_eq_skeleton, k0_part73_skel, k0_part74_eq_skeleton, k0_part74_skel, k0_part75_eq_skeleton, k0_part75_skel, k0_part76_eq_skeleton, k0_part76_skel, k0_part77_eq_skeleton, k0_part77_skel, k0_part78_eq_skeleton, k0_part78_skel, k0_part79_eq_skeleton, k0_part79_skel, k0_part80_eq_skeleton, k0_part80_skel, k0_part81_eq_skeleton, k0_part81_skel, k0_part82_eq_skeleton, k0_part82_skel, k0_part83_eq_skeleton, k0_part83_skel, k0_part84_eq_skeleton, k0_part84_skel, k0_part85_eq_skeleton, k0_part85_skel, k0_part86_eq_skeleton, k0_part86_skel, k0_part87_eq_skeleton, k0_part87_skel, k0_part88_eq_skeleton, k0_part88_skel, k0_part89_eq_skeleton, k0_part89_skel, k0_part90_eq_skeleton, k0_part90_skel, k0_part91_eq_skeleton, k0_part91_skel, k0_part92_eq_skeleton, k0_part92_skel, k0_part93_eq_skeleton, k0_part93_skel, k0_part94_eq_skeleton, k0_part94_skel, k0_part95_eq_skeleton, k0_part95_skel, k0_part96_eq_skeleton, k0_part96_skel, k0_part97_eq_skeleton, k0_part97_skel, k0_part98_eq_skeleton, k0_part98_skel, k0_part99_eq_skeleton, k0_part99_skel, k0_part100_eq_skeleton, k0_part100_skel, k0_part101_eq_skeleton, k0_part101_skel, k0_part102_eq_skeleton, k0_part102_skel, k0_part103_eq_skeleton, k0_part103_skel, k0_part104_eq_skeleton, k0_part104_skel, k0_part105_eq_skeleton, k0_part105_skel, k0_part106_eq_skeleton, k0_part106_skel, k0_part107_eq_skeleton, k0_part107_skel, k0_part108_eq_skeleton, k0_part108_skel, k0_part109_eq_skeleton, k0_part109_skel, k0_part110_eq_skeleton, k0_part110_skel, k0_part111_eq_skeleton, k0_part111_skel, k0_part112_eq_skeleton, k0_part112_skel, k0_part113_eq_skeleton, k0_part113_skel, k0_part114_eq_skeleton, k0_part114_skel, k0_part115_eq_skeleton, k0_part115_skel, k0_part116_eq_skeleton, k0_part116_skel, k0_part117_eq_skeleton, k0_part117_skel, k0_part118_eq_skeleton, k0_part118_skel, k0_part119_eq_skeleton, k0_part119_skel, k0_part120_eq_skeleton, k0_part120_skel, semSignalWord, semWaitWord, Prog.lift, Prog.bind_op, Prog.bind_ret, Prog.pure_eq_ret])
    | ((with_reducible apply n_ret); apply out hQ; clear hQ Q'; try dsimp only)
    | ((with_reducible apply n_ld (.store _ _) (Memref.whole cc0_stg0_0)); apply r_ldX; decide +kernel)
    | ((with_reducible apply n_ld (.store _ _) (Memref.whole cc0_stg2_0)); apply r_ldI; decide +kernel)
    | ((with_reducible apply n_ld (.store _ _) (Memref.whole cc0_scratch1)); apply r_ldQ; decide +kernel)
    | ((with_reducible apply n_ld (.store _ _) (Memref.whole cc0_stg3_0)); apply r_ldE; rfl)
    | ((with_reducible apply n_ld (.store _ _) (Memref.whole cc0_scratch0)); apply r_ldAccJ; decide +kernel; intro X)
    | ((with_reducible apply n_st (.store _ _) (Memref.whole cc0_scratch0)); apply r_stAcc; decide +kernel; rfl)
    | ((with_reducible apply n_ev (.shared _ _))
       apply r_dev0
       rotate_left
       · clear * - c; revert c; decide +kernel
       · intro hc hp hk
         apply r_shAcc; (subst hc; decide +kernel)
         apply r_shSw; rfl
         apply r_shAcc; (subst hc; decide +kernel)
         apply r_shSt hc; (subst hc; decide +kernel); rfl
         exact hk)
    | ((with_reducible apply n_ev (.waitS _)); apply r_waitS; rfl; rfl)
    | ((with_reducible apply n_ev (.waitR _)); apply r_waitR; rfl; rfl)
    | ((with_reducible apply n_sendA); decide; decide; apply r_sendA (by decide) (by decide); decide +kernel; decide +kernel; rfl; rfl; rfl; rfl)
    | ((with_reducible apply n_sendS); decide; decide; apply r_sendS (by decide) (by decide); decide +kernel; rfl; rfl; rfl; rfl; rfl)
    | ((with_reducible apply n_sendG); decide; apply r_sendG (by decide); decide +kernel; decide +kernel; decide +kernel; rfl; rfl)
    | ((with_reducible apply n_ld (.add _) (Memref.whole cc0_scratch0)); apply r_add_acc; decide +kernel)
    | ((with_reducible apply n_ld (.add _) (Memref.whole cc0_scratch3)); apply r_add_slot; rfl)
    | ((with_reducible apply n_ld (.add _) (Memref.whole cc0_scratch4)); apply r_add_slot; rfl)
    | ((with_reducible apply n_ld (.add _) (Memref.whole cc0_scratch5)); apply r_add_slot; rfl)
    | ((with_reducible apply n_ld (.add _) (Memref.whole cc0_scratch6)); apply r_add_slot; rfl)
    | ((with_reducible apply n_st (.add _) (Memref.whole cc0_scratch3)); apply r_add_st; rfl; rfl)
    | ((with_reducible apply n_st (.add _) (Memref.whole cc0_scratch4)); apply r_add_st; rfl; rfl)
    | ((with_reducible apply n_st (.add _) (Memref.whole cc0_scratch5)); apply r_add_st; rfl; rfl)
    | ((with_reducible apply n_st (.add _) (Memref.whole cc0_scratch6)); apply r_add_st; rfl; rfl)
    | ((with_reducible apply n_ld (.fin 0) (Memref.whole cc0_scratch3)); apply r_slot (j := 7) (by decide); rfl)
    | ((with_reducible apply n_ld (.fin 0) (Memref.whole cc0_scratch4)); apply r_slot (j := 14) (by decide); rfl)
    | ((with_reducible apply n_ld (.fin 1) (Memref.whole cc0_scratch5)); apply r_slot (j := 23) (by decide); rfl)
    | ((with_reducible apply n_ld (.fin 1) (Memref.whole cc0_scratch6)); apply r_slot (j := 30) (by decide); rfl)
    | ((with_reducible apply n_ld (.fin 0) (Memref.whole cc0_scratch0)); apply r_acc (r := 1) (h := 0) (by decide); decide +kernel)
    | ((with_reducible apply n_ld (.fin 1) (Memref.whole cc0_scratch0)); apply r_acc (r := 15) (h := 1) (by decide); decide +kernel)
    | ((with_reducible apply n_ld (.fin 0) (Memref.whole cc0_scratch2)); apply r_finJ (r := 1) (h := 0) (by decide); decide +kernel; intro X)
    | ((with_reducible apply n_ld (.fin 1) (Memref.whole cc0_scratch2)); apply r_finJ (r := 15) (h := 1) (by decide); decide +kernel; intro X)
    | ((with_reducible apply n_st (.fin 0) (Memref.whole cc0_scratch2)); apply r_finSt (r := 1) (h := 0) (rest := fin_rest 0) (by decide) (by decide); decide +kernel; exact fin_val0 V c)
    | ((with_reducible apply n_st (.fin 1) (Memref.whole cc0_scratch2)); apply r_finSt (r := 15) (h := 1) (rest := fin_rest 1) (by decide) (by decide); decide +kernel; exact fin_val1 V c)
    | ((with_reducible apply n_ld (.out _ _ 0) (Memref.whole cc0_scratch2)); apply r_outL; decide +kernel)
    | ((with_reducible apply n_ld (.out _ _ 1) (Memref.whole cc0_scratch2)); apply r_outR; decide +kernel)
    | ((with_reducible apply n_ld (.out _ _ _) (Memref.whole cc0_stg5_0)); apply r_outJ; decide +kernel; intro X)
    | ((with_reducible apply n_st (.out _ _ _) (Memref.whole cc0_stg5_0)); apply r_outSt; decide +kernel; rfl)
    )
  exact hk.trans (le_wp_ret frame (wpE (defs₀ (F := F)) 𝒱₀ (c : Thread nD τ) none) _ _ _)

end Cert.KProof

end
-- ==== Proof.BodyC.lean ====
/-
  The whole body.
-/
module

public import proofs.«01_k».proof.Proof.BodyA
public import proofs.«01_k».proof.Proof.BodyB
public import proofs.«01_k».proof.Proof.Gen.KernelIdeal.Skeleton

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable {V : Dev nD → Ins F} {K : Dev nD × Fin 121 → ℕ} {c : Dev nD} {es : List Ev}

attribute [local irreducible] St

set_option maxRecDepth 10000 in
set_option maxHeartbeats 0 in
theorem run_body {Q : _ → sProp (MM F)} (hk : St V K c [] ⊢ Q ⟨⟩) : St V K c evs ⊢ WP c (at' (cc0_body (F := F))) Q := by
  unfold at'
  rw [cc0_body_eq_skeleton]
  unfold cc0_body_skel
  apply into; intro Q' hQ
  refine run_a ?_
  rw [hQ]
  clear hQ Q'
  dsimp only
  apply into; intro Q' hQ
  refine run_b ?_
  rw [hQ]
  clear hQ Q'
  simp only [evs, List.drop_succ_cons, List.drop_zero]
  repeat (first
    | ((with_reducible apply n_part); apply into; intro Q' hQ
       simp -proj only [k0_part121_eq_skeleton, k0_part121_skel, k0_part122_eq_skeleton, k0_part122_skel, k0_part123_eq_skeleton, k0_part123_skel, k0_part124_eq_skeleton, k0_part124_skel, k0_part125_eq_skeleton, k0_part125_skel, k0_part126_eq_skeleton, k0_part126_skel, k0_part127_eq_skeleton, k0_part127_skel, k0_part128_eq_skeleton, k0_part128_skel, k0_part129_eq_skeleton, k0_part129_skel, k0_part130_eq_skeleton, k0_part130_skel, k0_part131_eq_skeleton, k0_part131_skel, k0_part132_eq_skeleton, k0_part132_skel, k0_part133_eq_skeleton, k0_part133_skel, k0_part134_eq_skeleton, k0_part134_skel, k0_part135_eq_skeleton, k0_part135_skel, k0_part136_eq_skeleton, k0_part136_skel, k0_part137_eq_skeleton, k0_part137_skel, semSignalWord, semWaitWord, Prog.lift, Prog.bind_op, Prog.bind_ret, Prog.pure_eq_ret])
    | ((with_reducible apply n_ret); apply out hQ; clear hQ Q'; try dsimp only)
    | ((with_reducible apply n_ld (.store _ _) (Memref.whole cc0_stg0_0)); apply r_ldX; decide +kernel)
    | ((with_reducible apply n_ld (.store _ _) (Memref.whole cc0_stg2_0)); apply r_ldI; decide +kernel)
    | ((with_reducible apply n_ld (.store _ _) (Memref.whole cc0_scratch1)); apply r_ldQ; decide +kernel)
    | ((with_reducible apply n_ld (.store _ _) (Memref.whole cc0_stg3_0)); apply r_ldE; rfl)
    | ((with_reducible apply n_ld (.store _ _) (Memref.whole cc0_scratch0)); apply r_ldAccJ; decide +kernel; intro X)
    | ((with_reducible apply n_st (.store _ _) (Memref.whole cc0_scratch0)); apply r_stAcc; decide +kernel; rfl)
    | ((with_reducible apply n_ev (.shared _ _))
       apply r_dev0
       rotate_left
       · clear * - c; revert c; decide +kernel
       · intro hc hp hk
         apply r_shAcc; (subst hc; decide +kernel)
         apply r_shSw; rfl
         apply r_shAcc; (subst hc; decide +kernel)
         apply r_shSt hc; (subst hc; decide +kernel); rfl
         exact hk)
    | ((with_reducible apply n_ev (.waitS _)); apply r_waitS; rfl; rfl)
    | ((with_reducible apply n_ev (.waitR _)); apply r_waitR; rfl; rfl)
    | ((with_reducible apply n_sendA); decide; decide; apply r_sendA (by decide) (by decide); decide +kernel; decide +kernel; rfl; rfl; rfl; rfl)
    | ((with_reducible apply n_sendS); decide; decide; apply r_sendS (by decide) (by decide); decide +kernel; rfl; rfl; rfl; rfl; rfl)
    | ((with_reducible apply n_sendG); decide; apply r_sendG (by decide); decide +kernel; decide +kernel; decide +kernel; rfl; rfl)
    | ((with_reducible apply n_ld (.add _) (Memref.whole cc0_scratch0)); apply r_add_acc; decide +kernel)
    | ((with_reducible apply n_ld (.add _) (Memref.whole cc0_scratch3)); apply r_add_slot; rfl)
    | ((with_reducible apply n_ld (.add _) (Memref.whole cc0_scratch4)); apply r_add_slot; rfl)
    | ((with_reducible apply n_ld (.add _) (Memref.whole cc0_scratch5)); apply r_add_slot; rfl)
    | ((with_reducible apply n_ld (.add _) (Memref.whole cc0_scratch6)); apply r_add_slot; rfl)
    | ((with_reducible apply n_st (.add _) (Memref.whole cc0_scratch3)); apply r_add_st; rfl; rfl)
    | ((with_reducible apply n_st (.add _) (Memref.whole cc0_scratch4)); apply r_add_st; rfl; rfl)
    | ((with_reducible apply n_st (.add _) (Memref.whole cc0_scratch5)); apply r_add_st; rfl; rfl)
    | ((with_reducible apply n_st (.add _) (Memref.whole cc0_scratch6)); apply r_add_st; rfl; rfl)
    | ((with_reducible apply n_ld (.fin 0) (Memref.whole cc0_scratch3)); apply r_slot (j := 7) (by decide); rfl)
    | ((with_reducible apply n_ld (.fin 0) (Memref.whole cc0_scratch4)); apply r_slot (j := 14) (by decide); rfl)
    | ((with_reducible apply n_ld (.fin 1) (Memref.whole cc0_scratch5)); apply r_slot (j := 23) (by decide); rfl)
    | ((with_reducible apply n_ld (.fin 1) (Memref.whole cc0_scratch6)); apply r_slot (j := 30) (by decide); rfl)
    | ((with_reducible apply n_ld (.fin 0) (Memref.whole cc0_scratch0)); apply r_acc (r := 1) (h := 0) (by decide); decide +kernel)
    | ((with_reducible apply n_ld (.fin 1) (Memref.whole cc0_scratch0)); apply r_acc (r := 15) (h := 1) (by decide); decide +kernel)
    | ((with_reducible apply n_ld (.fin 0) (Memref.whole cc0_scratch2)); apply r_finJ (r := 1) (h := 0) (by decide); decide +kernel; intro X)
    | ((with_reducible apply n_ld (.fin 1) (Memref.whole cc0_scratch2)); apply r_finJ (r := 15) (h := 1) (by decide); decide +kernel; intro X)
    | ((with_reducible apply n_st (.fin 0) (Memref.whole cc0_scratch2)); apply r_finSt (r := 1) (h := 0) (rest := fin_rest 0) (by decide) (by decide); decide +kernel; exact fin_val0 V c)
    | ((with_reducible apply n_st (.fin 1) (Memref.whole cc0_scratch2)); apply r_finSt (r := 15) (h := 1) (rest := fin_rest 1) (by decide) (by decide); decide +kernel; exact fin_val1 V c)
    | ((with_reducible apply n_ld (.out _ _ 0) (Memref.whole cc0_scratch2)); apply r_outL; decide +kernel)
    | ((with_reducible apply n_ld (.out _ _ 1) (Memref.whole cc0_scratch2)); apply r_outR; decide +kernel)
    | ((with_reducible apply n_ld (.out _ _ _) (Memref.whole cc0_stg5_0)); apply r_outJ; decide +kernel; intro X)
    | ((with_reducible apply n_st (.out _ _ _) (Memref.whole cc0_stg5_0)); apply r_outSt; decide +kernel; rfl)
    )
  exact hk.trans (le_wp_ret frame (wpE (defs₀ (F := F)) 𝒱₀ (c : Thread nD τ) none) _ _ _)

end Cert.KProof

end
-- ==== Proof.Launch.lean ====
/-
  The run of the sixteen kernels: a device's state at the start of the body from what the launch deals it, what the body leaves, and
  the launch theorem: from any memory with zero counters the program ends, each device's result holding the gathered totals.
-/
module

public import proofs.«01_k».proof.Proof.Pieces
public import proofs.«01_k».proof.Proof.BodyC
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## The first and the last atoms as buffers -/

section Ends

variable (V : Dev nD → Ins F)

theorem start_eq (c : Dev nD) : (bigSepL start (res V c) : sProp 𝕄)
    = iprop(some' c (Memref.whole cc0_scratch1 : Memref sig .tc .vmem S2048x64 .f32)
      ∗ (dutyTok ER (barCell (lf c)) 0 true ∗ dutyTok ER (barCell (rt c)) 0 false ∗ atPos ER (barCell c) 0 ∅ 0 ∗ cred (tallyAt (barCell c) () 2))
      ∗ some' c (Memref.whole cc0_scratch0 : Memref sig .tc .vmem S2048x1024 .bf16) ∗ some' c (Memref.whole cc0_scratch2 : Memref sig .tc .vmem S2048x1024 .bf16)
      ∗ some' c (Memref.whole cc0_stg5_0 : Memref sig .tc .vmem S2048x1024 .f32) ∗ (bigSepL rsJ fun j => some' c (slotM j))
      ∗ (bigSepL allJ fun j => iprop(dutyTok ER (sndCell c j) 0 false ∗ dutyTok ER (rcvCell (tgt c j) j) 0 false ∗ atPos ER (sndCell c j) 0 ∅ 0))
      ∗ (bigSepL allJ fun j => atPos ER (rcvCell c j) 0 ∅ 0) ∗ bigSepL allJ fun j => cred (tallyAt (rcvCell c j) () N)) := by
  rw [some_pieces, some_pieces, some_pieces, ← bigSepL_sep' allJ_nodup]
  unfold start
  simp only [bigSepL_append, bigSepL_map]
  have hh : (bigSepL [.prJ, .tokL, .tokR, .barW] (res V c) : sProp 𝕄) = iprop(some' c (Memref.whole cc0_scratch1 : Memref sig .tc .vmem S2048x64 .f32)
      ∗ dutyTok ER (barCell (lf c)) 0 true ∗ dutyTok ER (barCell (rt c)) 0 false ∗ atPos ER (barCell c) 0 ∅ 0 ∗ cred (tallyAt (barCell c) () 2)) := rfl
  rw [hh]
  refine both ?_ ?_
  · iintro ⟨⟨⟨⟨⟨⟨⟨H1, Hh⟩, Ha⟩, Hg⟩, Ho⟩, Hr⟩, Hs⟩, Hw⟩
    isplitl [H1]; · iexact H1
    isplitl [Hh]; · iexact Hh
    isplitl [Ha]; · iexact Ha
    isplitl [Hg]; · iexact Hg
    isplitl [Ho]; · iexact Ho
    isplitl [Hr]; · iexact Hr
    isplitl [Hs]; · iexact Hs
    iexact Hw
  · iintro ⟨H1, Hh, Ha, Hg, Ho, Hr, Hs, Hw⟩
    isplitl [H1 Hh Ha Hg Ho Hr Hs]
    · isplitl [H1 Hh Ha Hg Ho Hr]
      · isplitl [H1 Hh Ha Hg Ho]
        · isplitl [H1 Hh Ha Hg]
          · isplitl [H1 Hh Ha]
            · isplitl [H1 Hh]
              · isplitl [H1]; · iexact H1
                iexact Hh
              iexact Ha
            iexact Hg
          iexact Ho
        iexact Hr
      iexact Hs
    iexact Hw

/-- The result: the totals of the half chunks. -/
def outArr : S2048x1024.Idx → Elt F .f32 := gather (outVal V)

theorem final_elim (c : Dev nD) : (bigSepL final (res V c) : sProp 𝕄)
    ⊢ iprop(some' c (Memref.whole cc0_scratch1 : Memref sig .tc .vmem S2048x64 .f32) ∗ semVal (barCell c) 0
      ∗ some' c (Memref.whole cc0_scratch0 : Memref sig .tc .vmem S2048x1024 .bf16) ∗ some' c (Memref.whole cc0_scratch2 : Memref sig .tc .vmem S2048x1024 .bf16)
      ∗ owns (c : Thread nD τ) (Memref.whole cc0_stg5_0 : Memref sig .tc .vmem S2048x1024 .f32) fullShare (outArr V) ∗ (bigSepL rsJ fun j => some' c (slotM j))
      ∗ (bigSepL allJ fun j => semVal (sndCell c j) 0) ∗ (bigSepL allJ fun j => semVal (rcvCell c j) 0)) := by
  rw [some_pieces, some_pieces]
  unfold final
  simp only [bigSepL_append, bigSepL_map]
  have hacc : (bigSepL pieces (fun p => res V c (.acc p.1 p.2)) : sProp 𝕄) ⊢ bigSepL pieces fun p => some' c (accM (ch c p.1) (hf p.2)) :=
    bigSepL_mono fun p _ => some_intro c (accM (ch c p.1) (hf p.2)) (accVal V c (ch c p.1) (hf p.2))
  have hag : iprop(bigSepL pieces (fun p => res V c (.agL p.1 p.2)) ∗ bigSepL pieces (fun p => res V c (.agR p.1 p.2))) ⊢ (bigSepL pieces fun p => some' c (agM (ch c p.1) (hf p.2)) : sProp 𝕄) := by
    rw [← bigSepL_sep' (by decide)]
    exact bigSepL_mono fun p _ => (owns_full c (agM (ch c p.1) (hf p.2)) (agVal V (ch c p.1) (hf p.2))).trans (some_intro c _ _)
  have hout : (bigSepL pieces (fun p => res V c (.out p.1 p.2)) : sProp 𝕄) ⊢ owns (c : Thread nD τ) (Memref.whole cc0_stg5_0 : Memref sig .tc .vmem S2048x1024 .f32) fullShare (outArr V) :=
    owns_pieces (e := .f32) c (Memref.whole cc0_stg5_0 : Memref sig .tc .vmem S2048x1024 .f32) (outVal V)
  have hrs : (bigSepL rsJ (fun j => res V c (if j = 7 ∨ j = 14 ∨ j = 23 ∨ j = 30 then .slotI j else .slotS j)) : sProp 𝕄) ⊢ bigSepL rsJ fun j => some' c (slotM j) :=
    bigSepL_mono fun j _ => by
      split
      · exact some_intro c (slotM j) (slotIn V c j)
      · exact some_intro c (slotM j) (slotSum V c j)
  have hh : (bigSepL [.pr, .barD] (res V c) : sProp 𝕄) = iprop(owns (c : Thread nD τ) (Memref.whole cc0_scratch1 : Memref sig .tc .vmem S2048x64 .f32) fullShare (prob V c) ∗ semVal (barCell c) 0) := rfl
  rw [hh]
  iintro ⟨⟨⟨⟨⟨⟨⟨⟨H1, H2⟩, Ha⟩, HL⟩, HR⟩, Ho⟩, Hr⟩, Hs⟩, Hw⟩
  isplitl [H1]; · iapply (some_intro c (Memref.whole cc0_scratch1 : Memref sig .tc .vmem S2048x64 .f32) (prob V c)); iexact H1
  isplitl [H2]; · iexact H2
  isplitl [Ha]; · iapply hacc; iexact Ha
  isplitl [HL HR]
  · iapply hag; isplitl [HL] <;> iassumption
  isplitl [Ho]; · iapply hout; iexact Ho
  isplitl [Hr]; · iapply hrs; iexact Hr
  isplitl [Hs]; · iexact Hs
  iexact Hw

theorem some_whole (c : Dev nD) (b : Ref sig .tc) :
    iprop(∃ f : Buf (Elt F) ((c : Thread nD τ).loc b), ((c : Thread nD τ).loc b) ↦{fullShare} f) = (iprop(∃ X : b.ty.Contents (Elt F), owns (c : Thread nD τ) (Memref.whole b) fullShare X) : sProp 𝕄) :=
  congrArg _ (funext fun X => (owns_whole (c : Thread nD τ) b fullShare X).symm)

/-- The kernel's scratch buffers. -/
theorem rest_eq (c : Dev nD) : (Pipeline.scopedRest (Ix := Unit) (Name := ℕ) (U := UU) (Lvl := ℕ) (Val := Elt F) spec0 c : sProp 𝕄)
    = iprop(some' c (Memref.whole cc0_scratch0 : Memref sig .tc .vmem S2048x1024 .bf16) ∗ some' c (Memref.whole cc0_scratch1 : Memref sig .tc .vmem S2048x64 .f32)
      ∗ some' c (Memref.whole cc0_scratch2 : Memref sig .tc .vmem S2048x1024 .bf16) ∗ (bigSepL rsJ fun j => some' c (slotM j))) := by
  rw [some_rs, scopedRest0_eq]
  rw [some_whole c cc0_scratch0, some_whole c cc0_scratch1, some_whole c cc0_scratch2, some_whole c cc0_scratch3, some_whole c cc0_scratch4, some_whole c cc0_scratch5,
    some_whole c cc0_scratch6]
  rfl

end Ends

/-! ## The pipeline's data -/

variable (m : (ℓ : Loc nD τ sig) → Buf (Elt F) ℓ) (ρ : Dev nD → PrngReg)

/-- The memory at launch: any contents, the counters at zero. -/
def s₀ : MemSt nD τ sig (Elt F) := ⟨m, fun _ => 0, ρ⟩

/-- What the devices' operands hold once staged. -/
def ins (c : Dev nD) : Ins F where
  x := (win0_0.blk (0 : Fin 1)).view.read (Elt F) (m ((c : Thread nD τ).loc main_arg0))
  rw := (win0_1.blk (0 : Fin 1)).view.read (Elt F) (m ((c : Thread nD τ).loc main_arg1))
  idx := (win0_2.blk (0 : Fin 1)).view.read (Elt F) (m ((c : Thread nD τ).loc main_arg2))
  ew := (win0_3.blk (0 : Fin 1)).view.read (Elt F) (m ((c : Thread nD τ).loc main_arg3))
  sw := (win0_4.blk (0 : Fin 1)).view.read (Elt F) (m ((c : Thread nD τ).loc main_arg4))

/-- What device `c`'s body starts from, beside its buffers. -/
def begin' (c : Dev nD) : sProp 𝕄 :=
  iprop(G' (ins m) c ∗ (cred (tallyAt (barCell c) () 2) ∗ bigSepL allJ fun j => cred (tallyAt (rcvCell c j) () N)) ∗ levAts L lv)

def Φ₀ (c : Dev nD) : sProp 𝕄 := iprop(begin' m c ∗ Pipeline.scopedRest spec0 c)
def Φ₁ (c : Dev nD) : sProp 𝕄 := iprop(unscopedSems0 c ∗ Pipeline.ownSems0 osem c ∗ Pipeline.scopedRest spec0 c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m c).x
    | ⟨1, _⟩ => (ins m c).rw
    | ⟨2, _⟩ => (ins m c).idx
    | ⟨3, _⟩ => (ins m c).ew
    | ⟨4, _⟩ => (ins m c).sw
    | ⟨5, _⟩ => outArr (ins m)
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body -/

def bodyPre (c : Dev nD) : sProp 𝕄 :=
  iprop(Φ₀ m c ∗ (dats m ρ 0 c).owesAt () t0_0.castSucc
    ∗ (∃ d, owns (c : Thread nD τ) (Memref.whole cc0_stg0_0) fullShare ((dats m ρ 0 c).before (0 : Fin 6) t0_0 d))
    ∗ (∃ d, owns (c : Thread nD τ) (Memref.whole cc0_stg1_0) fullShare ((dats m ρ 0 c).before (1 : Fin 6) t0_0 d))
    ∗ (∃ d, owns (c : Thread nD τ) (Memref.whole cc0_stg2_0) fullShare ((dats m ρ 0 c).before (2 : Fin 6) t0_0 d))
    ∗ (∃ d, owns (c : Thread nD τ) (Memref.whole cc0_stg3_0) fullShare ((dats m ρ 0 c).before (3 : Fin 6) t0_0 d))
    ∗ (∃ d, owns (c : Thread nD τ) (Memref.whole cc0_stg4_0) fullShare ((dats m ρ 0 c).before (4 : Fin 6) t0_0 d))
    ∗ (∃ d, owns (c : Thread nD τ) (Memref.whole cc0_stg5_0) fullShare ((dats m ρ 0 c).before (5 : Fin 6) t0_0 d)))

def bodyPost (c : Dev nD) : sProp 𝕄 :=
  iprop(Φ₁ c ∗ (dats m ρ 0 c).owesAt () t0_0.succ
    ∗ owns (c : Thread nD τ) (Memref.whole cc0_stg0_0) fullShare (ins m c).x
    ∗ owns (c : Thread nD τ) (Memref.whole cc0_stg1_0) fullShare (ins m c).rw
    ∗ owns (c : Thread nD τ) (Memref.whole cc0_stg2_0) fullShare (ins m c).idx
    ∗ owns (c : Thread nD τ) (Memref.whole cc0_stg3_0) fullShare (ins m c).ew
    ∗ owns (c : Thread nD τ) (Memref.whole cc0_stg4_0) fullShare (ins m c).sw
    ∗ owns (c : Thread nD τ) (Memref.whole cc0_stg5_0) fullShare (outArr (ins m)))

theorem body_in (c : Dev nD) : bodyPre m ρ c ⊢ iprop(∃ K, St (ins m) K c evs) := by
  have h0 (d) : (dats m ρ 0 c).before (0 : Fin 6) t0_0 d = (ins m c).x := by unfold Dat.before; rw [if_pos (fetch0_0 t0_0)]; rfl
  have h1 (d) : (dats m ρ 0 c).before (1 : Fin 6) t0_0 d = (ins m c).rw := by unfold Dat.before; rw [if_pos (fetch0_1 t0_0)]; rfl
  have h2 (d) : (dats m ρ 0 c).before (2 : Fin 6) t0_0 d = (ins m c).idx := by unfold Dat.before; rw [if_pos (fetch0_2 t0_0)]; rfl
  have h3 (d) : (dats m ρ 0 c).before (3 : Fin 6) t0_0 d = (ins m c).ew := by unfold Dat.before; rw [if_pos (fetch0_3 t0_0)]; rfl
  have h4 (d) : (dats m ρ 0 c).before (4 : Fin 6) t0_0 d = (ins m c).sw := by unfold Dat.before; rw [if_pos (fetch0_4 t0_0)]; rfl
  unfold bodyPre Φ₀ begin' G' linear Dat.owesAt Pipeline.owesWithin
  simp only [h0, h1, h2, h3, h4]
  rw [show (dats m ρ 0 c).owed t0_0.castSucc = owed c evs from rfl, rest_eq]
  iintro ⟨⟨⟨⟨%K, HR, HL, Hd, HB, Hs, Hw⟩, ⟨Hc, Hcs⟩, Hlev⟩, Ha, Hp, Hg, Hsl⟩, ⟨%W, -, HO⟩, ⟨%d0, H0⟩, ⟨%d1, H1⟩, ⟨%d2, H2⟩, ⟨%d3, H3⟩, ⟨%d4, H4⟩, ⟨%d5, H5⟩⟩
  iexists K
  unfold St basis ro
  iexists 0
  isplitr; · ipureintro; rfl
  isplitl [HL Hd HB Hs Hw Hc Hcs Ha Hp Hg Hsl H5]
  · iapply (Entails.of_eq (start_eq (ins m) c).symm)
    isplitl [Hp]; · iexact Hp
    isplitl [HL Hd HB Hc]
    · isplitl [HL]; · iexact HL
      isplitl [Hd]; · iexact Hd
      isplitl [HB] <;> iassumption
    isplitl [Ha]; · iexact Ha
    isplitl [Hg]; · iexact Hg
    isplitl [H5]; · iapply (some_intro c (Memref.whole cc0_stg5_0 : Memref sig .tc .vmem S2048x1024 .f32) _); iexact H5
    isplitl [Hsl]; · iexact Hsl
    isplitl [Hs]; · iexact Hs
    isplitl [Hw] <;> iassumption
  isplitl [HR]; · iexact HR
  isplitl [Hlev]; · iexact Hlev
  isplitl [HO]; · iexists W; iexact HO
  isplitl [H0]; · iexact H0
  isplitl [H1]; · iexact H1
  isplitl [H2]; · iexact H2
  isplitl [H3] <;> iassumption

theorem body_out (K : Dev nD × Fin 121 → ℕ) (c : Dev nD) : St (ins m) K c [] ⊢ bodyPost m ρ c := by
  have he (n : ℕ) (hn : evs.drop n = []) : (bigSepL (held n) (res (ins m) c) : sProp 𝕄) = bigSepL final (res (ins m) c) := by
    have ht : evs.take n = evs := by have := List.take_append_drop n evs; rwa [hn, List.append_nil] at this
    unfold held
    rw [ht]
    exact bigSepL_perm (List.isPerm_iff.mp held_end) _
  unfold bodyPost Φ₁ Dat.owesAt Pipeline.owesWithin St basis ro
  rw [show (dats m ρ 0 c).owed t0_0.succ = owed c [] from rfl, rest_eq, ownSems0_eq, unscopedSems0_eq]
  iintro ⟨%n, %hn, H, -, -, ⟨%W, HO⟩, H0, H1, H2, H3, H4⟩
  icases ((Entails.of_eq (he n hn)).trans (final_elim (ins m) c)) $$ H with ⟨Hp, HB, Ha, Hg, H5, Hsl, Hs, Hw⟩
  isplitl [Hp HB Ha Hg Hsl Hs Hw]
  · isplitl [HB]; · iexact HB
    isplitl [Hs Hw]
    · isplitl [Hs] <;> iassumption
    isplitl [Ha]; · iexact Ha
    isplitl [Hp]; · iexact Hp
    isplitl [Hg] <;> iassumption
  isplitl [HO]
  · iexists W
    isplitr; · ipureintro; exact fun _ _ => Or.inl trivial
    iexact HO
  isplitl [H0]; · iexact H0
  isplitl [H1]; · iexact H1
  isplitl [H2]; · iexact H2
  isplitl [H3]; · iexact H3
  isplitl [H4] <;> iassumption

theorem body_run (c : Dev nD) : bodyPre m ρ c ⊢ WP c (at' (cc0_body (F := F))) fun _ => bodyPost m ρ c := by
  have h (K : Dev nD × Fin 121 → ℕ) : St (ins m) K c evs ⊢ WP c (at' (cc0_body (F := F))) fun _ => bodyPost m ρ c := run_body (body_out m ρ K c)
  refine (body_in m ρ c).trans ?_
  iintro ⟨%K, H⟩
  iapply (h K); iexact H

set_option maxRecDepth 8000 in
theorem body_obligation (c : Dev nD) : BodyObligation (dats (F := F) m ρ 0 c) (defs₀ (F := F)) 𝒱₀ () Set.univ := fun t => by
  rw [fin_N0 t]
  rw [bigSep_W0, bigSep_W0]
  exact body_run m ρ c

/-! ## The launch -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (ins m) c)
      ⊢ |={Set.univ}=> iprop(begin' m c ∗ emp) := by
  iintro ⟨-, Hlev, Hcr, -, HG⟩
  ihave Hc := (creds (F := F) c) $$ Hcr
  imodintro
  unfold begin'
  isplitl
  · isplitl [HG]; · iexact HG
    isplitl [Hc]; · iexact Hc
    iexact Hlev
  · iempintro

theorem phi0_intro (c : Dev nD) :
    iprop(begin' m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := .rfl

theorem stage_level : ∀ (w : Fin cfg0.W) (s : Fin (cfg0.win w).nbuf), ∀ c : Dev nD, lv ((c : Thread nD τ), .dma ((cfg0.win w).sem s)) () = 0 := by
  intro w s c
  fin_cases w <;> fin_cases s <;> rfl

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait (es := evs) 0 (stage_level w s c) (named_of_ordered ordered_evs) (by decide +kernel)
    · exact mayWait (es := []) 0 (stage_level w s c) (fun _ h => absurd h (List.not_mem_nil)) rfl

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters the sixteen devices' run ends, with every array at its final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (ins m)) (G' := G' (ins m)) (u₀ := u₀)
    (hu₀ := by
      unfold u₀
      iintro Hu
      ihave H := (ownU_pair _ _) $$ Hu
      icases H with ⟨HP, HX⟩
      imod (fund_ring (ins m)) $$ HX with HG
      imodintro
      isplitl [HP] <;> iassumption)
    (hglob := glob (ins m))
    (hA := fun _ _ => rfl) (hpf := fun _ k => k.elim0)
    (X := begin' m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KProof

end
-- ==== Proof.Frames.lean ====
/-
  The frames of the three programs: each ends, leaves its operands alone and its counters at zero.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-- The five operands keep what they held. -/
theorem finalA_arg (m : (l : Loc nD τ sig) → Buf (Elt F) l) (ρ : Dev nD → PrngReg) (c : Dev nD) :
    finalA m ρ c (0 : Fin 6) = m ((c : Thread nD τ).loc main_arg0) ∧ finalA m ρ c (1 : Fin 6) = m ((c : Thread nD τ).loc main_arg1)
      ∧ finalA m ρ c (2 : Fin 6) = m ((c : Thread nD τ).loc main_arg2) ∧ finalA m ρ c (3 : Fin 6) = m ((c : Thread nD τ).loc main_arg3)
      ∧ finalA m ρ c (4 : Fin 6) = m ((c : Thread nD τ).loc main_arg4) :=
  ⟨(dats m ρ 0 c).arrAt_in (0 : Fin 6) rfl _, (dats m ρ 0 c).arrAt_in (1 : Fin 6) rfl _, (dats m ρ 0 c).arrAt_in (2 : Fin 6) rfl _,
    (dats m ρ 0 c).arrAt_in (3 : Fin 6) rfl _, (dats m ρ 0 c).arrAt_in (4 : Fin 6) rfl _⟩

/-- The run, read at the operands and the counters. -/
theorem frame_any (m : (l : Loc nD τ sig) → Buf (Elt F) l) (ρ : Dev nD → PrngReg) :
    θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c =>
    have e := finalA_arg m ρ c
    ⟨(h.1 c (0 : Fin 6)).trans e.1, (h.1 c (1 : Fin 6)).trans e.2.1, (h.1 c (2 : Fin 6)).trans e.2.2.1,
      (h.1 c (3 : Fin 6)).trans e.2.2.2.1, (h.1 c (4 : Fin 6)).trans e.2.2.2.2⟩, h.2⟩) (run_main m ρ)

theorem frame_kernelIdeal : Cert.quiescent_KernelIdeal := fun m ρ _ => frame_any (F := Ideal) m ρ

/-- The two programs are the same text: so are their body tables, label by label. -/
theorem bodies_same : (Cert.Kernel.defs₀ (F := F) : _) = Cert.KernelIdeal.defs₀ (F := F) := by
  unfold Cert.Kernel.defs₀ Cert.KernelIdeal.defs₀
  refine congrArg Defs.onTc (funext fun l => ?_)
  rcases l with ⟨_ | n, h⟩
  · rfl
  · exact absurd h (by simp)

theorem tables_same : (Cert.Kernel.defs (F := F) : _) = Cert.KernelIdeal.defs (F := F) :=
  congrArg (Pipeline.defs Cert.KernelIdeal.pcfgs) bodies_same

/-- So the run at words is the same run. -/
theorem frame_kernel : Cert.quiescent_Kernel := fun m ρ _ => by
  have h := frame_any (F := Bits) m ρ
  rw [← tables_same] at h
  exact h

theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.KProof

end
-- ==== Proof.Sums.lean ====
/-
  Sums of extended reals: which are real numbers, what the softmax of real scores is, and how a weight moves through a sum.
-/
module

public import proofs.«01_k».proof.Proof.Proto
public import Idealize.ShloMosaic.Lib.Pointwise

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## Extended reals that are real -/

/-- The extended real is a real number. -/
def Re (x : EReal) : Prop := ∃ r : ℝ, x = (r : EReal)

theorem Re.mul {x y : EReal} (hx : Re x) (hy : Re y) : Re (x * y) := by
  obtain ⟨a, rfl⟩ := hx; obtain ⟨b, rfl⟩ := hy
  exact ⟨a * b, (EReal.coe_mul a b).symm⟩

theorem coe_sum {ι : Type} (s : Finset ι) (f : ι → ℝ) : (∑ i ∈ s, (f i : EReal)) = ((∑ i ∈ s, f i : ℝ) : EReal) := by
  classical
  induction s using Finset.induction_on with
  | empty => simp
  | insert i s hi ih => rw [Finset.sum_insert hi, Finset.sum_insert hi, ih, EReal.coe_add]

theorem Re.sum {ι : Type} (s : Finset ι) (f : ι → EReal) (hf : ∀ i, Re (f i)) : Re (∑ i ∈ s, f i) := by
  choose g hg using hf
  exact ⟨∑ i ∈ s, g i, by rw [← coe_sum]; exact Finset.sum_congr rfl fun i _ => hg i⟩

/-- What is below `⊤` in absolute value is real. -/
theorem re_of_abs {x : EReal} (h : max x (-x) < ⊤) : Re x := by
  induction x with
  | bot => simp at h
  | top => simp at h
  | coe r => exact ⟨r, rfl⟩

/-! ## The probabilities of a row of scores -/

/-- The largest of the scores. -/
def top (s : Fin 64 → EReal) : EReal := Finset.univ.fold max (Ideal.ofBits .f32 0xFF800000#32) s
/-- The softmax of the scores, at one of them. -/
def soft (s : Fin 64 → EReal) (e : Fin 64) : EReal := Ideal.div (Ideal.exp (s e - top s)) (∑ k, Ideal.exp (s k - top s))

theorem neg_inf : Ideal.ofBits .f32 0xFF800000#32 = ⊥ := by
  show Ideal.ieee 8 23 (0xFF800000#32 : BitVec 32) = ⊥
  unfold Ideal.ieee
  simp
theorem pos_inf : Ideal.ofBits .f32 0x7F800000#32 = ⊤ := by
  show Ideal.ieee 8 23 (0x7F800000#32 : BitVec 32) = ⊤
  unfold Ideal.ieee
  simp

theorem top_re (s : Fin 64 → EReal) (hs : ∀ k, Re (s k)) : Re (top s) := by
  have h1 : top s < ⊤ := by
    unfold top; rw [neg_inf]
    refine (Finset.fold_max_lt ⊤).2 ⟨bot_lt_top, fun k _ => ?_⟩
    obtain ⟨r, hr⟩ := hs k
    rw [hr]; exact EReal.coe_lt_top r
  have h2 : s 0 ≤ top s := (Finset.le_fold_max _).2 (.inr ⟨0, Finset.mem_univ _, le_rfl⟩)
  obtain ⟨r, hr⟩ := hs 0
  rw [hr] at h2
  generalize top s = t at h1 h2
  induction t with
  | bot => exact absurd h2 (by simp)
  | top => exact absurd h1 (lt_irrefl _)
  | coe a => exact ⟨a, rfl⟩

/-- Of real scores the softmax is a real number, not negative. -/
theorem soft_re (s : Fin 64 → EReal) (hs : ∀ k, Re (s k)) (e : Fin 64) : 0 ≤ soft s e ∧ soft s e ≠ ⊤ := by
  obtain ⟨t, ht⟩ := top_re s hs
  choose f hf using hs
  have he : ∀ k, Ideal.exp (s k - top s) = ((Real.exp (f k - t) : ℝ) : EReal) := fun k => by
    rw [ht, hf k, ← EReal.coe_sub]; rfl
  have hp : 0 < ∑ k : Fin 64, Real.exp (f k - t) := Finset.sum_pos (fun k _ => Real.exp_pos _) ⟨0, Finset.mem_univ _⟩
  unfold soft
  simp only [he]
  rw [coe_sum, Ideal.div, if_neg (by exact_mod_cast hp.ne'), ← EReal.coe_inv, ← EReal.coe_mul]
  exact ⟨by exact_mod_cast mul_nonneg (Real.exp_pos _).le (inv_nonneg.2 hp.le), EReal.coe_ne_top _⟩

/-! ## Sums -/

/-- A real factor that is not negative goes into a sum. -/
theorem mul_sum {ι : Type} (p : EReal) (h0 : 0 ≤ p) (h1 : p ≠ ⊤) (s : Finset ι) (f : ι → EReal) : p * ∑ i ∈ s, f i = ∑ i ∈ s, p * f i := by
  classical
  induction s using Finset.induction_on with
  | empty => simp
  | insert i s hi ih => rw [Finset.sum_insert hi, Finset.sum_insert hi, EReal.left_distrib_of_nonneg_of_ne_top h0 h1, ih]

/-- A sum over `m * n` places, `n` at a time. -/
theorem sum_split {M : Type} [AddCommMonoid M] (m n : ℕ) (g : Fin (m * n) → M) :
    ∑ q, g q = ∑ k : Fin m, ∑ d : Fin n, g (finProdFinEquiv (k, d)) := by
  rw [← Finset.sum_product', ← finProdFinEquiv.sum_comp]
  rfl

/-- One word picks one of the sixty-four. -/
theorem sum_pick (e : Fin 64) (f : Fin 64 → EReal) : (∑ l : Fin 64, if BitVec.ofNat 32 l.val = BitVec.ofNat 32 e.val then f l else 0) = f e := by
  have h : ∀ l : Fin 64, (BitVec.ofNat 32 l.val = BitVec.ofNat 32 e.val) ↔ l = e := fun l => by
    have hl := l.isLt
    have he := e.isLt
    refine ⟨fun h => Fin.ext ?_, fun h => h ▸ rfl⟩
    have := congrArg BitVec.toNat h
    simp only [BitVec.toNat_ofNat] at this
    omega
  simp only [h]
  rw [Finset.sum_ite_eq' Finset.univ e f, if_pos (Finset.mem_univ e)]

/-- The weighted row times a column is the weight times the row's product. -/
theorem sum_gate {ι : Type} [Fintype ι] (c : Prop) [Decidable c] (p : EReal) (h0 : 0 ≤ p) (h1 : p ≠ ⊤) (x w : ι → EReal) :
    (∑ d, (if c then x d * p else 0) * w d) = if c then p * ∑ d, x d * w d else 0 := by
  split
  · rw [mul_sum p h0 h1]
    exact Finset.sum_congr rfl fun d _ => by rw [mul_comm (x d) p, mul_assoc]
  · exact Finset.sum_eq_zero fun d _ => zero_mul _

end Cert.KProof

end
-- ==== Proof.Reads.lean ====
/-
  What the kernel's vector expressions are at an index, over the extended reals.
-/
module

public import proofs.«01_k».proof.Proof.Sums

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

set_option maxRecDepth 16384

/-! ## The kernel's expressions, at an index -/

theorem plus_apply (v w : Vec Ideal S128x512 .bf16) (i : S128x512.Idx) : plus v w i = v i + w i := by
  pointwise [plus, sq, unsq, k0_pay72]

theorem pay293_apply (u v w : Vec Ideal S128x512 .bf16) (i : S128x512.Idx) : k0_pay293 (unsq u) (unsq v) w i = u i + v i + w i := by
  pointwise [k0_pay293, unsq]

theorem pay294_apply (u : Vec Ideal S128x512 .bf16) (i : S128x512.Idx) : k0_pay294 u i = u i := by
  pointwise [k0_pay294]

theorem pay10_apply (x : Vec Ideal S128x512 .f32) (u : Vec Ideal S128x512 .bf16) (w : Vec Ideal S512x512 .f32) (r : Fin 128) (l : Fin 512) :
    k0_pay10 (k0_pay4 x) u w (ix2 r l) = u (ix2 r l) + ∑ d : Fin 512, x (ix2 r d) * w (ix2 d l) := by
  pointwise [k0_pay10, k0_pay4]

/-- A token's score at an expert. -/
def score (x : Vec Ideal S2048x512 .f32) (w : Vec Ideal S512x64 .f32) (r : Fin 2048) (e : Fin 64) : EReal := ∑ d : Fin 512, x (ix2 r d) * w (ix2 d e)

theorem prob_apply (x : Vec Ideal S2048x512 .f32) (w : Vec Ideal S512x64 .f32) (r : Fin 2048) (e : Fin 64) :
    k0_pay3 x w (ix2 r e) = soft (score x w r) e := by
  pointwise [k0_pay3]
  rfl

theorem select_eq {α : Type} (a b : BitVec 32) (x y : α) : Scalar.select (IntOp.cmpi CmpIPredicate.eq a b) x y = if a = b then x else y := by
  by_cases h : a = b
  · subst h; simp [Scalar.select, IntOp.cmpi]
  · have h' : (a == b) = false := by simpa using h
    simp [Scalar.select, IntOp.cmpi, h, h']

/-- Four experts' part of a token: the rows weighted by the expert's probability where the token is routed to it. -/
theorem base_apply (w : BitVec 32) (x : Vec Ideal S128x512 .f32) (i : Vec Ideal S128x1 .i32) (p : Vec Ideal S128x64 .f32) (e : Vec Ideal S4x512x512 .f32) (r : Fin 128) (l : Fin 512) :
    base w x i p e (ix2 r l) = ∑ k : Fin 4, ∑ d : Fin 512,
      (if i (ix2 r 0) = w * 4#32 + BitVec.ofNat 32 k.val then
        x (ix2 r d) * (∑ q : Fin 64, if BitVec.ofNat 32 q.val = w * 4#32 + BitVec.ofNat 32 k.val then p (ix2 r q) else 0) else 0) * e (ix3 k d l) := by
  pointwise [base, k0_pay9, k0_pay8, k0_pay7, k0_pay6, k0_pay5, k0_pay4, lanes]
  simp only [select_eq]
  refine (sum_split 4 512 _).trans ?_
  refine Finset.sum_congr rfl fun k _ => Finset.sum_congr rfl fun d _ => ?_
  have hd := d.isLt
  have hv : (finProdFinEquiv (k, d) : Fin (4 * 512)).val = d.val + 512 * k.val := rfl
  generalize (finProdFinEquiv (k, d) : Fin (4 * 512)) = n at hv
  have hx : ∀ (t : ℕ) (h : t < 512), t = d.val → ix2 r (⟨t, h⟩ : Fin 512) = ix2 r d := fun t h ht => by subst ht; rfl
  have hi : ∀ (t u : ℕ) (h : t < 4) (h' : u < 512), t = k.val → u = d.val → ix3 (⟨t, h⟩ : Fin 4) (⟨u, h'⟩ : Fin 512) l = ix3 k d l :=
    fun t u h h' ht hu => by subst ht; subst hu; rfl
  rw [hi _ _ _ _ (by omega) (by omega)]
  congr 1
  have h4 : ∀ k : Fin 4, k = 0 ∨ k = 1 ∨ k = 2 ∨ k = 3 := by decide
  obtain rfl | rfl | rfl | rfl := h4 k
  · have hv : n.val = d.val + 512 * 0 := hv
    rw [dif_pos (by omega), hx _ _ (by omega)]; rfl
  · have hv : n.val = d.val + 512 * 1 := hv
    rw [dif_neg (by omega), dif_pos (by omega), hx _ _ (by omega)]; rfl
  · have hv : n.val = d.val + 512 * 2 := hv
    rw [dif_neg (by omega), dif_neg (by omega), dif_pos (by omega), hx _ _ (by omega)]; rfl
  · have hv : n.val = d.val + 512 * 3 := hv
    rw [dif_neg (by omega), dif_neg (by omega), dif_neg (by omega), hx _ _ (by omega)]; rfl

end Cert.KProof

end
-- ==== Proof.Totals.lean ====
/-
  The kernel's result over the extended reals: a half chunk's total is the sum of the devices' parts, and so the shared product and the sum over the experts.
-/
module

public import proofs.«01_k».proof.Proof.Reads
public import proofs.«01_k».proof.Proof.Launch
public import Idealize.ShloMosaic.Lib.Pipeline.ValueKit

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## The ring: a half chunk's total is the sum of the sixteen devices' parts -/

section Ring

variable (V : Dev nD → Ins Ideal)

/-- Whose parts, of which half chunk, a slot of stream `g` holds at step `t`. -/
def src (g : ℕ) : ℕ → Dev nD → List (Dev nD × Fin 16 × Fin 2)
  | 0, c => [(frm c (8 * g), ch (frm c (8 * g)) (srcRel (8 * g)), hf (half (8 * g)))]
  | t + 1, c => src g t (frm c (8 * g)) ++ [(frm c (8 * g), ch (frm c (8 * g)) (srcRel (8 * g + t + 1)), hf (half (8 * g)))]

theorem slotInG_apply (g t : ℕ) (c : Dev nD) (j : S128x512.Idx) :
    slotInG V g t c j = ((src g t c).map fun q => accVal V q.1 q.2.1 q.2.2 j).sum := by
  induction t generalizing c with
  | zero => exact (add_zero _).symm
  | succ t ih =>
    have h1 := plus_apply (slotInG V g t (frm c (8 * g))) (accVal V (frm c (8 * g)) (ch (frm c (8 * g)) (srcRel (8 * g + t + 1))) (hf (half (8 * g)))) j
    refine h1.trans ?_
    rw [ih]
    simp only [src, List.map_append, List.sum_append, List.map_cons, List.map_nil, List.sum_cons, List.sum_nil, add_zero]

theorem ring_left (a : Fin 16) : (src 0 7 (ch a 15) ++ src 1 6 (ch a 15) ++ [(ch a 15, a, 0)]).Perm ((List.finRange 16).map fun c => (c, a, 0)) := by
  revert a; decide +kernel
theorem ring_right (a : Fin 16) : (src 2 7 (ch a 1) ++ src 3 6 (ch a 1) ++ [(ch a 1, a, 1)]).Perm ((List.finRange 16).map fun c => (c, a, 1)) := by
  revert a; decide +kernel

theorem total (f : Dev nD × Fin 16 × Fin 2 → EReal) (l₁ l₂ : List (Dev nD × Fin 16 × Fin 2)) (q : Dev nD × Fin 16 × Fin 2) (a : Fin 16) (h : Fin 2)
    (hp : (l₁ ++ l₂ ++ [q]).Perm ((List.finRange 16).map fun c => (c, a, h))) :
    (l₁.map f).sum + (l₂.map f).sum + f q = ∑ c : Dev nD, f (c, a, h) := by
  have h1 := (hp.map f).sum_eq
  simp only [List.map_append, List.sum_append, List.map_cons, List.map_nil, List.sum_cons, List.sum_nil, add_zero, List.map_map] at h1
  rw [h1, ← List.sum_ofFn, List.ofFn_eq_map]
  rfl

theorem agVal_apply (a : Fin 16) (h : Fin 2) (j : S128x512.Idx) : agVal V a h j = ∑ c : Dev nD, accVal V c a h j := by
  have h2 : ∀ h : Fin 2, h = 0 ∨ h = 1 := by decide
  obtain rfl | rfl := h2 h
  · refine (pay293_apply (slotIn V (ch a 15) 7) (slotIn V (ch a 15) 14) (accVal V (ch a 15) a 0) j).trans ?_
    have e1 : slotIn V (ch a 15) 7 j = _ := slotInG_apply V 0 7 (ch a 15) j
    have e2 : slotIn V (ch a 15) 14 j = _ := slotInG_apply V 1 6 (ch a 15) j
    rw [e1, e2]
    exact total (fun q => accVal V q.1 q.2.1 q.2.2 j) _ _ (ch a 15, a, 0) a 0 (ring_left a)
  · refine (pay293_apply (slotIn V (ch a 1) 23) (slotIn V (ch a 1) 30) (accVal V (ch a 1) a 1) j).trans ?_
    have e1 : slotIn V (ch a 1) 23 j = _ := slotInG_apply V 2 7 (ch a 1) j
    have e2 : slotIn V (ch a 1) 30 j = _ := slotInG_apply V 3 6 (ch a 1) j
    rw [e1, e2]
    exact total (fun q => accVal V q.1 q.2.1 q.2.2 j) _ _ (ch a 1, a, 1) a 1 (ring_right a)

end Ring

/-! ## A device's part at an index -/

/-- Row `r` of chunk `a`, and column `l` of half `h`. -/
def tok (a : Fin 16) (r : Fin 128) : Fin 2048 := ⟨128 * a.val + r.val, by omega⟩
def col (h : Fin 2) (l : Fin 512) : Fin 1024 := ⟨512 * h.val + l.val, by omega⟩

section At
variable {α : Type}
theorem rowsX_apply (X : S2048x512.Idx → α) (a : Fin 16) (r : Fin 128) (d : Fin 512) : rowsX X a (ix2 r d) = X (ix2 (tok a r) d) :=
  congrArg X (funext fun i => Fin.ext (by rw [ValueKit.rect_emb_unit_val]; fin_cases i; · rfl
                                          · exact Nat.zero_add _))
theorem rowsI_apply (X : S2048x1.Idx → α) (a : Fin 16) (r : Fin 128) (d : Fin 1) : rowsI X a (ix2 r d) = X (ix2 (tok a r) d) :=
  congrArg X (funext fun i => Fin.ext (by rw [ValueKit.rect_emb_unit_val]; fin_cases i; · rfl
                                          · exact Nat.zero_add _))
theorem rowsQ_apply (X : S2048x64.Idx → α) (a : Fin 16) (r : Fin 128) (d : Fin 64) : rowsQ X a (ix2 r d) = X (ix2 (tok a r) d) :=
  congrArg X (funext fun i => Fin.ext (by rw [ValueKit.rect_emb_unit_val]; fin_cases i; · rfl
                                          · exact Nat.zero_add _))
theorem colsE_apply (X : S4x512x1024.Idx → α) (h : Fin 2) (k : Fin 4) (d l : Fin 512) : colsE X h (ix3 k d l) = X (ix3 k d (col h l)) :=
  congrArg X (funext fun i => Fin.ext (by rw [ValueKit.rect_emb_unit_val]; fin_cases i; · exact Nat.zero_add _
                                          · exact Nat.zero_add _
                                          · rfl))
theorem colsS_apply (X : S512x1024.Idx → α) (h : Fin 2) (d l : Fin 512) : colsS X h (ix2 d l) = X (ix2 d (col h l)) :=
  congrArg X (funext fun i => Fin.ext (by rw [ValueKit.rect_emb_unit_val]; fin_cases i; · exact Nat.zero_add _
                                          · rfl))
theorem piece_at (a : Fin 16) (h : Fin 2) (r : Fin 128) (l : Fin 512) : (rP a h).emb (ix2 r l) = ix2 (tok a r) (col h l) :=
  funext fun i => Fin.ext (by unfold rP; rw [ValueKit.rect_emb_unit_val]; fin_cases i <;> rfl)
end At

/-- A device's four experts by number. -/
def ex (c : Dev nD) (k : Fin 4) : Fin 64 := ⟨4 * c.val + k.val, by have := c.isLt; have : c.val < 16 := c.isLt; omega⟩

theorem word_ex (c : Dev nD) (k : Fin 4) : word c * 4#32 + BitVec.ofNat 32 k.val = BitVec.ofNat 32 (ex c k).val := by
  revert c k; decide +kernel

section Whole

variable (x : Vec Ideal S2048x512 .f32) (rw' : Vec Ideal S512x64 .f32) (idx : Vec Ideal S2048x1 .i32) (W : Fin 64 → Fin 512 → Fin 1024 → EReal) (sw : Vec Ideal S512x1024 .f32)

/-- An expert's part of a token's row: its probability times the expert's product, where the token is routed to it. -/
def term (t : Fin 2048) (f : Fin 1024) (e : Fin 64) : EReal :=
  if idx (ix2 t 0) = BitVec.ofNat 32 e.val then soft (score x rw' t) e * ∑ d : Fin 512, x (ix2 t d) * W e d f else 0

/-- The result at an index: the shared product and the experts' parts. -/
def whole (t : Fin 2048) (f : Fin 1024) : EReal := (∑ d : Fin 512, x (ix2 t d) * sw (ix2 d f)) + ∑ e : Fin 64, term x rw' idx W t f e

variable (V : Dev nD → Ins Ideal) (hx : ∀ c, (V c).x = x) (hr : ∀ c, (V c).rw = rw') (hi : ∀ c, (V c).idx = idx) (hs : ∀ c, (V c).sw = sw)
  (hW : ∀ c k d f, (V c).ew (ix3 k d f) = W (ex c k) d f) (hp : ∀ t e, 0 ≤ soft (score x rw' t) e ∧ soft (score x rw' t) e ≠ ⊤)

include hx hr hi hW hp in
theorem accBase_apply (c : Dev nD) (a : Fin 16) (h : Fin 2) (r : Fin 128) (l : Fin 512) :
    accBase V c a h (ix2 r l) = ∑ k : Fin 4, term x rw' idx W (tok a r) (col h l) (ex c k) := by
  unfold accBase
  rw [base_apply]
  refine Finset.sum_congr rfl fun k _ => ?_
  simp only [rowsX_apply, rowsI_apply, rowsQ_apply, colsE_apply, word_ex, prob, prob_apply, hx, hr, hi, hW]
  rw [sum_pick]
  exact sum_gate _ _ (hp _ _).1 (hp _ _).2 _ _

include hx hr hi hs hW hp in
theorem accVal_apply (c : Dev nD) (a : Fin 16) (h : Fin 2) (r : Fin 128) (l : Fin 512) :
    accVal V c a h (ix2 r l) = (∑ k : Fin 4, term x rw' idx W (tok a r) (col h l) (ex c k)) + if c = 0 then ∑ d : Fin 512, x (ix2 (tok a r) d) * sw (ix2 d (col h l)) else 0 := by
  have hb := accBase_apply x rw' idx W V hx hr hi hW hp c a h r l
  unfold accVal
  split
  · rw [pay10_apply, hb]
    simp only [rowsX_apply, colsS_apply, hx, hs]
  · rw [hb, add_zero]

include hx hr hi hs hW hp in
/-- The kernel's result is the whole. -/
theorem outArr_apply (t : Fin 2048) (f : Fin 1024) : outArr V (ix2 t f) = whole x rw' idx W sw t f := by
  obtain ⟨a, h, r, l, rfl, rfl⟩ : ∃ (a : Fin 16) (h : Fin 2) (r : Fin 128) (l : Fin 512), t = tok a r ∧ f = col h l :=
    ⟨⟨t.val / 128, by omega⟩, ⟨f.val / 512, by omega⟩, ⟨t.val % 128, by omega⟩, ⟨f.val % 512, by omega⟩,
      Fin.ext (by show t.val = 128 * (t.val / 128) + t.val % 128; omega), Fin.ext (by show f.val = 512 * (f.val / 512) + f.val % 512; omega)⟩
  have h1 : outArr V (ix2 (tok a r) (col h l)) = outVal V a h (ix2 r l) := by
    rw [← piece_at]; exact gather_emb (outVal V) a h (ix2 r l)
  have h2 : outVal V a h (ix2 r l) = agVal V a h (ix2 r l) := pay294_apply (agVal V a h) (ix2 r l)
  rw [h1, h2, agVal_apply]
  simp only [accVal_apply x rw' idx W sw V hx hr hi hs hW hp]
  rw [Finset.sum_add_distrib, Finset.sum_ite_eq' Finset.univ (0 : Dev nD), if_pos (Finset.mem_univ _)]
  unfold whole
  rw [add_comm]
  congr 1
  refine Eq.trans ?_ (sum_split 16 4 (term x rw' idx W (tok a r) (col h l))).symm
  refine Finset.sum_congr rfl fun c _ => Finset.sum_congr rfl fun k _ => ?_
  exact congrArg _ (Fin.ext (Nat.add_comm _ _))

end Whole

end Cert.KProof

end
-- ==== Proof.RefRead.lean ====
/-
  The reference's operations at an index, over the extended reals.
-/
module

public import proofs.«01_k».proof.Proof.Totals
public import proofs.«01_k».proof.Proof.Gen.ReferenceIdeal.Run

@[expose] public section

noncomputable section

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

namespace Ref

open Cert.ReferenceIdeal Cert.ReferenceIdeal.Gen
open Idealize.ShloMosaic

set_option maxRecDepth 16384

variable (x : FVec Ideal S2048x512 .f32) (w : FVec Ideal S512x64 .f32) (idx : IVec S2048x1 32) (ew : FVec Ideal S64x512x1024 .f32) (sw : FVec Ideal S512x1024 .f32)

/-- The reference's scores, -/
def scores : FVec Ideal S2048x64 .f32 := Host.dotGeneral dot_S2048x512_S512x64_S2048x64_1_0_0_1_n_n none x w
/-- their exponentials over the largest of each row, -/
def exps : FVec Ideal S2048x64 .f32 :=
  Host.exp (subf (scores x w) (broadcastInDim S2048x64 ![0, 1] bcast_S2048x1_S2048x64_0_1 (broadcastInDim S2048x1 ![0] bcast_S2048_S2048x1_0
    (Host.reduce FloatOps.maximumf (scores x w) (constant S_ .f32 0xFF800000#32) reducesTo_S2048x64_S2048_d1 h_S_))))
/-- the probabilities, -/
def probs : FVec Ideal S2048x64 .f32 :=
  Host.divf (exps x w) (broadcastInDim S2048x64 ![0, 1] bcast_S2048x1_S2048x64_0_1 (broadcastInDim S2048x1 ![0] bcast_S2048_S2048x1_0
    (Host.reduceAdd (exps x w) (constant S_ .f32 0x00000000#32) reducesTo_S2048x64_S2048_d1 h_S_)))
/-- which experts a token is routed to, -/
def chosen : IVec S2048x64 1 :=
  cmpi .eq (broadcastInDim S2048x64 ![0, 1] bcast_S2048x1_S2048x64_0_1 idx) (broadcastInDim S2048x64 ![0, 1] bcast_S1x64_S2048x64_0_1 (broadcastInDim S1x64 ![1] bcast_S64_S1x64_1 (iotaInDim S64 32 0)))
/-- the weighted products of the chosen experts, -/
def parts : FVec Ideal S2048x64x1024 .f32 :=
  select (broadcastInDim S2048x64x1024 ![0, 1, 2] bcast_S2048x64x1_S2048x64x1024_0_1_2 (broadcastInDim S2048x64x1 ![0, 1] bcast_S2048x64_S2048x64x1_0_1 (chosen idx)))
    (mulf (broadcastInDim S2048x64x1024 ![0, 1, 2] bcast_S2048x64x1_S2048x64x1024_0_1_2 (broadcastInDim S2048x64x1 ![0, 1] bcast_S2048x64_S2048x64x1_0_1 (probs x w)))
      (Host.dotGeneral dot_S2048x512_S64x512x1024_S2048x64x1024_1_1_0_02_n_n none x ew))
    (broadcastInDim S2048x64x1024 ![] bcast_S_S2048x64x1024 (constant (F := Ideal) S_ .f32 0x00000000#32))
/-- and the result. -/
def out : FVec Ideal S2048x1024 .f32 :=
  addf (Host.dotGeneral dot_S2048x512_S512x1024_S2048x1024_1_0_0_1_n_n none x sw)
    (Host.reduceAdd (parts x w idx ew) (constant S_ .f32 0x00000000#32) reducesTo_S2048x64x1024_S2048x1024_d1 h_S_)

theorem probs_apply (t : Fin 2048) (e : Fin 64) : probs x w (ix2 t e) = soft (score x w t) e := by
  pointwise [probs, exps, scores]
  rfl

theorem parts_apply (t : Fin 2048) (e : Fin 64) (f : Fin 1024) :
    parts x w idx ew (ix3 t e f) = term x w idx (fun e d f => ew (ix3 e d f)) t f e := by
  have h := probs_apply x w t e
  pointwise [parts, chosen]
  rw [select_eq, h]
  rfl

/-- The reference's result is the whole. -/
theorem out_apply (t : Fin 2048) (f : Fin 1024) : out x w idx ew sw (ix2 t f) = whole x w idx (fun e d f => ew (ix3 e d f)) sw t f := by
  have h := fun e => parts_apply x w idx ew t e f
  pointwise [out]
  simp only [h]
  rfl

end Ref

end Cert.KProof

end
-- ==== Proof.Algebraic.lean ====
/-
  The value claim: from agreeing arrays the kernel's sixteen results are the reference's one.
-/
module

public import proofs.«01_k».proof.Proof.RefRead
public import proofs.«01_k».proof.Proof.Frames
public import Idealize.ShloMosaic.Lib.Layout

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## The arrays as the windows see them -/

section Reads
variable (m : (ℓ : Loc nD τ sig) → Buf (Elt F) ℓ) (ρ : Dev nD → PrngReg) (c : Dev nD)

theorem ins_x : (ins m c).x = m ((c : Thread nD τ).loc main_arg0) := by
  have h : (win0_0.blk t0_0).view.read (Elt F) (m ((c : Thread nD τ).loc main_arg0)) = m ((c : Thread nD τ).loc main_arg0) :=
    Memref.read_access_unit_zero (Elt F) main_arg0 (off := fun a => win0_0.index t0_0 a * main_arg0.ty.shape.size a) (funext fun a => by fin_cases a <;> decide) _ _
  exact h
theorem ins_rw : (ins m c).rw = m ((c : Thread nD τ).loc main_arg1) := by
  have h : (win0_1.blk t0_0).view.read (Elt F) (m ((c : Thread nD τ).loc main_arg1)) = m ((c : Thread nD τ).loc main_arg1) :=
    Memref.read_access_unit_zero (Elt F) main_arg1 (off := fun a => win0_1.index t0_0 a * main_arg1.ty.shape.size a) (funext fun a => by fin_cases a <;> decide) _ _
  exact h
theorem ins_idx : (ins m c).idx = m ((c : Thread nD τ).loc main_arg2) := by
  have h : (win0_2.blk t0_0).view.read (Elt F) (m ((c : Thread nD τ).loc main_arg2)) = m ((c : Thread nD τ).loc main_arg2) :=
    Memref.read_access_unit_zero (Elt F) main_arg2 (off := fun a => win0_2.index t0_0 a * main_arg2.ty.shape.size a) (funext fun a => by fin_cases a <;> decide) _ _
  exact h
theorem ins_ew : (ins m c).ew = m ((c : Thread nD τ).loc main_arg3) := by
  have h : (win0_3.blk t0_0).view.read (Elt F) (m ((c : Thread nD τ).loc main_arg3)) = m ((c : Thread nD τ).loc main_arg3) :=
    Memref.read_access_unit_zero (Elt F) main_arg3 (off := fun a => win0_3.index t0_0 a * main_arg3.ty.shape.size a) (funext fun a => by fin_cases a <;> decide) _ _
  exact h
theorem ins_sw : (ins m c).sw = m ((c : Thread nD τ).loc main_arg4) := by
  have h : (win0_4.blk t0_0).view.read (Elt F) (m ((c : Thread nD τ).loc main_arg4)) = m ((c : Thread nD τ).loc main_arg4) :=
    Memref.read_access_unit_zero (Elt F) main_arg4 (off := fun a => win0_4.index t0_0 a * main_arg4.ty.shape.size a) (funext fun a => by fin_cases a <;> decide) _ _
  exact h

theorem flushed_out (t : Fin cfg0.N) : (dats m ρ 0 c).flushed 5 t = ((cfg0.win 5).blk t).view.read (Elt F) (outArr (ins m)) := by
  obtain rfl := fin_N0 t
  have ha : (dats m ρ 0 c).after 5 t0_0 = outArr (ins m) := rfl
  unfold Pipeline.Dat.flushed
  rw [ha]
  have hr : ((cfg0.win 5).blk t0_0).view.read (Elt F) (outArr (ins m)) = outArr (ins m) :=
    Memref.read_access_unit_zero (Elt F) main_v1 (off := fun a => win0_5.index t0_0 a * main_v1.ty.shape.size a) (funext fun a => by fin_cases a <;> decide) _ _
  rw [hr]
  rfl

theorem mem_out (t : Fin cfg0.N) (i : S2048x1024.Idx) : i ∈ ((cfg0.win 5).blk t).view.set := by
  show i ∈ ((View.whole main_v1).slice (win0_5.rect t)).set
  rw [View.set_slice_whole, Rect.mem_set_unit]
  have e : ∀ a : Fin 2, win0_5.index t a * win0_5.size a = 0 ∧ win0_5.xsize (grid0.coords t) a = S2048x1024.size a := by
    rcases fin_N0 t with rfl; decide +kernel
  intro a
  show win0_5.index t a * win0_5.size a ≤ (i a : Nat) ∧ (i a : Nat) < win0_5.index t a * win0_5.size a + win0_5.xsize (grid0.coords t) a
  rw [(e a).1, (e a).2, Nat.zero_add]
  exact ⟨Nat.zero_le _, (i a).isLt⟩

/-- The result array ends holding the gathered totals. -/
theorem finalA_out : finalA m ρ c (5 : Fin 6) = outArr (ins m) :=
  (dats m ρ 0 c).arrAt_eq_of_cover 5 (outArr (ins m)) (fun t _ => flushed_out m ρ c t) (fun i => ⟨t0_0, flush0_5 _, mem_out t0_0 i⟩)

end Reads

/-! ## The precondition -/

theorem facts_pre : Cert.Pre_finite_KernelIdeal.Facts := ⟨by decide, by decide⟩
theorem facts_pre_ref : Cert.Pre_finite_ReferenceIdeal.Facts := ⟨by decide, by decide⟩

instance : Cert.Pre_finite_KernelIdeal.Facts := facts_pre
instance : Cert.Pre_finite_ReferenceIdeal.Facts := facts_pre_ref

theorem re_of_cmp {a : EReal} (h : Ideal.cmp .olt (max a (-a)) (Ideal.ofBits .f32 0x7F800000#32) = 1#1) : Re a := by
  rw [pos_inf] at h
  refine re_of_abs ?_
  by_contra hn
  simp [Ideal.cmp, hn] at h

theorem pre_re (x : Vec Ideal S2048x512 .f32) (w : Vec Ideal S512x64 .f32) (idx ew sw)
    (h : (Cert.Pre_finite_KernelIdeal.fn (F := Ideal) x w idx ew sw).1 = (fun _ => 1#1) ∧ (Cert.Pre_finite_KernelIdeal.fn (F := Ideal) x w idx ew sw).2 = (fun _ => 1#1)) :
    (∀ i, Re (x i)) ∧ ∀ i, Re (w i) :=
  ⟨fun i => re_of_cmp (congrFun h.1 i), fun i => re_of_cmp (congrFun h.2 i)⟩

/-! ## The value claim -/

theorem tiles : Layout.Tiles S4x512x1024 Cert.ReferenceIdeal.S64x512x1024 0 16 := by decide

theorem block_at (c : Fin 16) (W : Vec Ideal Cert.ReferenceIdeal.S64x512x1024 .f32) (k : Fin 4) (d : Fin 512) (f : Fin 1024) :
    Layout.block S4x512x1024 Cert.ReferenceIdeal.S64x512x1024 0 16 c W tiles (ix3 k d f) = W (ix3 (ex c k) d f) := by
  rw [Layout.block_apply]
  refine congrArg W (funext fun b => Fin.ext ?_)
  rw [Layout.Tiles.idx_val]
  fin_cases b
  · show c.val * 4 + k.val = 4 * c.val + k.val
    omega
  · rfl
  · rfl

/-- From the arrays the devices hold, each the reference's own, the kernel's result is the reference's. -/
theorem value (V : Dev nD → Ins Ideal) (x : Vec Ideal S2048x512 .f32) (w : Vec Ideal S512x64 .f32) (idx : Vec Ideal S2048x1 .i32)
    (W : Vec Ideal Cert.ReferenceIdeal.S64x512x1024 .f32) (sw : Vec Ideal S512x1024 .f32)
    (hx : ∀ c, (V c).x = x) (hr : ∀ c, (V c).rw = w) (hi : ∀ c, (V c).idx = idx) (hs : ∀ c, (V c).sw = sw)
    (hW : ∀ c, (V c).ew = Layout.block S4x512x1024 Cert.ReferenceIdeal.S64x512x1024 0 16 c W tiles)
    (hf : (∀ i, Re (x i)) ∧ ∀ i, Re (w i)) : outArr V = Ref.out x w idx W sw := by
  funext i
  obtain ⟨t, f, rfl⟩ : ∃ (t : Fin 2048) (f : Fin 1024), i = ix2 t f := ⟨i 0, i 1, funext fun a => by fin_cases a <;> rfl⟩
  refine (outArr_apply x w idx (fun e d f => W (ix3 e d f)) sw V hx hr hi hs (fun c k d f => ?_) (fun t e => ?_) t f).trans (Ref.out_apply x w idx W sw t f).symm
  · rw [hW]; exact block_at c W k d f
  · exact soft_re _ (fun e => Re.sum _ _ fun d => (hf.1 _).mul (hf.2 _)) e

theorem algebraic : Cert.algebraic_KernelIdeal_ReferenceIdeal_pre_finite_KernelIdeal := by
  intro m ρ m' ρ' hpre hag
  have hv := value (ins m) _ _ _ _ _ (fun c => (ins_x m c).trans (hag c).1) (fun c => (ins_rw m c).trans (hag c).2.1) (fun c => (ins_idx m c).trans (hag c).2.2.1)
    (fun c => (ins_sw m c).trans (hag c).2.2.2.2) (fun c => (ins_ew m c).trans (hag c).2.2.2.1)
    (by
      have h := pre_re _ _ _ _ _ (hpre (0 : Fin 16))
      rw [← (hag (0 : Fin 16)).1, ← (hag (0 : Fin 16)).2.1]
      exact h)
  refine ⟨_, ?_, (θ_run Cert.ReferenceIdeal.defs _ _).mono (fun _ h => h 0) (Cert.ReferenceIdeal.Value.run (F := Ideal) m' ρ')⟩
  refine (θ_run Cert.KernelIdeal.defs _ _).mono (fun r h c => ?_) (run_main (F := Ideal) m ρ)
  have e := finalA_arg m ρ c
  exact ⟨((h.1 c (5 : Fin 6)).trans (finalA_out m ρ c)).trans hv, (h.1 c (0 : Fin 6)).trans e.1, (h.1 c (1 : Fin 6)).trans e.2.1, (h.1 c (2 : Fin 6)).trans e.2.2.1,
      (h.1 c (3 : Fin 6)).trans e.2.2.2.1, (h.1 c (4 : Fin 6)).trans e.2.2.2.2⟩

/-! ## The frames under the precondition -/

theorem frame_kernelIdeal_pre : Cert.quiescent_KernelIdeal_pre_finite_KernelIdeal := fun m ρ _ => frame_any (F := Ideal) m ρ

theorem frame_referenceIdeal_pre : Cert.quiescent_ReferenceIdeal_pre_finite_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.KProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The frames, those under the precondition included, the identity of the two texts, and the value claim. -/
theorem claim : Cert.Claim := ⟨Cert.Kernel.Gen.facts, Cert.KernelIdeal.Gen.facts, Cert.ReferenceIdeal.Gen.facts,
  Cert.KProof.facts_pre, Cert.KProof.facts_pre_ref,
  Cert.KProof.frame_kernel, Cert.KProof.frame_kernelIdeal, Cert.KProof.frame_kernelIdeal_pre,
  Cert.KProof.frame_referenceIdeal, Cert.KProof.frame_referenceIdeal_pre, trivial, Cert.KProof.algebraic⟩

end Cert.Proof

end
